-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_experts_named : Cert.Pre_experts_named.Facts] (m : (ℓ : Loc Cert.Kernel3.nD Cert.Kernel3.τ Cert.Kernel3.sig) → Buf (Elt Bits) ℓ) : Prop :=
  ∀ c : Dev Cert.Kernel3.nD,
    (Cert.Pre_experts_named.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))) = (fun _ => 1#1)

def Pre_Kernel3Ideal [hPre_experts_named : Cert.Pre_experts_named.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_experts_named.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_experts_named [hPre_experts_named : Cert.Pre_experts_named.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_experts_named.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] [hPre_experts_named : Cert.Pre_experts_named.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] [hPre_experts_named : Cert.Pre_experts_named.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_experts_named [hReference3Ideal : Cert.Reference3Ideal.Facts] [hPre_experts_named : Cert.Pre_experts_named.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_experts_named m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)) (v2 : (c : Dev Cert.Kernel2Ideal.nD) → Buf (Elt Ideal) ((c.tc : Thread Cert.Kernel2Ideal.nD Cert.Kernel2Ideal.τ).loc Cert.Kernel2Ideal.main_v2_2)) (v3 : (c : Dev Cert.Kernel2Ideal.nD) → Buf (Elt Ideal) ((c.tc : Thread Cert.Kernel2Ideal.nD Cert.Kernel2Ideal.τ).loc Cert.Kernel2Ideal.main_v2_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_v2_2) = v2 c
          ∧ r.2.mem ((c.tc : Thread Cert.Kernel2Ideal.nD Cert.Kernel2Ideal.τ).loc Cert.Kernel2Ideal.main_v2_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_v21) = v1 c
          ∧ r.2.mem ((c.tc : Thread Cert.Reference2Ideal.nD Cert.Reference2Ideal.τ).loc Cert.Reference2Ideal.main_v22) = v2 c
          ∧ r.2.mem ((c.tc : Thread Cert.Reference2Ideal.nD Cert.Reference2Ideal.τ).loc Cert.Reference2Ideal.main_v26) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] [hPre_experts_named : Cert.Pre_experts_named.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v9_0)) (v1 : (c : Dev Cert.Kernel4Ideal.nD) → Buf (Elt Ideal) ((c.tc : Thread Cert.Kernel4Ideal.nD Cert.Kernel4Ideal.τ).loc Cert.Kernel4Ideal.main_v9_1)) (v2 : (c : Dev Cert.Kernel4Ideal.nD) → Buf (Elt Ideal) ((c.tc : Thread Cert.Kernel4Ideal.nD Cert.Kernel4Ideal.τ).loc Cert.Kernel4Ideal.main_v9_2)) (v3 : (c : Dev Cert.Kernel4Ideal.nD) → Buf (Elt Ideal) ((c.tc : Thread Cert.Kernel4Ideal.nD Cert.Kernel4Ideal.τ).loc Cert.Kernel4Ideal.main_v9_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9_0) = v0 c
          ∧ r.2.mem ((c.tc : Thread Cert.Kernel4Ideal.nD Cert.Kernel4Ideal.τ).loc Cert.Kernel4Ideal.main_v9_1) = v1 c
          ∧ r.2.mem ((c.tc : Thread Cert.Kernel4Ideal.nD Cert.Kernel4Ideal.τ).loc Cert.Kernel4Ideal.main_v9_2) = v2 c
          ∧ r.2.mem ((c.tc : Thread Cert.Kernel4Ideal.nD Cert.Kernel4Ideal.τ).loc Cert.Kernel4Ideal.main_v9_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v29) = v0 c
          ∧ r.2.mem ((c.tc : Thread Cert.Reference4Ideal.nD Cert.Reference4Ideal.τ).loc Cert.Reference4Ideal.main_v30) = v1 c
          ∧ r.2.mem ((c.tc : Thread Cert.Reference4Ideal.nD Cert.Reference4Ideal.τ).loc Cert.Reference4Ideal.main_v31) = v2 c
          ∧ r.2.mem ((c.tc : Thread Cert.Reference4Ideal.nD Cert.Reference4Ideal.τ).loc Cert.Reference4Ideal.main_v32) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)) →
    ∃ (v0 : (c : Dev Cert.Kernel5Ideal.nD) → Buf (Elt Ideal) ((c.tc : Thread Cert.Kernel5Ideal.nD Cert.Kernel5Ideal.τ).loc Cert.Kernel5Ideal.main_v57_0)) (v1 : (c : Dev Cert.Kernel5Ideal.nD) → Buf (Elt Ideal) ((c.tc : Thread Cert.Kernel5Ideal.nD Cert.Kernel5Ideal.τ).loc Cert.Kernel5Ideal.main_v57_1)) (v2 : (c : Dev Cert.Kernel5Ideal.nD) → Buf (Elt Ideal) ((c.tc : Thread Cert.Kernel5Ideal.nD Cert.Kernel5Ideal.τ).loc Cert.Kernel5Ideal.main_v57_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v57_0) = v0 c
          ∧ r.2.mem ((c.tc : Thread Cert.Kernel5Ideal.nD Cert.Kernel5Ideal.τ).loc Cert.Kernel5Ideal.main_v57_1) = v1 c
          ∧ r.2.mem ((c.tc : Thread Cert.Kernel5Ideal.nD Cert.Kernel5Ideal.τ).loc Cert.Kernel5Ideal.main_v57_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v177) = v0 c
          ∧ r.2.mem ((c.tc : Thread Cert.Reference5Ideal.nD Cert.Reference5Ideal.τ).loc Cert.Reference5Ideal.main_v178) = v1 c
          ∧ r.2.mem ((c.tc : Thread Cert.Reference5Ideal.nD Cert.Reference5Ideal.τ).loc Cert.Reference5Ideal.main_v179) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_experts_named : Cert.Pre_experts_named.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_experts_named := hPre_experts_named)
    ∧ quiescent_Kernel3Ideal (hKernel3Ideal := hKernel3Ideal) (hPre_experts_named := hPre_experts_named)
    ∧ quiescent_Reference3Ideal (hReference3Ideal := hReference3Ideal)
    ∧ quiescent_Reference3Ideal_pre_experts_named (hReference3Ideal := hReference3Ideal) (hPre_experts_named := hPre_experts_named)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_experts_named := hPre_experts_named)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_experts_named.lean ====
abbrev S8x148480x128 : Shape := ⟨3, ![8, 148480, 128]⟩
abbrev S290 : Shape := ⟨1, ![290]⟩
abbrev S1 : Shape := ⟨1, ![1]⟩
abbrev S32x1024x512 : Shape := ⟨3, ![32, 1024, 512]⟩
abbrev S32x512x1024 : Shape := ⟨3, ![32, 512, 1024]⟩
abbrev S_ : Shape := ⟨0, ![]⟩

class Facts : Prop where
  bcast_S_S290 : S_.BroadcastsInDim S290 (![] : Fin 0 → Fin S290.rank)

variable [Facts]

def fn {F : FTy → Type} [FloatOps F] (main_arg0 : FVec F S8x148480x128 .bf16) (main_arg1 : IVec S290 32) (main_arg2 : IVec S1 32) (main_arg3 : FVec F S32x1024x512 .f32) (main_arg4 : FVec F S32x1024x512 .f32) (main_arg5 : FVec F S32x512x1024 .f32) : IVec S290 1 :=
  let main_c : IVec S_ 32 := constantI S_ 32 0#32
  let main_v0 : IVec S290 32 := broadcastInDim S290 ![] bcast_S_S290 main_c
  let main_v1 : IVec S290 1 := cmpi .sge main_arg1 main_v0
  let main_c_0 : IVec S_ 32 := constantI S_ 32 32#32
  let main_v2 : IVec S290 32 := broadcastInDim S290 ![] bcast_S_S290 main_c_0
  let main_v3 : IVec S290 1 := cmpi .slt main_arg1 main_v2
  let main_v4 : IVec S290 1 := andi main_v1 main_v3
  main_v4
-- ==== Pre_finite.lean ====
abbrev S128x4x512 : Shape := ⟨3, ![128, 4, 512]⟩
abbrev S128x2048x8x64 : Shape := ⟨4, ![128, 2048, 8, 64]⟩
abbrev S_ : Shape := ⟨0, ![]⟩

class Facts : Prop where
  bcast_S_S128x4x512 : S_.BroadcastsInDim S128x4x512 (![] : Fin 0 → Fin S128x4x512.rank)
  reducesTo_S128x4x512_S_d0_1_2 : S128x4x512.ReducesTo [0, 1, 2] S_
  h_S_ : 0 < S_.numel
  bcast_S_S128x2048x8x64 : S_.BroadcastsInDim S128x2048x8x64 (![] : Fin 0 → Fin S128x2048x8x64.rank)
  reducesTo_S128x2048x8x64_S_d0_1_2_3 : S128x2048x8x64.ReducesTo [0, 1, 2, 3] S_

variable [Facts]

def fn {F : FTy → Type} [FloatOps F] (main_arg0 : FVec F S128x4x512 .f32) (main_arg1 : FVec F S128x4x512 .f32) (main_arg2 : FVec F S128x4x512 .f32) (main_arg3 : FVec F S128x2048x8x64 .f32) (main_arg4 : FVec F S128x2048x8x64 .f32) : IVec S_ 1 :=
  let main_v0 : FVec F S128x4x512 .f32 := Host.absf main_arg0
  let main_cst : FVec F S_ .f32 := constant S_ .f32 0x7F800000#32
  let main_v1 : FVec F S128x4x512 .f32 := broadcastInDim S128x4x512 ![] bcast_S_S128x4x512 main_cst
  let main_v2 : IVec S128x4x512 1 := cmpf .olt main_v0 main_v1
  let main_c : IVec S_ 1 := constantI S_ 1 1#1
  let main_v3 : IVec S_ 1 := (fun x v => Host.reduce IntOp.andi x v reducesTo_S128x4x512_S_d0_1_2 h_S_) main_v2 main_c
  let main_v4 : FVec F S128x4x512 .f32 := Host.absf main_arg1
  let main_cst_0 : FVec F S_ .f32 := constant S_ .f32 0x7F800000#32
  let main_v5 : FVec F S128x4x512 .f32 := broadcastInDim S128x4x512 ![] bcast_S_S128x4x512 main_cst_0
  let main_v6 : IVec S128x4x512 1 := cmpf .olt main_v4 main_v5
  let main_c_1 : IVec S_ 1 := constantI S_ 1 1#1
  let main_v7 : IVec S_ 1 := (fun x v => Host.reduce IntOp.andi x v reducesTo_S128x4x512_S_d0_1_2 h_S_) main_v6 main_c_1
  let main_v8 : IVec S_ 1 := andi main_v3 main_v7
  let main_v9 : FVec F S128x2048x8x64 .f32 := Host.absf main_arg3
  let main_cst_2 : FVec F S_ .f32 := constant S_ .f32 0x7F800000#32
  let main_v10 : FVec F S128x2048x8x64 .f32 := broadcastInDim S128x2048x8x64 ![] bcast_S_S128x2048x8x64 main_cst_2
  let main_v11 : IVec S128x2048x8x64 1 := cmpf .olt main_v9 main_v10
  let main_c_3 : IVec S_ 1 := constantI S_ 1 1#1
  let main_v12 : IVec S_ 1 := (fun x v => Host.reduce IntOp.andi x v reducesTo_S128x2048x8x64_S_d0_1_2_3 h_S_) main_v11 main_c_3
  let main_v13 : IVec S_ 1 := andi main_v8 main_v12
  main_v13
-- ==== Kernel.lean ====
abbrev S128x4x512 : Shape := ⟨3, ![128, 4, 512]⟩
abbrev S128x2048x8x64 : Shape := ⟨4, ![128, 2048, 8, 64]⟩
abbrev S4x2176 : Shape := ⟨2, ![4, 2176]⟩
abbrev S_ : Shape := ⟨0, ![]⟩
abbrev S4x8x2176 : Shape := ⟨3, ![4, 8, 2176]⟩
abbrev S32x2176 : Shape := ⟨2, ![32, 2176]⟩
abbrev S32x2048 : Shape := ⟨2, ![32, 2048]⟩
abbrev S32x128 : Shape := ⟨2, ![32, 128]⟩
abbrev S128x8x64x2048 : Shape := ⟨4, ![128, 8, 64, 2048]⟩
abbrev S128x512x2048 : Shape := ⟨3, ![128, 512, 2048]⟩
abbrev S1x4x512 : Shape := ⟨3, ![1, 4, 512]⟩
abbrev S1x512x2048 : Shape := ⟨3, ![1, 512, 2048]⟩
abbrev S32x512 : Shape := ⟨2, ![32, 512]⟩
abbrev S4x512 : Shape := ⟨2, ![4, 512]⟩
abbrev S1x512 : Shape := ⟨2, ![1, 512]⟩
abbrev S8x512 : Shape := ⟨2, ![8, 512]⟩
abbrev S124x512 : Shape := ⟨2, ![124, 512]⟩
abbrev S128x512 : Shape := ⟨2, ![128, 512]⟩
abbrev S512x2048 : Shape := ⟨2, ![512, 2048]⟩
abbrev S32 : Shape := ⟨1, ![32]⟩
abbrev S32x1 : Shape := ⟨2, ![32, 1]⟩
abbrev S512 : Shape := ⟨1, ![512]⟩

abbrev nBuf : Space → Nat
  | .hbm => 82
  | .vmem => 14
  | .smem => 0
  | _ => 0

abbrev bufTy : (tb : Table) → Fin (tcTables nBuf tb) → BufTy
  | .hbm, ⟨0, _⟩ => ⟨S128x4x512, .f32⟩
  | .hbm, ⟨1, _⟩ => ⟨S128x4x512, .f32⟩
  | .hbm, ⟨2, _⟩ => ⟨S128x4x512, .f32⟩
  | .hbm, ⟨3, _⟩ => ⟨S128x2048x8x64, .f32⟩
  | .hbm, ⟨4, _⟩ => ⟨S128x2048x8x64, .f32⟩
  | .hbm, ⟨5, _⟩ => ⟨S4x2176, .i32⟩
  | .hbm, ⟨6, _⟩ => ⟨S_, .i32⟩
  | .hbm, ⟨7, _⟩ => ⟨S4x2176, .i32⟩
  | .hbm, ⟨8, _⟩ => ⟨S4x2176, .i32⟩
  | .hbm, ⟨9, _⟩ => ⟨S4x2176, .i32⟩
  | .hbm, ⟨10, _⟩ => ⟨S4x2176, .i32⟩
  | .hbm, ⟨11, _⟩ => ⟨S_, .i32⟩
  | .hbm, ⟨12, _⟩ => ⟨S4x2176, .i32⟩
  | .hbm, ⟨13, _⟩ => ⟨S_, .i32⟩
  | .hbm, ⟨14, _⟩ => ⟨S4x2176, .i32⟩
  | .hbm, ⟨15, _⟩ => ⟨S4x2176, .i1⟩
  | .hbm, ⟨16, _⟩ => ⟨S_, .i32⟩
  | .hbm, ⟨17, _⟩ => ⟨S4x2176, .i32⟩
  | .hbm, ⟨18, _⟩ => ⟨S4x2176, .i32⟩
  | .hbm, ⟨19, _⟩ => ⟨S_, .i32⟩
  | .hbm, ⟨20, _⟩ => ⟨S4x2176, .i32⟩
  | .hbm, ⟨21, _⟩ => ⟨S4x2176, .i1⟩
  | .hbm, ⟨22, _⟩ => ⟨S4x2176, .i1⟩
  | .hbm, ⟨23, _⟩ => ⟨S_, .i32⟩
  | .hbm, ⟨24, _⟩ => ⟨S4x2176, .i32⟩
  | .hbm, ⟨25, _⟩ => ⟨S4x2176, .i1⟩
  | .hbm, ⟨26, _⟩ => ⟨S4x2176, .i1⟩
  | .hbm, ⟨27, _⟩ => ⟨S4x2176, .i32⟩
  | .hbm, ⟨28, _⟩ => ⟨S4x2176, .i32⟩
  | .hbm, ⟨29, _⟩ => ⟨S_, .i32⟩
  | .hbm, ⟨30, _⟩ => ⟨S4x2176, .i32⟩
  | .hbm, ⟨31, _⟩ => ⟨S4x2176, .i1⟩
  | .hbm, ⟨32, _⟩ => ⟨S_, .i32⟩
  | .hbm, ⟨33, _⟩ => ⟨S4x2176, .i32⟩
  | .hbm, ⟨34, _⟩ => ⟨S4x2176, .i32⟩
  | .hbm, ⟨35, _⟩ => ⟨S_, .i32⟩
  | .hbm, ⟨36, _⟩ => ⟨S4x2176, .i32⟩
  | .hbm, ⟨37, _⟩ => ⟨S4x2176, .i1⟩
  | .hbm, ⟨38, _⟩ => ⟨S4x2176, .i1⟩
  | .hbm, ⟨39, _⟩ => ⟨S_, .i32⟩
  | .hbm, ⟨40, _⟩ => ⟨S4x2176, .i32⟩
  | .hbm, ⟨41, _⟩ => ⟨S4x2176, .i1⟩
  | .hbm, ⟨42, _⟩ => ⟨S4x2176, .i1⟩
  | .hbm, ⟨43, _⟩ => ⟨S4x2176, .i32⟩
  | .hbm, ⟨44, _⟩ => ⟨S4x2176, .i32⟩
  | .hbm, ⟨45, _⟩ => ⟨S_, .i32⟩
  | .hbm, ⟨46, _⟩ => ⟨S4x2176, .i32⟩
  | .hbm, ⟨47, _⟩ => ⟨S4x2176, .i1⟩
  | .hbm, ⟨48, _⟩ => ⟨S_, .i32⟩
  | .hbm, ⟨49, _⟩ => ⟨S4x2176, .i32⟩
  | .hbm, ⟨50, _⟩ => ⟨S4x2176, .i32⟩
  | .hbm, ⟨51, _⟩ => ⟨S_, .i32⟩
  | .hbm, ⟨52, _⟩ => ⟨S4x2176, .i32⟩
  | .hbm, ⟨53, _⟩ => ⟨S4x2176, .i1⟩
  | .hbm, ⟨54, _⟩ => ⟨S4x2176, .i1⟩
  | .hbm, ⟨55, _⟩ => ⟨S_, .i32⟩
  | .hbm, ⟨56, _⟩ => ⟨S4x2176, .i32⟩
  | .hbm, ⟨57, _⟩ => ⟨S4x2176, .i1⟩
  | .hbm, ⟨58, _⟩ => ⟨S4x2176, .i1⟩
  | .hbm, ⟨59, _⟩ => ⟨S4x2176, .i32⟩
  | .hbm, ⟨60, _⟩ => ⟨S4x2176, .i32⟩
  | .hbm, ⟨61, _⟩ => ⟨S_, .i32⟩
  | .hbm, ⟨62, _⟩ => ⟨S4x2176, .i32⟩
  | .hbm, ⟨63, _⟩ => ⟨S4x2176, .i1⟩
  | .hbm, ⟨64, _⟩ => ⟨S_, .i32⟩
  | .hbm, ⟨65, _⟩ => ⟨S4x2176, .i32⟩
  | .hbm, ⟨66, _⟩ => ⟨S4x2176, .i32⟩
  | .hbm, ⟨67, _⟩ => ⟨S4x2176, .f32⟩
  | .hbm, ⟨68, _⟩ => ⟨S4x2176, .f32⟩
  | .hbm, ⟨69, _⟩ => ⟨S_, .f32⟩
  | .hbm, ⟨70, _⟩ => ⟨S_, .f32⟩
  | .hbm, ⟨71, _⟩ => ⟨S4x2176, .f32⟩
  | .hbm, ⟨72, _⟩ => ⟨S4x2176, .f32⟩
  | .hbm, ⟨73, _⟩ => ⟨S4x8x2176, .f32⟩
  | .hbm, ⟨74, _⟩ => ⟨S32x2176, .f32⟩
  | .hbm, ⟨75, _⟩ => ⟨S32x2048, .f32⟩
  | .hbm, ⟨76, _⟩ => ⟨S32x128, .f32⟩
  | .hbm, ⟨77, _⟩ => ⟨S128x8x64x2048, .f32⟩
  | .hbm, ⟨78, _⟩ => ⟨S128x512x2048, .f32⟩
  | .hbm, ⟨79, _⟩ => ⟨S128x8x64x2048, .f32⟩
  | .hbm, ⟨80, _⟩ => ⟨S128x512x2048, .f32⟩
  | .hbm, ⟨81, _⟩ => ⟨S128x4x512, .bf16⟩
  | .local _ .vmem, ⟨0, _⟩ => ⟨S1x4x512, .f32⟩
  | .local _ .vmem, ⟨1, _⟩ => ⟨S1x4x512, .f32⟩
  | .local _ .vmem, ⟨2, _⟩ => ⟨S1x4x512, .f32⟩
  | .local _ .vmem, ⟨3, _⟩ => ⟨S1x4x512, .f32⟩
  | .local _ .vmem, ⟨4, _⟩ => ⟨S1x4x512, .f32⟩
  | .local _ .vmem, ⟨5, _⟩ => ⟨S1x4x512, .f32⟩
  | .local _ .vmem, ⟨6, _⟩ => ⟨S1x512x2048, .f32⟩
  | .local _ .vmem, ⟨7, _⟩ => ⟨S1x512x2048, .f32⟩
  | .local _ .vmem, ⟨8, _⟩ => ⟨S1x512x2048, .f32⟩
  | .local _ .vmem, ⟨9, _⟩ => ⟨S1x512x2048, .f32⟩
  | .local _ .vmem, ⟨10, _⟩ => ⟨S32x2048, .f32⟩
  | .local _ .vmem, ⟨11, _⟩ => ⟨S32x128, .f32⟩
  | .local _ .vmem, ⟨12, _⟩ => ⟨S1x4x512, .bf16⟩
  | .local _ .vmem, ⟨13, _⟩ => ⟨S1x4x512, .bf16⟩
  | _, _ => ⟨S128x4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_c_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_5 : Ref sig .tc := ⟨.hbm, 29, rfl⟩
abbrev main_v18 : Ref sig .tc := ⟨.hbm, 30, rfl⟩
abbrev main_v19 : Ref sig .tc := ⟨.hbm, 31, rfl⟩
abbrev main_c_6 : Ref sig .tc := ⟨.hbm, 32, rfl⟩
abbrev main_v20 : Ref sig .tc := ⟨.hbm, 33, rfl⟩
abbrev main_v21 : Ref sig .tc := ⟨.hbm, 34, rfl⟩
abbrev main_c_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_8 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_9 : Ref sig .tc := ⟨.hbm, 45, rfl⟩
abbrev main_v30 : Ref sig .tc := ⟨.hbm, 46, rfl⟩
abbrev main_v31 : Ref sig .tc := ⟨.hbm, 47, rfl⟩
abbrev main_c_10 : Ref sig .tc := ⟨.hbm, 48, rfl⟩
abbrev main_v32 : Ref sig .tc := ⟨.hbm, 49, rfl⟩
abbrev main_v33 : Ref sig .tc := ⟨.hbm, 50, rfl⟩
abbrev main_c_11 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_12 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_13 : Ref sig .tc := ⟨.hbm, 61, rfl⟩
abbrev main_v42 : Ref sig .tc := ⟨.hbm, 62, rfl⟩
abbrev main_v43 : Ref sig .tc := ⟨.hbm, 63, rfl⟩
abbrev main_c_14 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst : Ref sig .tc := ⟨.hbm, 69, rfl⟩
abbrev main_call0_v0 : Ref sig .tc := ⟨.hbm, 70, rfl⟩
abbrev main_call0_v1 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S32x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x4x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S128x4x512 : Shape := ⟨3, ![128, 4, 512]⟩
abbrev S128x2048x8x64 : Shape := ⟨4, ![128, 2048, 8, 64]⟩
abbrev S128x4x8x64 : Shape := ⟨4, ![128, 4, 8, 64]⟩
abbrev S128x2052x8x64 : Shape := ⟨4, ![128, 2052, 8, 64]⟩
abbrev S4x129 : Shape := ⟨2, ![4, 129]⟩
abbrev S_ : Shape := ⟨0, ![]⟩
abbrev S4x129x1 : Shape := ⟨3, ![4, 129, 1]⟩
abbrev S128x4x129x8x64 : Shape := ⟨5, ![128, 4, 129, 8, 64]⟩
abbrev S128x4x8x129 : Shape := ⟨4, ![128, 4, 8, 129]⟩
abbrev S128x4x8 : Shape := ⟨3, ![128, 4, 8]⟩
abbrev S128x4x8x1 : Shape := ⟨4, ![128, 4, 8, 1]⟩
abbrev S1x128x4x8 : Shape := ⟨4, ![1, 128, 4, 8]⟩
abbrev S3x128x4x8 : Shape := ⟨4, ![3, 128, 4, 8]⟩
abbrev S3x128x4x8x1 : Shape := ⟨5, ![3, 128, 4, 8, 1]⟩
abbrev S1x128x4x8x64 : Shape := ⟨5, ![1, 128, 4, 8, 64]⟩
abbrev S3x128x4x8x64 : Shape := ⟨5, ![3, 128, 4, 8, 64]⟩

abbrev nBuf : Space → Nat
  | .hbm => 126
  | .vmem => 0
  | .smem => 0
  | _ => 0

abbrev bufTy : (tb : Table) → Fin (tcTables nBuf tb) → BufTy
  | .hbm, ⟨0, _⟩ => ⟨S128x4x512, .f32⟩
  | .hbm, ⟨1, _⟩ => ⟨S128x4x512, .f32⟩
  | .hbm, ⟨2, _⟩ => ⟨S128x4x512, .f32⟩
  | .hbm, ⟨3, _⟩ => ⟨S128x2048x8x64, .f32⟩
  | .hbm, ⟨4, _⟩ => ⟨S128x2048x8x64, .f32⟩
  | .hbm, ⟨5, _⟩ => ⟨S128x4x8x64, .f32⟩
  | .hbm, ⟨6, _⟩ => ⟨S128x4x8x64, .f32⟩
  | .hbm, ⟨7, _⟩ => ⟨S128x2052x8x64, .f32⟩
  | .hbm, ⟨8, _⟩ => ⟨S128x4x8x64, .f32⟩
  | .hbm, ⟨9, _⟩ => ⟨S128x2052x8x64, .f32⟩
  | .hbm, ⟨10, _⟩ => ⟨S4x129, .i32⟩
  | .hbm, ⟨11, _⟩ => ⟨S_, .i32⟩
  | .hbm, ⟨12, _⟩ => ⟨S4x129, .i32⟩
  | .hbm, ⟨13, _⟩ => ⟨S4x129, .i32⟩
  | .hbm, ⟨14, _⟩ => ⟨S4x129, .i32⟩
  | .hbm, ⟨15, _⟩ => ⟨S_, .i32⟩
  | .hbm, ⟨16, _⟩ => ⟨S4x129, .i32⟩
  | .hbm, ⟨17, _⟩ => ⟨S4x129, .i32⟩
  | .hbm, ⟨18, _⟩ => ⟨S4x129, .i32⟩
  | .hbm, ⟨19, _⟩ => ⟨S4x129x1, .i32⟩
  | .hbm, ⟨20, _⟩ => ⟨S128x4x129x8x64, .f32⟩
  | .hbm, ⟨21, _⟩ => ⟨S4x129x1, .i32⟩
  | .hbm, ⟨22, _⟩ => ⟨S128x4x129x8x64, .f32⟩
  | .hbm, ⟨23, _⟩ => ⟨S128x4x8x129, .f32⟩
  | .hbm, ⟨24, _⟩ => ⟨S_, .f32⟩
  | .hbm, ⟨25, _⟩ => ⟨S128x4x8, .f32⟩
  | .hbm, ⟨26, _⟩ => ⟨S128x4x8x1, .f32⟩
  | .hbm, ⟨27, _⟩ => ⟨S128x4x8x129, .f32⟩
  | .hbm, ⟨28, _⟩ => ⟨S128x4x8x129, .f32⟩
  | .hbm, ⟨29, _⟩ => ⟨S128x4x8x129, .f32⟩
  | .hbm, ⟨30, _⟩ => ⟨S_, .f32⟩
  | .hbm, ⟨31, _⟩ => ⟨S128x4x8, .f32⟩
  | .hbm, ⟨32, _⟩ => ⟨S128x4x8x64, .f32⟩
  | .hbm, ⟨33, _⟩ => ⟨S128x4x8x1, .f32⟩
  | .hbm, ⟨34, _⟩ => ⟨S128x4x8x64, .f32⟩
  | .hbm, ⟨35, _⟩ => ⟨S128x4x8x64, .f32⟩
  | .hbm, ⟨36, _⟩ => ⟨S128x4x8, .f32⟩
  | .hbm, ⟨37, _⟩ => ⟨S128x4x8, .f32⟩
  | .hbm, ⟨38, _⟩ => ⟨S128x4x8, .f32⟩
  | .hbm, ⟨39, _⟩ => ⟨S4x129, .i32⟩
  | .hbm, ⟨40, _⟩ => ⟨S_, .i32⟩
  | .hbm, ⟨41, _⟩ => ⟨S4x129, .i32⟩
  | .hbm, ⟨42, _⟩ => ⟨S4x129, .i32⟩
  | .hbm, ⟨43, _⟩ => ⟨S4x129, .i32⟩
  | .hbm, ⟨44, _⟩ => ⟨S_, .i32⟩
  | .hbm, ⟨45, _⟩ => ⟨S4x129, .i32⟩
  | .hbm, ⟨46, _⟩ => ⟨S4x129, .i32⟩
  | .hbm, ⟨47, _⟩ => ⟨S4x129, .i32⟩
  | .hbm, ⟨48, _⟩ => ⟨S4x129x1, .i32⟩
  | .hbm, ⟨49, _⟩ => ⟨S128x4x129x8x64, .f32⟩
  | .hbm, ⟨50, _⟩ => ⟨S4x129x1, .i32⟩
  | .hbm, ⟨51, _⟩ => ⟨S128x4x129x8x64, .f32⟩
  | .hbm, ⟨52, _⟩ => ⟨S128x4x8x129, .f32⟩
  | .hbm, ⟨53, _⟩ => ⟨S_, .f32⟩
  | .hbm, ⟨54, _⟩ => ⟨S128x4x8, .f32⟩
  | .hbm, ⟨55, _⟩ => ⟨S128x4x8x1, .f32⟩
  | .hbm, ⟨56, _⟩ => ⟨S128x4x8x129, .f32⟩
  | .hbm, ⟨57, _⟩ => ⟨S128x4x8x129, .f32⟩
  | .hbm, ⟨58, _⟩ => ⟨S128x4x8x129, .f32⟩
  | .hbm, ⟨59, _⟩ => ⟨S_, .f32⟩
  | .hbm, ⟨60, _⟩ => ⟨S128x4x8, .f32⟩
  | .hbm, ⟨61, _⟩ => ⟨S128x4x8x64, .f32⟩
  | .hbm, ⟨62, _⟩ => ⟨S128x4x8x1, .f32⟩
  | .hbm, ⟨63, _⟩ => ⟨S128x4x8x64, .f32⟩
  | .hbm, ⟨64, _⟩ => ⟨S128x4x8x64, .f32⟩
  | .hbm, ⟨65, _⟩ => ⟨S128x4x8, .f32⟩
  | .hbm, ⟨66, _⟩ => ⟨S128x4x8, .f32⟩
  | .hbm, ⟨67, _⟩ => ⟨S128x4x8, .f32⟩
  | .hbm, ⟨68, _⟩ => ⟨S4x129, .i32⟩
  | .hbm, ⟨69, _⟩ => ⟨S_, .i32⟩
  | .hbm, ⟨70, _⟩ => ⟨S4x129, .i32⟩
  | .hbm, ⟨71, _⟩ => ⟨S4x129, .i32⟩
  | .hbm, ⟨72, _⟩ => ⟨S4x129, .i32⟩
  | .hbm, ⟨73, _⟩ => ⟨S_, .i32⟩
  | .hbm, ⟨74, _⟩ => ⟨S4x129, .i32⟩
  | .hbm, ⟨75, _⟩ => ⟨S4x129, .i32⟩
  | .hbm, ⟨76, _⟩ => ⟨S4x129, .i32⟩
  | .hbm, ⟨77, _⟩ => ⟨S4x129x1, .i32⟩
  | .hbm, ⟨78, _⟩ => ⟨S128x4x129x8x64, .f32⟩
  | .hbm, ⟨79, _⟩ => ⟨S4x129x1, .i32⟩
  | .hbm, ⟨80, _⟩ => ⟨S128x4x129x8x64, .f32⟩
  | .hbm, ⟨81, _⟩ => ⟨S128x4x8x129, .f32⟩
  | .hbm, ⟨82, _⟩ => ⟨S_, .f32⟩
  | .hbm, ⟨83, _⟩ => ⟨S128x4x8, .f32⟩
  | .hbm, ⟨84, _⟩ => ⟨S128x4x8x1, .f32⟩
  | .hbm, ⟨85, _⟩ => ⟨S128x4x8x129, .f32⟩
  | .hbm, ⟨86, _⟩ => ⟨S128x4x8x129, .f32⟩
  | .hbm, ⟨87, _⟩ => ⟨S128x4x8x129, .f32⟩
  | .hbm, ⟨88, _⟩ => ⟨S_, .f32⟩
  | .hbm, ⟨89, _⟩ => ⟨S128x4x8, .f32⟩
  | .hbm, ⟨90, _⟩ => ⟨S128x4x8x64, .f32⟩
  | .hbm, ⟨91, _⟩ => ⟨S128x4x8x1, .f32⟩
  | .hbm, ⟨92, _⟩ => ⟨S128x4x8x64, .f32⟩
  | .hbm, ⟨93, _⟩ => ⟨S128x4x8x64, .f32⟩
  | .hbm, ⟨94, _⟩ => ⟨S128x4x8, .f32⟩
  | .hbm, ⟨95, _⟩ => ⟨S128x4x8, .f32⟩
  | .hbm, ⟨96, _⟩ => ⟨S128x4x8, .f32⟩
  | .hbm, ⟨97, _⟩ => ⟨S1x128x4x8, .f32⟩
  | .hbm, ⟨98, _⟩ => ⟨S1x128x4x8, .f32⟩
  | .hbm, ⟨99, _⟩ => ⟨S1x128x4x8, .f32⟩
  | .hbm, ⟨100, _⟩ => ⟨S3x128x4x8, .f32⟩
  | .hbm, ⟨101, _⟩ => ⟨S_, .f32⟩
  | .hbm, ⟨102, _⟩ => ⟨S128x4x8, .f32⟩
  | .hbm, ⟨103, _⟩ => ⟨S_, .f32⟩
  | .hbm, ⟨104, _⟩ => ⟨S128x4x8, .f32⟩
  | .hbm, ⟨105, _⟩ => ⟨S128x4x8, .f32⟩
  | .hbm, ⟨106, _⟩ => ⟨S1x128x4x8, .f32⟩
  | .hbm, ⟨107, _⟩ => ⟨S3x128x4x8, .f32⟩
  | .hbm, ⟨108, _⟩ => ⟨S3x128x4x8, .f32⟩
  | .hbm, ⟨109, _⟩ => ⟨S3x128x4x8, .f32⟩
  | .hbm, ⟨110, _⟩ => ⟨S_, .f32⟩
  | .hbm, ⟨111, _⟩ => ⟨S128x4x8, .f32⟩
  | .hbm, ⟨112, _⟩ => ⟨S1x128x4x8, .f32⟩
  | .hbm, ⟨113, _⟩ => ⟨S3x128x4x8, .f32⟩
  | .hbm, ⟨114, _⟩ => ⟨S3x128x4x8, .f32⟩
  | .hbm, ⟨115, _⟩ => ⟨S3x128x4x8x1, .f32⟩
  | .hbm, ⟨116, _⟩ => ⟨S1x128x4x8x64, .f32⟩
  | .hbm, ⟨117, _⟩ => ⟨S1x128x4x8x64, .f32⟩
  | .hbm, ⟨118, _⟩ => ⟨S1x128x4x8x64, .f32⟩
  | .hbm, ⟨119, _⟩ => ⟨S3x128x4x8x64, .f32⟩
  | .hbm, ⟨120, _⟩ => ⟨S3x128x4x8x64, .f32⟩
  | .hbm, ⟨121, _⟩ => ⟨S3x128x4x8x64, .f32⟩
  | .hbm, ⟨122, _⟩ => ⟨S_, .f32⟩
  | .hbm, ⟨123, _⟩ => ⟨S128x4x8x64, .f32⟩
  | .hbm, ⟨124, _⟩ => ⟨S128x4x512, .f32⟩
  | .hbm, ⟨125, _⟩ => ⟨S128x4x512, .bf16⟩
  | _, _ => ⟨S128x4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_v12 : Ref sig .tc := ⟨.hbm, 20, rfl⟩
abbrev main_call1_v0 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_2 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_call2_v0 : Ref sig .tc := ⟨.hbm, 48, rfl⟩
abbrev main_v35 : Ref sig .tc := ⟨.hbm, 49, rfl⟩
abbrev main_call3_v0 : Ref sig .tc := ⟨.hbm, 50, rfl⟩
abbrev main_v36 : Ref sig .tc := ⟨.hbm, 51, rfl⟩
abbrev main_v37 : Ref sig .tc := ⟨.hbm, 52, rfl⟩
abbrev main_cst_4 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_5 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_c_6 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_c_7 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_call4_v0 : Ref sig .tc := ⟨.hbm, 77, rfl⟩
abbrev main_v58 : Ref sig .tc := ⟨.hbm, 78, rfl⟩
abbrev main_call5_v0 : Ref sig .tc := ⟨.hbm, 79, rfl⟩
abbrev main_v59 : Ref sig .tc := ⟨.hbm, 80, rfl⟩
abbrev main_v60 : Ref sig .tc := ⟨.hbm, 81, rfl⟩
abbrev main_cst_8 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_9 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_10 : Ref sig .tc := ⟨.hbm, 101, rfl⟩
abbrev main_v78 : Ref sig .tc := ⟨.hbm, 102, rfl⟩
abbrev main_cst_11 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_12 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_cst_13 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩

abbrev nD : Nat := 1
abbrev τ : Topo := Topo.v7x

variable {F : FTy → Type} [FloatOps F]
-- ==== Kernel2.lean ====
abbrev S32x2048x1024 : Shape := ⟨3, ![32, 2048, 1024]⟩
abbrev S32x1x1024 : Shape := ⟨3, ![32, 1, 1024]⟩
abbrev S1024 : Shape := ⟨1, ![1024]⟩
abbrev S1024x2048 : Shape := ⟨2, ![1024, 2048]⟩
abbrev S1x1024 : Shape := ⟨2, ![1, 1024]⟩
abbrev S32x2048x512 : Shape := ⟨3, ![32, 2048, 512]⟩
abbrev S1x512x1024 : Shape := ⟨3, ![1, 512, 1024]⟩
abbrev S1x1x1024 : Shape := ⟨3, ![1, 1, 1024]⟩
abbrev S1x512x512 : Shape := ⟨3, ![1, 512, 512]⟩
abbrev S512x1024 : Shape := ⟨2, ![512, 1024]⟩
abbrev S512 : Shape := ⟨1, ![512]⟩
abbrev S512x1 : Shape := ⟨2, ![512, 1]⟩
abbrev S512x2048 : Shape := ⟨2, ![512, 2048]⟩
abbrev S512x512 : Shape := ⟨2, ![512, 512]⟩

abbrev nBuf : Space → Nat
  | .hbm => 11
  | .vmem => 16
  | .smem => 0
  | _ => 0

abbrev bufTy : (tb : Table) → Fin (tcTables nBuf tb) → BufTy
  | .hbm, ⟨0, _⟩ => ⟨S32x2048x1024, .f32⟩
  | .hbm, ⟨1, _⟩ => ⟨S32x1x1024, .f32⟩
  | .hbm, ⟨2, _⟩ => ⟨S32x1x1024, .f32⟩
  | .hbm, ⟨3, _⟩ => ⟨S1024, .f32⟩
  | .hbm, ⟨4, _⟩ => ⟨S1024x2048, .f32⟩
  | .hbm, ⟨5, _⟩ => ⟨S1024x2048, .bf16⟩
  | .hbm, ⟨6, _⟩ => ⟨S1x1024, .f32⟩
  | .hbm, ⟨7, _⟩ => ⟨S32x2048x512, .f32⟩
  | .hbm, ⟨8, _⟩ => ⟨S32x2048x512, .f32⟩
  | .hbm, ⟨9, _⟩ => ⟨S32x2048x512, .f32⟩
  | .hbm, ⟨10, _⟩ => ⟨S32x2048x512, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x2048, .bf16⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .bf16⟩
  | .local _ .vmem, ⟨15, _⟩ => ⟨S1x512x512, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S32x2048x1024 : Shape := ⟨3, ![32, 2048, 1024]⟩
abbrev S32x1x1024 : Shape := ⟨3, ![32, 1, 1024]⟩
abbrev S1024 : Shape := ⟨1, ![1024]⟩
abbrev S1024x2048 : Shape := ⟨2, ![1024, 2048]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x2048 : Shape := ⟨3, ![32, 2048, 2048]⟩
abbrev S32x2048x512 : Shape := ⟨3, ![32, 2048, 512]⟩

abbrev nBuf : Space → Nat
  | .hbm => 37
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x1x1024, .f32⟩
  | .hbm, ⟨2, _⟩ => ⟨S32x1x1024, .f32⟩
  | .hbm, ⟨3, _⟩ => ⟨S1024, .f32⟩
  | .hbm, ⟨4, _⟩ => ⟨S1024x2048, .f32⟩
  | .hbm, ⟨5, _⟩ => ⟨S32x2048x1024, .f32⟩
  | .hbm, ⟨6, _⟩ => ⟨S_, .f32⟩
  | .hbm, ⟨7, _⟩ => ⟨S32x2048, .f32⟩
  | .hbm, ⟨8, _⟩ => ⟨S32x2048x1, .f32⟩
  | .hbm, ⟨9, _⟩ => ⟨S_, .f32⟩
  | .hbm, ⟨10, _⟩ => ⟨S32x2048x1, .f32⟩
  | .hbm, ⟨11, _⟩ => ⟨S32x2048x1, .f32⟩
  | .hbm, ⟨12, _⟩ => ⟨S_, .f32⟩
  | .hbm, ⟨13, _⟩ => ⟨S32x2048x1, .f32⟩
  | .hbm, ⟨14, _⟩ => ⟨S32x2048x1, .f32⟩
  | .hbm, ⟨15, _⟩ => ⟨S32x2048x1, .f32⟩
  | .hbm, ⟨16, _⟩ => ⟨S32x2048x1024, .f32⟩
  | .hbm, ⟨17, _⟩ => ⟨S32x2048x1024, .f32⟩
  | .hbm, ⟨18, _⟩ => ⟨S1x1x1024, .f32⟩
  | .hbm, ⟨19, _⟩ => ⟨S32x2048x1024, .f32⟩
  | .hbm, ⟨20, _⟩ => ⟨S32x2048x1024, .f32⟩
  | .hbm, ⟨21, _⟩ => ⟨S_, .f32⟩
  | .hbm, ⟨22, _⟩ => ⟨S32x1x1024, .f32⟩
  | .hbm, ⟨23, _⟩ => ⟨S32x1x1024, .f32⟩
  | .hbm, ⟨24, _⟩ => ⟨S32x2048x1024, .f32⟩
  | .hbm, ⟨25, _⟩ => ⟨S32x2048x1024, .f32⟩
  | .hbm, ⟨26, _⟩ => ⟨S32x2048x1024, .f32⟩
  | .hbm, ⟨27, _⟩ => ⟨S32x2048x1024, .f32⟩
  | .hbm, ⟨28, _⟩ => ⟨S32x2048x2048, .f32⟩
  | .hbm, ⟨29, _⟩ => ⟨S32x2048x512, .f32⟩
  | .hbm, ⟨30, _⟩ => ⟨S32x2048x512, .f32⟩
  | .hbm, ⟨31, _⟩ => ⟨S32x2048x512, .f32⟩
  | .hbm, ⟨32, _⟩ => ⟨S32x2048x512, .f32⟩
  | .hbm, ⟨33, _⟩ => ⟨S_, .f32⟩
  | .hbm, ⟨34, _⟩ => ⟨S32x2048x512, .f32⟩
  | .hbm, ⟨35, _⟩ => ⟨S32x2048x512, .f32⟩
  | .hbm, ⟨36, _⟩ => ⟨S32x2048x512, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Kernel3.lean ====
abbrev S8x148480x128 : Shape := ⟨3, ![8, 148480, 128]⟩
abbrev S290 : Shape := ⟨1, ![290]⟩
abbrev S1 : Shape := ⟨1, ![1]⟩
abbrev S32x1024x512 : Shape := ⟨3, ![32, 1024, 512]⟩
abbrev S32x512x1024 : Shape := ⟨3, ![32, 512, 1024]⟩
abbrev S8x512x128 : Shape := ⟨3, ![8, 512, 128]⟩
abbrev S1x1024x512 : Shape := ⟨3, ![1, 1024, 512]⟩
abbrev S1x512x1024 : Shape := ⟨3, ![1, 512, 1024]⟩
abbrev S1024x512 : Shape := ⟨2, ![1024, 512]⟩
abbrev S512x1024 : Shape := ⟨2, ![512, 1024]⟩
abbrev S1x512x128 : Shape := ⟨3, ![1, 512, 128]⟩
abbrev S512x128 : Shape := ⟨2, ![512, 128]⟩
abbrev S512x512 : Shape := ⟨2, ![512, 512]⟩

abbrev nBuf : Space → Nat
  | .hbm => 5
  | .vmem => 13
  | .smem => 2
  | _ => 0

abbrev bufTy : (tb : Table) → Fin (tcTables nBuf tb) → BufTy
  | .hbm, ⟨0, _⟩ => ⟨S8x148480x128, .bf16⟩
  | .hbm, ⟨1, _⟩ => ⟨S32x1024x512, .f32⟩
  | .hbm, ⟨2, _⟩ => ⟨S32x1024x512, .f32⟩
  | .hbm, ⟨3, _⟩ => ⟨S32x512x1024, .f32⟩
  | .hbm, ⟨4, _⟩ => ⟨S8x148480x128, .bf16⟩
  | .local _ .vmem, ⟨0, _⟩ => ⟨S8x512x128, .bf16⟩
  | .local _ .vmem, ⟨1, _⟩ => ⟨S8x512x128, .bf16⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S8x512x128, .bf16⟩
  | .local _ .vmem, ⟨9, _⟩ => ⟨S8x512x128, .bf16⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .smem, ⟨0, _⟩ => ⟨S290, .i32⟩
  | .local _ .smem, ⟨1, _⟩ => ⟨S1, .i32⟩
  | _, _ => ⟨S8x148480x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![290], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (k0_off1_inb : ∀ i : grid0.Coords, ∀ a, (k0_off1 i) a + S1.size a ≤ S290.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S290) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S290.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S290) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S290.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S290) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S8x148480x128 : Shape := ⟨3, ![8, 148480, 128]⟩
abbrev S290 : Shape := ⟨1, ![290]⟩
abbrev S1 : Shape := ⟨1, ![1]⟩
abbrev S32x1024x512 : Shape := ⟨3, ![32, 1024, 512]⟩
abbrev S32x512x1024 : Shape := ⟨3, ![32, 512, 1024]⟩
abbrev S148480x8x128 : Shape := ⟨3, ![148480, 8, 128]⟩
abbrev S290x512x1024 : Shape := ⟨3, ![290, 512, 1024]⟩
abbrev S290x1 : Shape := ⟨2, ![290, 1]⟩
abbrev S290x1024x512 : Shape := ⟨3, ![290, 1024, 512]⟩
abbrev S290x512x512 : Shape := ⟨3, ![290, 512, 512]⟩
abbrev S_ : Shape := ⟨0, ![]⟩
abbrev S290x1x1 : Shape := ⟨3, ![290, 1, 1]⟩

abbrev nBuf : Space → Nat
  | .hbm => 41
  | .vmem => 0
  | .smem => 0
  | _ => 0

abbrev bufTy : (tb : Table) → Fin (tcTables nBuf tb) → BufTy
  | .hbm, ⟨0, _⟩ => ⟨S8x148480x128, .bf16⟩
  | .hbm, ⟨1, _⟩ => ⟨S290, .i32⟩
  | .hbm, ⟨2, _⟩ => ⟨S1, .i32⟩
  | .hbm, ⟨3, _⟩ => ⟨S32x1024x512, .f32⟩
  | .hbm, ⟨4, _⟩ => ⟨S32x1024x512, .f32⟩
  | .hbm, ⟨5, _⟩ => ⟨S32x512x1024, .f32⟩
  | .hbm, ⟨6, _⟩ => ⟨S8x148480x128, .f32⟩
  | .hbm, ⟨7, _⟩ => ⟨S148480x8x128, .f32⟩
  | .hbm, ⟨8, _⟩ => ⟨S290x512x1024, .f32⟩
  | .hbm, ⟨9, _⟩ => ⟨S290x1, .i32⟩
  | .hbm, ⟨10, _⟩ => ⟨S290x1024x512, .f32⟩
  | .hbm, ⟨11, _⟩ => ⟨S290x512x512, .f32⟩
  | .hbm, ⟨12, _⟩ => ⟨S290x1, .i32⟩
  | .hbm, ⟨13, _⟩ => ⟨S290x1024x512, .f32⟩
  | .hbm, ⟨14, _⟩ => ⟨S290x512x512, .f32⟩
  | .hbm, ⟨15, _⟩ => ⟨S290x512x512, .f32⟩
  | .hbm, ⟨16, _⟩ => ⟨S290x512x512, .f32⟩
  | .hbm, ⟨17, _⟩ => ⟨S_, .f32⟩
  | .hbm, ⟨18, _⟩ => ⟨S290x512x512, .f32⟩
  | .hbm, ⟨19, _⟩ => ⟨S290x512x512, .f32⟩
  | .hbm, ⟨20, _⟩ => ⟨S_, .f32⟩
  | .hbm, ⟨21, _⟩ => ⟨S290x512x512, .f32⟩
  | .hbm, ⟨22, _⟩ => ⟨S290x512x512, .f32⟩
  | .hbm, ⟨23, _⟩ => ⟨S290x512x512, .f32⟩
  | .hbm, ⟨24, _⟩ => ⟨S290x512x512, .f32⟩
  | .hbm, ⟨25, _⟩ => ⟨S290x1, .i32⟩
  | .hbm, ⟨26, _⟩ => ⟨S290x512x1024, .f32⟩
  | .hbm, ⟨27, _⟩ => ⟨S290x512x1024, .f32⟩
  | .hbm, ⟨28, _⟩ => ⟨S290, .i32⟩
  | .hbm, ⟨29, _⟩ => ⟨S_, .i32⟩
  | .hbm, ⟨30, _⟩ => ⟨S290, .i32⟩
  | .hbm, ⟨31, _⟩ => ⟨S290, .i1⟩
  | .hbm, ⟨32, _⟩ => ⟨S290x1x1, .i1⟩
  | .hbm, ⟨33, _⟩ => ⟨S_, .f32⟩
  | .hbm, ⟨34, _⟩ => ⟨S_, .f32⟩
  | .hbm, ⟨35, _⟩ => ⟨S290x512x1024, .i1⟩
  | .hbm, ⟨36, _⟩ => ⟨S290x512x1024, .f32⟩
  | .hbm, ⟨37, _⟩ => ⟨S290x512x1024, .f32⟩
  | .hbm, ⟨38, _⟩ => ⟨S148480x8x128, .f32⟩
  | .hbm, ⟨39, _⟩ => ⟨S8x148480x128, .f32⟩
  | .hbm, ⟨40, _⟩ => ⟨S8x148480x128, .bf16⟩
  | _, _ => ⟨S8x148480x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_call2_v0 : Ref sig .tc := ⟨.hbm, 15, rfl⟩
abbrev main_call2_v1 : Ref sig .tc := ⟨.hbm, 16, rfl⟩
abbrev main_call2_cst : Ref sig .tc := ⟨.hbm, 17, rfl⟩
abbrev main_call2_v2 : Ref sig .tc := ⟨.hbm, 18, rfl⟩
abbrev main_call2_v3 : Ref sig .tc := ⟨.hbm, 19, rfl⟩
abbrev main_call2_cst_0 : Ref sig .tc := ⟨.hbm, 20, rfl⟩
abbrev main_call2_v4 : Ref sig .tc := ⟨.hbm, 21, rfl⟩
abbrev main_call2_v5 : Ref sig .tc := ⟨.hbm, 22, rfl⟩
abbrev main_v7 : Ref sig .tc := ⟨.hbm, 23, rfl⟩
abbrev main_v8 : Ref sig .tc := ⟨.hbm, 24, rfl⟩
abbrev main_call3_v0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst : Ref sig .tc := ⟨.hbm, 33, rfl⟩
abbrev main_call4_v0 : Ref sig .tc := ⟨.hbm, 34, rfl⟩
abbrev main_call4_v1 : Ref sig .tc := ⟨.hbm, 35, rfl⟩
abbrev main_call4_v2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩

abbrev nD : Nat := 1
abbrev τ : Topo := Topo.v7x

variable {F : FTy → Type} [FloatOps F]
-- ==== Kernel4.lean ====
abbrev S128x4x1024 : Shape := ⟨3, ![128, 4, 1024]⟩
abbrev S128x1024 : Shape := ⟨2, ![128, 1024]⟩
abbrev S1024 : Shape := ⟨1, ![1024]⟩
abbrev S1024x2048 : Shape := ⟨2, ![1024, 2048]⟩
abbrev S1x512x1024 : Shape := ⟨3, ![1, 512, 1024]⟩
abbrev S512x1024 : Shape := ⟨2, ![512, 1024]⟩
abbrev S1x1024 : Shape := ⟨2, ![1, 1024]⟩
abbrev S1x512x512 : Shape := ⟨3, ![1, 512, 512]⟩
abbrev S512 : Shape := ⟨1, ![512]⟩
abbrev S512x1 : Shape := ⟨2, ![512, 1]⟩
abbrev S512x2048 : Shape := ⟨2, ![512, 2048]⟩
abbrev S512x512 : Shape := ⟨2, ![512, 512]⟩

abbrev nBuf : Space → Nat
  | .hbm => 18
  | .vmem => 9
  | .smem => 0
  | _ => 0

abbrev bufTy : (tb : Table) → Fin (tcTables nBuf tb) → BufTy
  | .hbm, ⟨0, _⟩ => ⟨S128x4x1024, .f32⟩
  | .hbm, ⟨1, _⟩ => ⟨S128x1024, .f32⟩
  | .hbm, ⟨2, _⟩ => ⟨S128x1024, .f32⟩
  | .hbm, ⟨3, _⟩ => ⟨S1024, .f32⟩
  | .hbm, ⟨4, _⟩ => ⟨S1024x2048, .f32⟩
  | .hbm, ⟨5, _⟩ => ⟨S1x512x1024, .f32⟩
  | .hbm, ⟨6, _⟩ => ⟨S128x4x1024, .f32⟩
  | .hbm, ⟨7, _⟩ => ⟨S512x1024, .f32⟩
  | .hbm, ⟨8, _⟩ => ⟨S1x512x1024, .f32⟩
  | .hbm, ⟨9, _⟩ => ⟨S128x4x1024, .f32⟩
  | .hbm, ⟨10, _⟩ => ⟨S512x1024, .f32⟩
  | .hbm, ⟨11, _⟩ => ⟨S1x512x1024, .f32⟩
  | .hbm, ⟨12, _⟩ => ⟨S1024x2048, .bf16⟩
  | .hbm, ⟨13, _⟩ => ⟨S1x1024, .f32⟩
  | .hbm, ⟨14, _⟩ => ⟨S1x512x512, .f32⟩
  | .hbm, ⟨15, _⟩ => ⟨S1x512x512, .f32⟩
  | .hbm, ⟨16, _⟩ => ⟨S1x512x512, .f32⟩
  | .hbm, ⟨17, _⟩ => ⟨S1x512x512, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x1024, .f32⟩
  | .local _ .vmem, ⟨4, _⟩ => ⟨S1024x2048, .bf16⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .bf16⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v9_3 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S1x512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]
-- ==== Reference4Ideal.lean ====
abbrev S128x4x1024 : Shape := ⟨3, ![128, 4, 1024]⟩
abbrev S128x1024 : Shape := ⟨2, ![128, 1024]⟩
abbrev S1024 : Shape := ⟨1, ![1024]⟩
abbrev S1024x2048 : Shape := ⟨2, ![1024, 2048]⟩
abbrev S128x1x1024 : Shape := ⟨3, ![128, 1, 1024]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S128x4x2048 : Shape := ⟨3, ![128, 4, 2048]⟩
abbrev S128x4x512 : Shape := ⟨3, ![128, 4, 512]⟩
abbrev S1x512x512 : Shape := ⟨3, ![1, 512, 512]⟩

abbrev nBuf : Space → Nat
  | .hbm => 43
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S128x1024, .f32⟩
  | .hbm, ⟨2, _⟩ => ⟨S128x1024, .f32⟩
  | .hbm, ⟨3, _⟩ => ⟨S1024, .f32⟩
  | .hbm, ⟨4, _⟩ => ⟨S1024x2048, .f32⟩
  | .hbm, ⟨5, _⟩ => ⟨S128x1x1024, .f32⟩
  | .hbm, ⟨6, _⟩ => ⟨S128x1x1024, .f32⟩
  | .hbm, ⟨7, _⟩ => ⟨S128x4x1024, .f32⟩
  | .hbm, ⟨8, _⟩ => ⟨S_, .f32⟩
  | .hbm, ⟨9, _⟩ => ⟨S128x4, .f32⟩
  | .hbm, ⟨10, _⟩ => ⟨S128x4x1, .f32⟩
  | .hbm, ⟨11, _⟩ => ⟨S_, .f32⟩
  | .hbm, ⟨12, _⟩ => ⟨S128x4x1, .f32⟩
  | .hbm, ⟨13, _⟩ => ⟨S128x4x1, .f32⟩
  | .hbm, ⟨14, _⟩ => ⟨S_, .f32⟩
  | .hbm, ⟨15, _⟩ => ⟨S128x4x1, .f32⟩
  | .hbm, ⟨16, _⟩ => ⟨S128x4x1, .f32⟩
  | .hbm, ⟨17, _⟩ => ⟨S128x4x1, .f32⟩
  | .hbm, ⟨18, _⟩ => ⟨S128x4x1024, .f32⟩
  | .hbm, ⟨19, _⟩ => ⟨S128x4x1024, .f32⟩
  | .hbm, ⟨20, _⟩ => ⟨S1x1x1024, .f32⟩
  | .hbm, ⟨21, _⟩ => ⟨S128x4x1024, .f32⟩
  | .hbm, ⟨22, _⟩ => ⟨S128x4x1024, .f32⟩
  | .hbm, ⟨23, _⟩ => ⟨S_, .f32⟩
  | .hbm, ⟨24, _⟩ => ⟨S128x1x1024, .f32⟩
  | .hbm, ⟨25, _⟩ => ⟨S128x1x1024, .f32⟩
  | .hbm, ⟨26, _⟩ => ⟨S128x4x1024, .f32⟩
  | .hbm, ⟨27, _⟩ => ⟨S128x4x1024, .f32⟩
  | .hbm, ⟨28, _⟩ => ⟨S128x4x1024, .f32⟩
  | .hbm, ⟨29, _⟩ => ⟨S128x4x1024, .f32⟩
  | .hbm, ⟨30, _⟩ => ⟨S128x4x2048, .f32⟩
  | .hbm, ⟨31, _⟩ => ⟨S128x4x512, .f32⟩
  | .hbm, ⟨32, _⟩ => ⟨S128x4x512, .f32⟩
  | .hbm, ⟨33, _⟩ => ⟨S128x4x512, .f32⟩
  | .hbm, ⟨34, _⟩ => ⟨S128x4x512, .f32⟩
  | .hbm, ⟨35, _⟩ => ⟨S_, .f32⟩
  | .hbm, ⟨36, _⟩ => ⟨S128x4x512, .f32⟩
  | .hbm, ⟨37, _⟩ => ⟨S128x4x512, .f32⟩
  | .hbm, ⟨38, _⟩ => ⟨S128x4x512, .bf16⟩
  | .hbm, ⟨39, _⟩ => ⟨S1x512x512, .f32⟩
  | .hbm, ⟨40, _⟩ => ⟨S1x512x512, .f32⟩
  | .hbm, ⟨41, _⟩ => ⟨S1x512x512, .f32⟩
  | .hbm, ⟨42, _⟩ => ⟨S1x512x512, .bf16⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Kernel5.lean ====
abbrev S128x4x512 : Shape := ⟨3, ![128, 4, 512]⟩
abbrev S128x32x64 : Shape := ⟨3, ![128, 32, 64]⟩
abbrev S32x64 : Shape := ⟨2, ![32, 64]⟩
abbrev S32x64x16 : Shape := ⟨3, ![32, 64, 16]⟩
abbrev S32x16x64 : Shape := ⟨3, ![32, 16, 64]⟩
abbrev S32x16 : Shape := ⟨2, ![32, 16]⟩
abbrev S512x512 : Shape := ⟨2, ![512, 512]⟩
abbrev S512 : Shape := ⟨1, ![512]⟩
abbrev S8x8 : Shape := ⟨2, ![8, 8]⟩
abbrev S_ : Shape := ⟨0, ![]⟩
abbrev S4x8x64x16 : Shape := ⟨4, ![4, 8, 64, 16]⟩
abbrev S1x8x1x8x1 : Shape := ⟨5, ![1, 8, 1, 8, 1]⟩
abbrev S4x8x16x64 : Shape := ⟨4, ![4, 8, 16, 64]⟩
abbrev S4x8x16x1x64 : Shape := ⟨5, ![4, 8, 16, 1, 64]⟩
abbrev S4x8x16x8x64 : Shape := ⟨5, ![4, 8, 16, 8, 64]⟩
abbrev S4x128x512 : Shape := ⟨3, ![4, 128, 512]⟩
abbrev S4x128x1024 : Shape := ⟨3, ![4, 128, 1024]⟩
abbrev S4x64x8x16 : Shape := ⟨4, ![4, 64, 8, 16]⟩
abbrev S4x1x64x8x16 : Shape := ⟨5, ![4, 1, 64, 8, 16]⟩
abbrev S4x8x64x8x16 : Shape := ⟨5, ![4, 8, 64, 8, 16]⟩
abbrev S4x512x128 : Shape := ⟨3, ![4, 512, 128]⟩
abbrev S4x1024x128 : Shape := ⟨3, ![4, 1024, 128]⟩
abbrev S128x2048 : Shape := ⟨2, ![128, 2048]⟩
abbrev S2048 : Shape := ⟨1, ![2048]⟩
abbrev S1x2048 : Shape := ⟨2, ![1, 2048]⟩
abbrev S1x512 : Shape := ⟨2, ![1, 512]⟩
abbrev S4x64x512 : Shape := ⟨3, ![4, 64, 512]⟩
abbrev S64x2048 : Shape := ⟨2, ![64, 2048]⟩
abbrev S1x64x512 : Shape := ⟨3, ![1, 64, 512]⟩
abbrev S64x512 : Shape := ⟨2, ![64, 512]⟩
abbrev S64x128 : Shape := ⟨2, ![64, 128]⟩
abbrev S1x128x1024 : Shape := ⟨3, ![1, 128, 1024]⟩
abbrev S128x1024 : Shape := ⟨2, ![128, 1024]⟩
abbrev S64x1024 : Shape := ⟨2, ![64, 1024]⟩
abbrev S1x1024x128 : Shape := ⟨3, ![1, 1024, 128]⟩
abbrev S1024x128 : Shape := ⟨2, ![1024, 128]⟩
abbrev S64 : Shape := ⟨1, ![64]⟩
abbrev S64x1 : Shape := ⟨2, ![64, 1]⟩

abbrev nBuf : Space → Nat
  | .hbm => 74
  | .vmem => 20
  | .smem => 0
  | _ => 0

abbrev bufTy : (tb : Table) → Fin (tcTables nBuf tb) → BufTy
  | .hbm, ⟨0, _⟩ => ⟨S128x4x512, .bf16⟩
  | .hbm, ⟨1, _⟩ => ⟨S128x32x64, .f32⟩
  | .hbm, ⟨2, _⟩ => ⟨S128x32x64, .f32⟩
  | .hbm, ⟨3, _⟩ => ⟨S32x64, .f32⟩
  | .hbm, ⟨4, _⟩ => ⟨S32x64, .f32⟩
  | .hbm, ⟨5, _⟩ => ⟨S32x64x16, .f32⟩
  | .hbm, ⟨6, _⟩ => ⟨S32x64x16, .f32⟩
  | .hbm, ⟨7, _⟩ => ⟨S32x16x64, .f32⟩
  | .hbm, ⟨8, _⟩ => ⟨S32x16x64, .f32⟩
  | .hbm, ⟨9, _⟩ => ⟨S32x16, .f32⟩
  | .hbm, ⟨10, _⟩ => ⟨S512x512, .f32⟩
  | .hbm, ⟨11, _⟩ => ⟨S512, .f32⟩
  | .hbm, ⟨12, _⟩ => ⟨S512, .f32⟩
  | .hbm, ⟨13, _⟩ => ⟨S8x8, .i32⟩
  | .hbm, ⟨14, _⟩ => ⟨S8x8, .i32⟩
  | .hbm, ⟨15, _⟩ => ⟨S_, .i32⟩
  | .hbm, ⟨16, _⟩ => ⟨S8x8, .i32⟩
  | .hbm, ⟨17, _⟩ => ⟨S8x8, .i32⟩
  | .hbm, ⟨18, _⟩ => ⟨S8x8, .i1⟩
  | .hbm, ⟨19, _⟩ => ⟨S8x8, .f32⟩
  | .hbm, ⟨20, _⟩ => ⟨S4x8x64x16, .f32⟩
  | .hbm, ⟨21, _⟩ => ⟨S1x8x1x8x1, .f32⟩
  | .hbm, ⟨22, _⟩ => ⟨S4x8x16x64, .f32⟩
  | .hbm, ⟨23, _⟩ => ⟨S4x8x16x1x64, .f32⟩
  | .hbm, ⟨24, _⟩ => ⟨S4x8x16x8x64, .f32⟩
  | .hbm, ⟨25, _⟩ => ⟨S4x8x16x8x64, .f32⟩
  | .hbm, ⟨26, _⟩ => ⟨S4x8x16x8x64, .f32⟩
  | .hbm, ⟨27, _⟩ => ⟨S4x128x512, .f32⟩
  | .hbm, ⟨28, _⟩ => ⟨S4x8x64x16, .f32⟩
  | .hbm, ⟨29, _⟩ => ⟨S1x8x1x8x1, .f32⟩
  | .hbm, ⟨30, _⟩ => ⟨S4x8x16x64, .f32⟩
  | .hbm, ⟨31, _⟩ => ⟨S4x8x16x1x64, .f32⟩
  | .hbm, ⟨32, _⟩ => ⟨S4x8x16x8x64, .f32⟩
  | .hbm, ⟨33, _⟩ => ⟨S4x8x16x8x64, .f32⟩
  | .hbm, ⟨34, _⟩ => ⟨S4x8x16x8x64, .f32⟩
  | .hbm, ⟨35, _⟩ => ⟨S4x128x512, .f32⟩
  | .hbm, ⟨36, _⟩ => ⟨S4x128x1024, .f32⟩
  | .hbm, ⟨37, _⟩ => ⟨S4x128x1024, .bf16⟩
  | .hbm, ⟨38, _⟩ => ⟨S4x8x16x64, .f32⟩
  | .hbm, ⟨39, _⟩ => ⟨S8x8, .f32⟩
  | .hbm, ⟨40, _⟩ => ⟨S1x8x1x8x1, .f32⟩
  | .hbm, ⟨41, _⟩ => ⟨S4x64x8x16, .f32⟩
  | .hbm, ⟨42, _⟩ => ⟨S4x1x64x8x16, .f32⟩
  | .hbm, ⟨43, _⟩ => ⟨S4x8x64x8x16, .f32⟩
  | .hbm, ⟨44, _⟩ => ⟨S4x8x64x8x16, .f32⟩
  | .hbm, ⟨45, _⟩ => ⟨S4x8x64x8x16, .f32⟩
  | .hbm, ⟨46, _⟩ => ⟨S4x512x128, .f32⟩
  | .hbm, ⟨47, _⟩ => ⟨S4x8x16x64, .f32⟩
  | .hbm, ⟨48, _⟩ => ⟨S8x8, .f32⟩
  | .hbm, ⟨49, _⟩ => ⟨S1x8x1x8x1, .f32⟩
  | .hbm, ⟨50, _⟩ => ⟨S4x64x8x16, .f32⟩
  | .hbm, ⟨51, _⟩ => ⟨S4x1x64x8x16, .f32⟩
  | .hbm, ⟨52, _⟩ => ⟨S4x8x64x8x16, .f32⟩
  | .hbm, ⟨53, _⟩ => ⟨S4x8x64x8x16, .f32⟩
  | .hbm, ⟨54, _⟩ => ⟨S4x8x64x8x16, .f32⟩
  | .hbm, ⟨55, _⟩ => ⟨S4x512x128, .f32⟩
  | .hbm, ⟨56, _⟩ => ⟨S4x512x128, .f32⟩
  | .hbm, ⟨57, _⟩ => ⟨S4x1024x128, .f32⟩
  | .hbm, ⟨58, _⟩ => ⟨S4x1024x128, .bf16⟩
  | .hbm, ⟨59, _⟩ => ⟨S4x128x512, .bf16⟩
  | .hbm, ⟨60, _⟩ => ⟨S128x2048, .f32⟩
  | .hbm, ⟨61, _⟩ => ⟨S128x2048, .f32⟩
  | .hbm, ⟨62, _⟩ => ⟨S2048, .f32⟩
  | .hbm, ⟨63, _⟩ => ⟨S2048, .f32⟩
  | .hbm, ⟨64, _⟩ => ⟨S512, .f32⟩
  | .hbm, ⟨65, _⟩ => ⟨S512x512, .bf16⟩
  | .hbm, ⟨66, _⟩ => ⟨S1x2048, .f32⟩
  | .hbm, ⟨67, _⟩ => ⟨S1x2048, .f32⟩
  | .hbm, ⟨68, _⟩ => ⟨S1x512, .f32⟩
  | .hbm, ⟨69, _⟩ => ⟨S1x512, .f32⟩
  | .hbm, ⟨70, _⟩ => ⟨S1x512, .f32⟩
  | .hbm, ⟨71, _⟩ => ⟨S4x128x512, .bf16⟩
  | .hbm, ⟨72, _⟩ => ⟨S128x2048, .f32⟩
  | .hbm, ⟨73, _⟩ => ⟨S128x2048, .f32⟩
  | .local _ .vmem, ⟨0, _⟩ => ⟨S4x64x512, .bf16⟩
  | .local _ .vmem, ⟨1, _⟩ => ⟨S4x64x512, .bf16⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S1x2048, .f32⟩
  | .local _ .vmem, ⟨7, _⟩ => ⟨S1x2048, .f32⟩
  | .local _ .vmem, ⟨8, _⟩ => ⟨S4x128x1024, .bf16⟩
  | .local _ .vmem, ⟨9, _⟩ => ⟨S4x1024x128, .bf16⟩
  | .local _ .vmem, ⟨10, _⟩ => ⟨S1x512, .f32⟩
  | .local _ .vmem, ⟨11, _⟩ => ⟨S512x512, .bf16⟩
  | .local _ .vmem, ⟨12, _⟩ => ⟨S1x512, .f32⟩
  | .local _ .vmem, ⟨13, _⟩ => ⟨S1x512, .f32⟩
  | .local _ .vmem, ⟨14, _⟩ => ⟨S4x64x512, .bf16⟩
  | .local _ .vmem, ⟨15, _⟩ => ⟨S4x64x512, .bf16⟩
  | .local _ .vmem, ⟨16, _⟩ => ⟨S64x2048, .f32⟩
  | .local _ .vmem, ⟨17, _⟩ => ⟨S64x2048, .f32⟩
  | .local _ .vmem, ⟨18, _⟩ => ⟨S64x2048, .f32⟩
  | .local _ .vmem, ⟨19, _⟩ => ⟨S64x2048, .f32⟩
  | _, _ => ⟨S128x4x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57_0 : Ref sig .tc := ⟨.hbm, 71, rfl⟩
abbrev main_v57_1 : Ref sig .tc := ⟨.hbm, 72, rfl⟩
abbrev main_v57_2 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4x64x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference5Ideal.lean ====
abbrev S128x4x512 : Shape := ⟨3, ![128, 4, 512]⟩
abbrev S128x32x64 : Shape := ⟨3, ![128, 32, 64]⟩
abbrev S32x64 : Shape := ⟨2, ![32, 64]⟩
abbrev S32x64x16 : Shape := ⟨3, ![32, 64, 16]⟩
abbrev S32x16x64 : Shape := ⟨3, ![32, 16, 64]⟩
abbrev S32x16 : Shape := ⟨2, ![32, 16]⟩
abbrev S512x512 : Shape := ⟨2, ![512, 512]⟩
abbrev S512 : Shape := ⟨1, ![512]⟩
abbrev S128x4x32x16 : Shape := ⟨4, ![128, 4, 32, 16]⟩
abbrev S32x128x4x64 : Shape := ⟨4, ![32, 128, 4, 64]⟩
abbrev S128x4x32x64 : Shape := ⟨4, ![128, 4, 32, 64]⟩
abbrev S1x32x64 : Shape := ⟨3, ![1, 32, 64]⟩
abbrev S128x1x32x64 : Shape := ⟨4, ![128, 1, 32, 64]⟩
abbrev S32x128x16 : Shape := ⟨3, ![32, 128, 16]⟩
abbrev S128x32x16 : Shape := ⟨3, ![128, 32, 16]⟩
abbrev S128x1x32x16 : Shape := ⟨4, ![128, 1, 32, 16]⟩
abbrev S1x32x16 : Shape := ⟨3, ![1, 32, 16]⟩
abbrev S1x128x32x16 : Shape := ⟨4, ![1, 128, 32, 16]⟩
abbrev S4x128x32x16 : Shape := ⟨4, ![4, 128, 32, 16]⟩
abbrev S4x128x512 : Shape := ⟨3, ![4, 128, 512]⟩
abbrev S_ : Shape := ⟨0, ![]⟩
abbrev S1x1x512 : Shape := ⟨3, ![1, 1, 512]⟩
abbrev S4x128 : Shape := ⟨2, ![4, 128]⟩
abbrev S4x128x1 : Shape := ⟨3, ![4, 128, 1]⟩
abbrev S128x2048 : Shape := ⟨2, ![128, 2048]⟩

abbrev nBuf : Space → Nat
  | .hbm => 202
  | .vmem => 0
  | .smem => 0
  | _ => 0

abbrev hbmTy0_0 (i : Nat) : BufTy := match i % 128 with
  | 0 => ⟨S128x4x512, .bf16⟩
  | 1 => ⟨S128x32x64, .f32⟩
  | 2 => ⟨S128x32x64, .f32⟩
  | 3 => ⟨S32x64, .f32⟩
  | 4 => ⟨S32x64, .f32⟩
  | 5 => ⟨S32x64x16, .f32⟩
  | 6 => ⟨S32x64x16, .f32⟩
  | 7 => ⟨S32x16x64, .f32⟩
  | 8 => ⟨S32x16x64, .f32⟩
  | 9 => ⟨S32x16, .f32⟩
  | 10 => ⟨S512x512, .f32⟩
  | 11 => ⟨S512, .f32⟩
  | 12 => ⟨S512, .f32⟩
  | 13 => ⟨S128x4x512, .f32⟩
  | 14 => ⟨S128x4x32x16, .f32⟩
  | 15 => ⟨S32x128x4x64, .f32⟩
  | 16 => ⟨S128x4x32x64, .f32⟩
  | 17 => ⟨S32x128x4x64, .f32⟩
  | 18 => ⟨S128x4x32x64, .f32⟩
  | 19 => ⟨S1x32x64, .f32⟩
  | 20 => ⟨S128x32x64, .f32⟩
  | 21 => ⟨S128x32x64, .f32⟩
  | 22 => ⟨S1x32x64, .f32⟩
  | 23 => ⟨S128x32x64, .f32⟩
  | 24 => ⟨S128x32x64, .f32⟩
  | 25 => ⟨S128x32x64, .f32⟩
  | 26 => ⟨S128x1x32x64, .f32⟩
  | 27 => ⟨S128x32x64, .f32⟩
  | 28 => ⟨S128x32x64, .f32⟩
  | 29 => ⟨S1x32x64, .f32⟩
  | 30 => ⟨S128x32x64, .f32⟩
  | 31 => ⟨S128x32x64, .f32⟩
  | 32 => ⟨S1x32x64, .f32⟩
  | 33 => ⟨S128x32x64, .f32⟩
  | 34 => ⟨S128x32x64, .f32⟩
  | 35 => ⟨S128x32x64, .f32⟩
  | 36 => ⟨S128x1x32x64, .f32⟩
  | 37 => ⟨S128x32x64, .f32⟩
  | 38 => ⟨S128x32x64, .f32⟩
  | 39 => ⟨S32x128x16, .f32⟩
  | 40 => ⟨S128x32x16, .f32⟩
  | 41 => ⟨S32x16x64, .f32⟩
  | 42 => ⟨S32x128x16, .f32⟩
  | 43 => ⟨S128x32x16, .f32⟩
  | 44 => ⟨S128x32x16, .f32⟩
  | 45 => ⟨S128x1x32x16, .f32⟩
  | 46 => ⟨S128x32x16, .f32⟩
  | 47 => ⟨S1x32x16, .f32⟩
  | 48 => ⟨S128x32x16, .f32⟩
  | 49 => ⟨S128x32x16, .f32⟩
  | 50 => ⟨S128x32x16, .f32⟩
  | 51 => ⟨S1x32x64, .f32⟩
  | 52 => ⟨S128x32x64, .f32⟩
  | 53 => ⟨S128x32x64, .f32⟩
  | 54 => ⟨S1x32x64, .f32⟩
  | 55 => ⟨S128x32x64, .f32⟩
  | 56 => ⟨S128x32x64, .f32⟩
  | 57 => ⟨S128x32x64, .f32⟩
  | 58 => ⟨S128x1x32x64, .f32⟩
  | 59 => ⟨S128x32x64, .f32⟩
  | 60 => ⟨S128x32x64, .f32⟩
  | 61 => ⟨S1x32x64, .f32⟩
  | 62 => ⟨S128x32x64, .f32⟩
  | 63 => ⟨S128x32x64, .f32⟩
  | 64 => ⟨S1x32x64, .f32⟩
  | 65 => ⟨S128x32x64, .f32⟩
  | 66 => ⟨S128x32x64, .f32⟩
  | 67 => ⟨S128x32x64, .f32⟩
  | 68 => ⟨S128x1x32x64, .f32⟩
  | 69 => ⟨S128x32x64, .f32⟩
  | 70 => ⟨S128x32x64, .f32⟩
  | 71 => ⟨S32x128x16, .f32⟩
  | 72 => ⟨S128x32x16, .f32⟩
  | 73 => ⟨S32x16x64, .f32⟩
  | 74 => ⟨S32x128x16, .f32⟩
  | 75 => ⟨S128x32x16, .f32⟩
  | 76 => ⟨S128x32x16, .f32⟩
  | 77 => ⟨S128x1x32x16, .f32⟩
  | 78 => ⟨S128x32x16, .f32⟩
  | 79 => ⟨S1x32x16, .f32⟩
  | 80 => ⟨S128x32x16, .f32⟩
  | 81 => ⟨S128x32x16, .f32⟩
  | 82 => ⟨S128x32x16, .f32⟩
  | 83 => ⟨S1x32x64, .f32⟩
  | 84 => ⟨S128x32x64, .f32⟩
  | 85 => ⟨S128x32x64, .f32⟩
  | 86 => ⟨S1x32x64, .f32⟩
  | 87 => ⟨S128x32x64, .f32⟩
  | 88 => ⟨S128x32x64, .f32⟩
  | 89 => ⟨S128x32x64, .f32⟩
  | 90 => ⟨S128x1x32x64, .f32⟩
  | 91 => ⟨S128x32x64, .f32⟩
  | 92 => ⟨S128x32x64, .f32⟩
  | 93 => ⟨S1x32x64, .f32⟩
  | 94 => ⟨S128x32x64, .f32⟩
  | 95 => ⟨S128x32x64, .f32⟩
  | 96 => ⟨S1x32x64, .f32⟩
  | 97 => ⟨S128x32x64, .f32⟩
  | 98 => ⟨S128x32x64, .f32⟩
  | 99 => ⟨S128x32x64, .f32⟩
  | 100 => ⟨S128x1x32x64, .f32⟩
  | 101 => ⟨S128x32x64, .f32⟩
  | 102 => ⟨S128x32x64, .f32⟩
  | 103 => ⟨S32x128x16, .f32⟩
  | 104 => ⟨S128x32x16, .f32⟩
  | 105 => ⟨S32x16x64, .f32⟩
  | 106 => ⟨S32x128x16, .f32⟩
  | 107 => ⟨S128x32x16, .f32⟩
  | 108 => ⟨S128x32x16, .f32⟩
  | 109 => ⟨S128x1x32x16, .f32⟩
  | 110 => ⟨S128x32x16, .f32⟩
  | 111 => ⟨S1x32x16, .f32⟩
  | 112 => ⟨S128x32x16, .f32⟩
  | 113 => ⟨S128x32x16, .f32⟩
  | 114 => ⟨S128x32x16, .f32⟩
  | 115 => ⟨S1x32x64, .f32⟩
  | 116 => ⟨S128x32x64, .f32⟩
  | 117 => ⟨S128x32x64, .f32⟩
  | 118 => ⟨S1x32x64, .f32⟩
  | 119 => ⟨S128x32x64, .f32⟩
  | 120 => ⟨S128x32x64, .f32⟩
  | 121 => ⟨S128x32x64, .f32⟩
  | 122 => ⟨S128x1x32x64, .f32⟩
  | 123 => ⟨S128x32x64, .f32⟩
  | 124 => ⟨S128x32x64, .f32⟩
  | 125 => ⟨S1x32x64, .f32⟩
  | 126 => ⟨S128x32x64, .f32⟩
  | 127 => ⟨S128x32x64, .f32⟩
  | _ => ⟨S128x4x512, .bf16⟩

abbrev hbmTy0_1 (i : Nat) : BufTy := match i % 128 with
  | 0 => ⟨S1x32x64, .f32⟩
  | 1 => ⟨S128x32x64, .f32⟩
  | 2 => ⟨S128x32x64, .f32⟩
  | 3 => ⟨S128x32x64, .f32⟩
  | 4 => ⟨S128x1x32x64, .f32⟩
  | 5 => ⟨S128x32x64, .f32⟩
  | 6 => ⟨S128x32x64, .f32⟩
  | 7 => ⟨S32x128x16, .f32⟩
  | 8 => ⟨S128x32x16, .f32⟩
  | 9 => ⟨S32x16x64, .f32⟩
  | 10 => ⟨S32x128x16, .f32⟩
  | 11 => ⟨S128x32x16, .f32⟩
  | 12 => ⟨S128x32x16, .f32⟩
  | 13 => ⟨S128x1x32x16, .f32⟩
  | 14 => ⟨S128x32x16, .f32⟩
  | 15 => ⟨S1x32x16, .f32⟩
  | 16 => ⟨S128x32x16, .f32⟩
  | 17 => ⟨S128x32x16, .f32⟩
  | 18 => ⟨S128x32x16, .f32⟩
  | 19 => ⟨S1x128x32x16, .f32⟩
  | 20 => ⟨S1x128x32x16, .f32⟩
  | 21 => ⟨S1x128x32x16, .f32⟩
  | 22 => ⟨S1x128x32x16, .f32⟩
  | 23 => ⟨S4x128x32x16, .f32⟩
  | 24 => ⟨S4x128x512, .f32⟩
  | 25 => ⟨S4x128x512, .f32⟩
  | 26 => ⟨S4x128x512, .f32⟩
  | 27 => ⟨S_, .f32⟩
  | 28 => ⟨S4x128x512, .f32⟩
  | 29 => ⟨S4x128x512, .f32⟩
  | 30 => ⟨S4x128x512, .f32⟩
  | 31 => ⟨S_, .f32⟩
  | 32 => ⟨S4x128x512, .f32⟩
  | 33 => ⟨S4x128x512, .f32⟩
  | 34 => ⟨S4x128x512, .f32⟩
  | 35 => ⟨S_, .f32⟩
  | 36 => ⟨S4x128x512, .f32⟩
  | 37 => ⟨S4x128x512, .f32⟩
  | 38 => ⟨S_, .f32⟩
  | 39 => ⟨S4x128x512, .f32⟩
  | 40 => ⟨S4x128x512, .f32⟩
  | 41 => ⟨S4x128x512, .f32⟩
  | 42 => ⟨S4x128x512, .f32⟩
  | 43 => ⟨S1x1x512, .f32⟩
  | 44 => ⟨S4x128x512, .f32⟩
  | 45 => ⟨S4x128x512, .f32⟩
  | 46 => ⟨S4x128x512, .f32⟩
  | 47 => ⟨S4x128x512, .f32⟩
  | 48 => ⟨S_, .f32⟩
  | 49 => ⟨S4x128x512, .f32⟩
  | 50 => ⟨S4x128x512, .f32⟩
  | 51 => ⟨S_, .f32⟩
  | 52 => ⟨S4x128x512, .f32⟩
  | 53 => ⟨S4x128x512, .f32⟩
  | 54 => ⟨S4x128x512, .f32⟩
  | 55 => ⟨S4x128x512, .f32⟩
  | 56 => ⟨S_, .f32⟩
  | 57 => ⟨S4x128, .f32⟩
  | 58 => ⟨S4x128x1, .f32⟩
  | 59 => ⟨S_, .f32⟩
  | 60 => ⟨S4x128x1, .f32⟩
  | 61 => ⟨S4x128x1, .f32⟩
  | 62 => ⟨S_, .f32⟩
  | 63 => ⟨S4x128x1, .f32⟩
  | 64 => ⟨S4x128x1, .f32⟩
  | 65 => ⟨S4x128x1, .f32⟩
  | 66 => ⟨S4x128x512, .f32⟩
  | 67 => ⟨S4x128x512, .f32⟩
  | 68 => ⟨S1x1x512, .f32⟩
  | 69 => ⟨S4x128x512, .f32⟩
  | 70 => ⟨S4x128x512, .f32⟩
  | 71 => ⟨S4x128x512, .bf16⟩
  | 72 => ⟨S128x2048, .f32⟩
  | 73 => ⟨S128x2048, .f32⟩
  | _ => ⟨S128x4x512, .bf16⟩

abbrev hbmTy (i : Nat) : BufTy := match i / 128 with
  | 0 => hbmTy0_0 i
  | 1 => hbmTy0_1 i
  | _ => ⟨S128x4x512, .bf16⟩

abbrev bufTy : (tb : Table) → Fin (tcTables nBuf tb) → BufTy
  | .hbm, ⟨i, _⟩ => hbmTy i
  | _, _ => ⟨S128x4x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_cst : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_cst_0 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_cst_1 : Ref sig .tc := ⟨.hbm, 163, rfl⟩
abbrev main_v148 : Ref sig .tc := ⟨.hbm, 164, rfl⟩
abbrev main_v149 : Ref sig .tc := ⟨.hbm, 165, rfl⟩
abbrev main_cst_2 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_cst_3 : Ref sig .tc := ⟨.hbm, 176, rfl⟩
abbrev main_v159 : Ref sig .tc := ⟨.hbm, 177, rfl⟩
abbrev main_v160 : Ref sig .tc := ⟨.hbm, 178, rfl⟩
abbrev main_cst_4 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_v164 : Ref sig .tc := ⟨.hbm, 183, rfl⟩
abbrev main_cst_5 : Ref sig .tc := ⟨.hbm, 184, rfl⟩
abbrev main_v165 : Ref sig .tc := ⟨.hbm, 185, rfl⟩
abbrev main_v166 : Ref sig .tc := ⟨.hbm, 186, rfl⟩
abbrev main_cst_6 : Ref sig .tc := ⟨.hbm, 187, rfl⟩
abbrev main_v167 : Ref sig .tc := ⟨.hbm, 188, rfl⟩
abbrev main_v168 : Ref sig .tc := ⟨.hbm, 189, rfl⟩
abbrev main_cst_7 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩

abbrev nD : Nat := 1
abbrev τ : Topo := Topo.v7x

variable {F : FTy → Type} [FloatOps F]
-- ==== Proof.Soft.lean ====
/-
  Weighted averages over the extended reals. A score is the logarithm of a weight `w ≥ 0` (the logarithm of 0 is `⊥`: a key
  that is masked out). Subtracting any real `M`, exponentiating and dividing by the sum gives the weights over their sum, so
  the choice of `M` does not matter; and averages of parts merge, by their own sums, into the average of the whole.
-/
module

public import Idealize.ShloMosaic.Lib.Pipeline.ValueKit

@[expose] public section

noncomputable section

open Idealize.ShloMosaic

namespace Cert.Soft

/-- Multiplication by a nonnegative real is additive on the extended reals. -/
theorem mul_add_real (a : ℝ) (ha : 0 ≤ a) (x y : EReal) : (a : EReal) * (x + y) = a * x + a * y :=
  EReal.left_distrib_of_nonneg_of_ne_top (EReal.coe_nonneg.mpr ha) (EReal.coe_ne_top a) x y

theorem mul_sum_real {ι : Type} (s : Finset ι) (a : ℝ) (ha : 0 ≤ a) (f : ι → EReal) :
    (a : EReal) * ∑ i ∈ s, f i = ∑ i ∈ s, (a : EReal) * f i := by
  classical
  induction s using Finset.induction_on with
  | empty => simp
  | insert i s hi ih => rw [Finset.sum_insert hi, Finset.sum_insert hi, mul_add_real a ha, ih]

/-- Nonnegative real weights of one value add. -/
theorem add_mul_real (a b : ℝ) (ha : 0 ≤ a) (hb : 0 ≤ b) (x : EReal) :
    ((a + b : ℝ) : EReal) * x = a * x + b * x := by
  rw [EReal.coe_add]
  exact EReal.right_distrib_of_nonneg (EReal.coe_nonneg.mpr ha) (EReal.coe_nonneg.mpr hb)

theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The pattern of minus infinity. -/
theorem ofBits_bot : Ideal.ofBits FTy.f32 0xFF800000#32 = ⊥ := by simp [Ideal.ofBits, Ideal.ieee]

/-- The pattern of infinity. -/
theorem ofBits_top : Ideal.ofBits FTy.f32 0x7F800000#32 = ⊤ := by simp [Ideal.ofBits, Ideal.ieee]

theorem log_coe_pos {w : ℝ} (hw : 0 < w) : Ideal.log (w : EReal) = (Real.log w : EReal) := by
  show (if w ≤ 0 then ⊥ else (Real.log w : EReal)) = _
  rw [if_neg (not_le.mpr hw)]

theorem log_coe_zero : Ideal.log ((0 : ℝ) : EReal) = ⊥ := by
  show (if (0 : ℝ) ≤ 0 then ⊥ else (Real.log 0 : EReal)) = _
  rw [if_pos le_rfl]

theorem log_ne_top (w : ℝ) : Ideal.log (w : EReal) ≠ ⊤ := by
  show (if w ≤ 0 then ⊥ else (Real.log w : EReal)) ≠ ⊤
  split
  · exact bot_ne_top
  · exact EReal.coe_ne_top _

theorem log_exp (S : ℝ) : Ideal.log ((Real.exp S : ℝ) : EReal) = (S : EReal) := by
  rw [log_coe_pos (Real.exp_pos S), Real.log_exp]

/-- The exponential of a shifted score is its weight, scaled. -/
theorem exp_log_sub (w M : ℝ) (hw : 0 ≤ w) :
    Ideal.exp (Ideal.log (w : EReal) - (M : EReal)) = ((w * Real.exp (-M) : ℝ) : EReal) := by
  rcases hw.eq_or_lt with h | h
  · subst h
    rw [log_coe_zero, EReal.bot_sub, zero_mul]
    rfl
  · rw [log_coe_pos h, ← EReal.coe_sub]
    show ((Real.exp (Real.log w - M) : ℝ) : EReal) = _
    rw [sub_eq_add_neg, Real.exp_add, Real.exp_log h]

/-- A real score with the logarithm of a multiplicity `k` is the score of the weight `k exp S`. -/
theorem score_add (S k : ℝ) (hk : 0 ≤ k) : (S : EReal) + Ideal.log (k : EReal) = Ideal.log ((k * Real.exp S : ℝ) : EReal) := by
  rcases hk.eq_or_lt with h | h
  · subst h
    rw [zero_mul, log_coe_zero, EReal.add_bot]
  · rw [log_coe_pos h, log_coe_pos (mul_pos h (Real.exp_pos S)), ← EReal.coe_add, Real.log_mul h.ne' (Real.exp_pos S).ne',
      Real.log_exp, add_comm]

theorem div_real (x : EReal) (l : ℝ) (hl : 0 < l) : Ideal.div x (l : EReal) = x * ((l⁻¹ : ℝ) : EReal) := by
  unfold Ideal.div
  rw [if_neg (by exact_mod_cast hl.ne'), EReal.coe_inv]

/-- The greatest of finitely many scores, not all masked, is a real. -/
theorem fold_real {ι : Type} [Fintype ι] (f : ι → EReal) (h1 : ∀ i, f i ≠ ⊤) (h2 : ∃ i, f i ≠ ⊥) :
    ∃ M : ℝ, Finset.fold max ⊥ f Finset.univ = (M : EReal) := by
  have ht : Finset.fold max ⊥ f Finset.univ < ⊤ :=
    (Finset.fold_max_lt _).mpr ⟨bot_lt_top, fun i _ => lt_top_iff_ne_top.mpr (h1 i)⟩
  have hb : ⊥ < Finset.fold max ⊥ f Finset.univ := by
    obtain ⟨i, hi⟩ := h2
    exact (Finset.lt_fold_max _).mpr (Or.inr ⟨i, Finset.mem_univ i, bot_lt_iff_ne_bot.mpr hi⟩)
  exact ⟨_, (EReal.coe_toReal ht.ne hb.ne').symm⟩

theorem fold_ne_top {ι : Type} [Fintype ι] (f : ι → EReal) (h1 : ∀ i, f i ≠ ⊤) : Finset.fold max ⊥ f Finset.univ ≠ ⊤ :=
  ((Finset.fold_max_lt _).mpr ⟨bot_lt_top, fun i _ => lt_top_iff_ne_top.mpr (h1 i)⟩).ne

theorem max_real (x : EReal) (M : ℝ) (hx : x ≠ ⊤) : ∃ M' : ℝ, max x (M : EReal) = (M' : EReal) := by
  rcases max_choice x (M : EReal) with h | h
  · have : x ≠ ⊥ := fun hb => by
      rw [hb, max_eq_right bot_le] at h
      exact EReal.coe_ne_bot M h
    exact ⟨x.toReal, by rw [h, EReal.coe_toReal hx this]⟩
  · exact ⟨M, h⟩

variable {ι κ : Type} [Fintype ι] [Fintype κ]

/-- The sum of the scaled weights. -/
theorem sum_exp (w : ι → ℝ) (hw : ∀ i, 0 ≤ w i) (M : ℝ) :
    (∑ i, Ideal.exp (Ideal.log (w i : EReal) - (M : EReal))) = (((∑ i, w i) * Real.exp (-M) : ℝ) : EReal) := by
  rw [Finset.sum_mul, coe_sum]
  exact Finset.sum_congr rfl fun i _ => exp_log_sub _ _ (hw i)

/-- The scaled weights' sum of the values. -/
theorem sum_exp_mul (w : ι → ℝ) (hw : ∀ i, 0 ≤ w i) (M : ℝ) (v : ι → EReal) :
    (∑ i, Ideal.exp (Ideal.log (w i : EReal) - (M : EReal)) * v i)
      = ((Real.exp (-M) : ℝ) : EReal) * ∑ i, (w i : EReal) * v i := by
  rw [mul_sum_real _ _ (Real.exp_pos _).le]
  refine Finset.sum_congr rfl fun i _ => ?_
  rw [exp_log_sub _ _ (hw i), EReal.coe_mul, mul_assoc, mul_left_comm]

/-- One branch: its average of the values, whatever real is subtracted. -/
theorem branch (w : ι → ℝ) (hw : ∀ i, 0 ≤ w i) (hW : 0 < ∑ i, w i) (M : ℝ) (v : ι → EReal) :
    Ideal.div (∑ i, Ideal.exp (Ideal.log (w i : EReal) - (M : EReal)) * v i)
        (∑ i, Ideal.exp (Ideal.log (w i : EReal) - (M : EReal)))
      = (∑ i, (w i : EReal) * v i) * (((∑ i, w i)⁻¹ : ℝ) : EReal) := by
  rw [sum_exp w hw, sum_exp_mul w hw, div_real _ _ (mul_pos hW (Real.exp_pos _)), mul_comm ((Real.exp (-M) : ℝ) : EReal),
    mul_assoc, ← EReal.coe_mul]
  congr 3
  rw [mul_inv, mul_comm, mul_assoc, inv_mul_cancel₀ (Real.exp_pos _).ne', mul_one]

/-- One branch's logarithm of the sum of exponentials. -/
theorem branch_lse (w : ι → ℝ) (hw : ∀ i, 0 ≤ w i) (hW : 0 < ∑ i, w i) (M : ℝ) :
    (M : EReal) + Ideal.log (∑ i, Ideal.exp (Ideal.log (w i : EReal) - (M : EReal))) = Ideal.log ((∑ i, w i : ℝ) : EReal) := by
  rw [sum_exp w hw, log_coe_pos (mul_pos hW (Real.exp_pos _)), log_coe_pos hW, Real.log_mul hW.ne' (Real.exp_pos _).ne',
    Real.log_exp, ← EReal.coe_add]
  congr 1
  ring

/-- Two runs of scores under one maximum: the average over both. -/
theorem two (w : ι → ℝ) (hw : ∀ i, 0 ≤ w i) (u : κ → ℝ) (hu : ∀ i, 0 ≤ u i) (hW : 0 < (∑ i, w i) + ∑ i, u i) (M : ℝ)
    (v : ι → EReal) (y : κ → EReal) :
    Ideal.div ((∑ i, Ideal.exp (Ideal.log (w i : EReal) - (M : EReal)) * v i)
          + ∑ i, Ideal.exp (Ideal.log (u i : EReal) - (M : EReal)) * y i)
        ((∑ i, Ideal.exp (Ideal.log (w i : EReal) - (M : EReal))) + ∑ i, Ideal.exp (Ideal.log (u i : EReal) - (M : EReal)))
      = ((∑ i, (w i : EReal) * v i) + ∑ i, (u i : EReal) * y i) * ((((∑ i, w i) + ∑ i, u i)⁻¹ : ℝ) : EReal) := by
  have h := branch (ι := ι ⊕ κ) (Sum.elim w u) (by rintro (i | i); exacts [hw i, hu i]) (by simpa [Fintype.sum_sum_type] using hW) M
    (Sum.elim v y)
  simp only [Fintype.sum_sum_type, Sum.elim_inl, Sum.elim_inr] at h
  exact h

/-- The merge: averages of the branches, each taken with its share of the total weight, are the average of all. -/
theorem merge (L : ι → ℝ) (hL : ∀ i, 0 < L i) (hT : 0 < ∑ i, L i) (M : ℝ) (N : ι → EReal) :
    (∑ i, Ideal.div (Ideal.exp (Ideal.log (L i : EReal) - (M : EReal)))
          (∑ j, Ideal.exp (Ideal.log (L j : EReal) - (M : EReal))) * (N i * (((L i)⁻¹ : ℝ) : EReal)))
      = (∑ i, N i) * (((∑ i, L i)⁻¹ : ℝ) : EReal) := by
  rw [mul_comm, mul_sum_real _ _ (inv_nonneg.mpr hT.le)]
  refine Finset.sum_congr rfl fun i _ => ?_
  rw [sum_exp L fun i => (hL i).le, exp_log_sub _ _ (hL i).le, div_real _ _ (mul_pos hT (Real.exp_pos _)), ← EReal.coe_mul,
    mul_comm (N i), ← mul_assoc, ← EReal.coe_mul]
  congr 2
  have := (Real.exp_pos (-M)).ne'
  have := (hL i).ne'
  field_simp

/-- A branch as the programs write it: its scores' own maximum is what is subtracted. -/
theorem branch_max (f : ι → EReal) (w : ι → ℝ) (hw : ∀ i, 0 ≤ w i) (hf : ∀ i, f i = Ideal.log (w i : EReal))
    (hW : 0 < ∑ i, w i) (v : ι → EReal) :
    Ideal.div (∑ i, Ideal.exp (f i - Finset.fold max ⊥ f Finset.univ) * v i)
        (∑ i, Ideal.exp (f i - Finset.fold max ⊥ f Finset.univ))
      = (∑ i, (w i : EReal) * v i) * (((∑ i, w i)⁻¹ : ℝ) : EReal)
    ∧ Finset.fold max ⊥ f Finset.univ + Ideal.log (∑ i, Ideal.exp (f i - Finset.fold max ⊥ f Finset.univ))
      = Ideal.log ((∑ i, w i : ℝ) : EReal) := by
  obtain ⟨i, -, hi⟩ := Finset.exists_lt_of_sum_lt (s := Finset.univ) (f := fun _ : ι => (0 : ℝ)) (g := w) (by simpa using hW)
  obtain ⟨M, hM⟩ := fold_real f (fun i => by rw [hf]; exact log_ne_top _)
    ⟨i, by rw [hf, log_coe_pos hi]; exact EReal.coe_ne_bot _⟩
  rw [hM]
  simp only [hf]
  exact ⟨branch w hw hW M v, branch_lse w hw hW M⟩

/-- The merge as the reference writes it: a softmax over the branches' logarithms, times the branches' averages. -/
theorem merge_max (L : ι → ℝ) (hL : ∀ i, 0 < L i) (hT : 0 < ∑ i, L i) (N A B : ι → EReal)
    (hA : ∀ i, A i = Ideal.log (L i : EReal)) (hB : ∀ i, B i = N i * (((L i)⁻¹ : ℝ) : EReal)) :
    (∑ i, Ideal.div (Ideal.exp (A i - max ⊥ (Finset.fold max ⊥ A Finset.univ)))
          (∑ j, Ideal.exp (A j - max ⊥ (Finset.fold max ⊥ A Finset.univ))) * B i)
      = (∑ i, N i) * (((∑ i, L i)⁻¹ : ℝ) : EReal) := by
  obtain ⟨i, -, hi⟩ := Finset.exists_lt_of_sum_lt (s := Finset.univ) (f := fun _ : ι => (0 : ℝ)) (g := L) (by simpa using hT)
  obtain ⟨M, hM⟩ := fold_real A (fun i => by rw [hA]; exact log_ne_top _)
    ⟨i, by rw [hA, log_coe_pos hi]; exact EReal.coe_ne_bot _⟩
  rw [hM, max_eq_right bot_le]
  simp only [hA, hB]
  exact merge L hL hT M N

/-- Two runs of scores as the kernel writes them: the greater of their maxima is what is subtracted. -/
theorem two_max (f : ι → EReal) (g : κ → EReal) (w : ι → ℝ) (hw : ∀ i, 0 ≤ w i) (u : κ → ℝ) (hu : ∀ i, 0 ≤ u i)
    (hf : ∀ i, f i = Ideal.log (w i : EReal)) (hg : ∀ i, g i = Ideal.log (u i : EReal)) (hU : 0 < ∑ i, u i)
    (v : ι → EReal) (y : κ → EReal) :
    Ideal.div ((∑ i, Ideal.exp (f i - max (Finset.fold max ⊥ f Finset.univ) (Finset.fold max ⊥ g Finset.univ)) * v i)
          + ∑ i, Ideal.exp (g i - max (Finset.fold max ⊥ f Finset.univ) (Finset.fold max ⊥ g Finset.univ)) * y i)
        ((∑ i, Ideal.exp (f i - max (Finset.fold max ⊥ f Finset.univ) (Finset.fold max ⊥ g Finset.univ)))
          + ∑ i, Ideal.exp (g i - max (Finset.fold max ⊥ f Finset.univ) (Finset.fold max ⊥ g Finset.univ)))
      = ((∑ i, (w i : EReal) * v i) + ∑ i, (u i : EReal) * y i) * ((((∑ i, w i) + ∑ i, u i)⁻¹ : ℝ) : EReal) := by
  obtain ⟨i, -, hi⟩ := Finset.exists_lt_of_sum_lt (s := Finset.univ) (f := fun _ : κ => (0 : ℝ)) (g := u) (by simpa using hU)
  obtain ⟨M, hM⟩ := fold_real g (fun i => by rw [hg]; exact log_ne_top _)
    ⟨i, by rw [hg, log_coe_pos hi]; exact EReal.coe_ne_bot _⟩
  obtain ⟨M', hM'⟩ := max_real (Finset.fold max ⊥ f Finset.univ) M (fold_ne_top f fun i => by rw [hf]; exact log_ne_top _)
  rw [hM, hM']
  simp only [hf, hg]
  exact two w hw u hu (add_pos_of_nonneg_of_pos (Finset.sum_nonneg fun i _ => hw i) hU) M' v y

end Cert.Soft
-- ==== Proof.Patterns.lean ====
/-
  The three dilated patterns over the positions: 2048 cached ones, 4 new ones, and padding up to 2176. A branch's sum over
  its 129 steps is a sum over all positions of what it holds, so the three branches together are one sum with multiplicities.
-/
module

public import proofs.«01_k».proof.Proof.Soft

@[expose] public section

noncomputable section

open Idealize.ShloMosaic

namespace Cert.Patterns

/-- Position `j` is in the pattern of dilation `d` and window `w` for query `t`: its distance `2048 + t - j` is a multiple of `d`
    within the window. -/
def Hits (t j d w : ℕ) : Prop := j ≤ 2048 + t ∧ (2048 + t - j) % d = 0 ∧ 2048 + t - j ≤ w

instance (t j d w : ℕ) : Decidable (Hits t j d w) := inferInstanceAs (Decidable (_ ∧ _ ∧ _))

/-- One or nothing: whether the pattern holds the position. -/
def hit (t j d w : ℕ) : ℕ := if Hits t j d w then 1 else 0

/-- In how many of the three patterns position `j` is, for query `t`. -/
def mult (t j : ℕ) : ℕ := hit t j 1 128 + hit t j 4 512 + hit t j 16 2048

theorem mult_le (t j : ℕ) : mult t j ≤ 3 := by
  unfold mult hit
  split_ifs <;> omega

/-- A sum over the steps of one pattern is a sum over the positions that it holds. -/
theorem pos_sum {M : Type} [AddCommMonoid M] (t d : ℕ) (ht : t < 4) (hd : d = 1 ∨ d = 4 ∨ d = 16) (G : ℕ → M) :
    ∑ n : Fin 129, G (2048 + t - d * n.val) = ∑ j : Fin 2176, if Hits t j.val d (128 * d) then G j.val else 0 := by
  rw [← Finset.sum_filter]
  refine Finset.sum_bij (fun n _ => (⟨2048 + t - d * n.val, by omega⟩ : Fin 2176)) ?_ ?_ ?_ ?_
  · intro n _
    rw [Finset.mem_filter]
    refine ⟨Finset.mem_univ _, ?_⟩
    have hn := n.isLt
    unfold Hits
    dsimp only
    rcases hd with rfl | rfl | rfl <;> omega
  · intro a _ b _ h
    have := Fin.mk.inj h
    have ha := a.isLt
    have hb := b.isLt
    apply Fin.ext
    rcases hd with rfl | rfl | rfl <;> omega
  · intro j hj
    rw [Finset.mem_filter] at hj
    obtain ⟨-, h1, h2, h3⟩ := hj
    have hjl := j.isLt
    refine ⟨⟨(2048 + t - j.val) / d, by rcases hd with rfl | rfl | rfl <;> omega⟩, Finset.mem_univ _, ?_⟩
    apply Fin.ext
    dsimp only
    rcases hd with rfl | rfl | rfl <;> omega
  · intro n _
    rfl

theorem hit_mul (t j d w : ℕ) (e : ℝ) (x : EReal) :
    (((hit t j d w : ℝ) * e : ℝ) : EReal) * x = if Hits t j d w then (e : EReal) * x else 0 := by
  unfold hit
  split
  · rw [Nat.cast_one, one_mul]
  · rw [Nat.cast_zero, zero_mul, EReal.coe_zero, zero_mul]

/-- The three branches' weighted sums of the values, as one sum with multiplicities. -/
theorem three_sums (t : ℕ) (ht : t < 4) (e : ℕ → ℝ) (he : ∀ j, 0 ≤ e j) (v : ℕ → EReal) :
    (∑ n : Fin 129, (e (2048 + t - 1 * n.val) : EReal) * v (2048 + t - 1 * n.val))
        + (∑ n : Fin 129, (e (2048 + t - 4 * n.val) : EReal) * v (2048 + t - 4 * n.val))
        + (∑ n : Fin 129, (e (2048 + t - 16 * n.val) : EReal) * v (2048 + t - 16 * n.val))
      = ∑ j : Fin 2176, ((mult t j.val * e j.val : ℝ) : EReal) * v j.val := by
  rw [pos_sum t 1 ht (by omega) fun j => (e j : EReal) * v j, pos_sum t 4 ht (by omega) fun j => (e j : EReal) * v j,
    pos_sum t 16 ht (by omega) fun j => (e j : EReal) * v j, ← Finset.sum_add_distrib, ← Finset.sum_add_distrib]
  refine Finset.sum_congr rfl fun j _ => ?_
  have h : ∀ d w, (0 : ℝ) ≤ (hit t j.val d w : ℝ) * e j.val := fun d w => mul_nonneg (Nat.cast_nonneg _) (he _)
  unfold mult
  rw [Nat.cast_add, Nat.cast_add, add_mul, add_mul, Soft.add_mul_real _ _ (add_nonneg (h _ _) (h _ _)) (h _ _),
    Soft.add_mul_real _ _ (h _ _) (h _ _), hit_mul, hit_mul, hit_mul]

/-- The three branches' sums of weights, likewise. -/
theorem three_weights (t : ℕ) (ht : t < 4) (e : ℕ → ℝ) :
    (∑ n : Fin 129, e (2048 + t - 1 * n.val)) + (∑ n : Fin 129, e (2048 + t - 4 * n.val))
        + (∑ n : Fin 129, e (2048 + t - 16 * n.val))
      = ∑ j : Fin 2176, mult t j.val * e j.val := by
  rw [pos_sum t 1 ht (by omega) e, pos_sum t 4 ht (by omega) e, pos_sum t 16 ht (by omega) e, ← Finset.sum_add_distrib,
    ← Finset.sum_add_distrib]
  refine Finset.sum_congr rfl fun j _ => ?_
  unfold mult hit
  split_ifs <;> norm_num <;> ring

end Cert.Patterns
-- ==== Proof.Bias.lean ====
/-
  The host operands of the sampling attention (`KernelIdeal`): the bias is the logarithm of how many of the three dilated
  patterns hold a position (`⊥` where none does), and the cached keys and values are transposed and flattened.
-/
module

public import proofs.«01_k».proof.Proof.Gen.KernelIdeal.Frame
public import proofs.«01_k».proof.Proof.Patterns
public import proofs.«01_k».proof.Proof.Soft
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen

open Cert.Patterns

/-- The printed count, over the word of the distance. -/
def multWord (x : BitVec 32) : BitVec 32 :=
  IntOp.addi
    (IntOp.addi
      (IntOp.addi (0#32)
        (BitVec.setWidth 32 (IntOp.andi (IntOp.andi (IntOp.cmpi CmpIPredicate.sge x 0#32)
          (IntOp.cmpi CmpIPredicate.eq (IntOp.remsi ArithUnit.host x 1#32) 0#32)) (IntOp.cmpi CmpIPredicate.sle x 128#32))))
      (BitVec.setWidth 32 (IntOp.andi (IntOp.andi (IntOp.cmpi CmpIPredicate.sge x 0#32)
        (IntOp.cmpi CmpIPredicate.eq (IntOp.remsi ArithUnit.host x 4#32) 0#32)) (IntOp.cmpi CmpIPredicate.sle x 512#32))))
    (BitVec.setWidth 32 (IntOp.andi (IntOp.andi (IntOp.cmpi CmpIPredicate.sge x 0#32)
      (IntOp.cmpi CmpIPredicate.eq (IntOp.remsi ArithUnit.host x 16#32) 0#32)) (IntOp.cmpi CmpIPredicate.sle x 2048#32)))

/-- How many patterns hold the distance `i - 127`. -/
def multDist (i : ℕ) : ℕ :=
  (if 127 ≤ i ∧ (i - 127) % 1 = 0 ∧ i - 127 ≤ 128 then 1 else 0) + (if 127 ≤ i ∧ (i - 127) % 4 = 0 ∧ i - 127 ≤ 512 then 1 else 0)
    + (if 127 ≤ i ∧ (i - 127) % 16 = 0 ∧ i - 127 ≤ 2048 then 1 else 0)

theorem multWord_eq : ∀ i : Fin 2179, multWord (BitVec.ofNat 32 i.val - 127#32) = BitVec.ofNat 32 (multDist i.val) := by
  decide +kernel

theorem multDist_eq (t j : ℕ) (ht : t < 4) (hj : j < 2176) : multDist (2175 + t - j) = mult t j := by
  unfold multDist mult hit Hits
  congr 1
  · congr 1
    · refine if_congr ?_ rfl rfl
      omega
    · refine if_congr ?_ rfl rfl
      omega
  · refine if_congr ?_ rfl rfl
    omega

theorem multWord_at (t j : ℕ) (ht : t < 4) (hj : j < 2176) :
    multWord (IntOp.subi (IntOp.addi (2048#32) (BitVec.ofNat 32 t)) (BitVec.ofNat 32 j)) = BitVec.ofNat 32 (mult t j) := by
  have h : IntOp.subi (IntOp.addi (2048#32) (BitVec.ofNat 32 t)) (BitVec.ofNat 32 j)
      = BitVec.ofNat 32 (2175 + t - j) - 127#32 := by
    show (2048#32 + BitVec.ofNat 32 t) - BitVec.ofNat 32 j = _
    bv_omega
  rw [h, multWord_eq ⟨2175 + t - j, by omega⟩, multDist_eq t j ht hj]

/-- The printed bias over the count: its logarithm, and `⊥` for none. -/
theorem bias_value (x : BitVec 32) (k : ℕ) (hk : k ≤ 3) (hx : x = BitVec.ofNat 32 k) :
    Scalar.select (IntOp.cmpi CmpIPredicate.sgt x 0#32)
      (Ideal.log (FloatOps.sitofp (F := Ideal) FTy.f32 (IntOp.maxsi x 1#32))) (Ideal.ofBits FTy.f32 4286578688#32)
      = Ideal.log ((k : ℝ) : EReal) := by
  have e : ∀ z : ℤ, ∀ w : BitVec 32, w.toInt = z → (FloatOps.sitofp (F := Ideal) FTy.f32 w : EReal) = ((z : ℝ) : EReal) := by
    intro z w hz
    subst hz
    rfl
  subst hx
  obtain rfl | rfl | rfl | rfl : k = 0 ∨ k = 1 ∨ k = 2 ∨ k = 3 := by omega
  · show Ideal.ofBits FTy.f32 4286578688#32 = _
    rw [Cert.Soft.ofBits_bot, Nat.cast_zero, Cert.Soft.log_coe_zero]
  · show Ideal.log (FloatOps.sitofp (F := Ideal) FTy.f32 (1#32)) = _
    rw [e 1 _ (by decide)]
    norm_num
  · show Ideal.log (FloatOps.sitofp (F := Ideal) FTy.f32 (2#32)) = _
    rw [e 2 _ (by decide)]
    norm_num
  · show Ideal.log (FloatOps.sitofp (F := Ideal) FTy.f32 (3#32)) = _
    rw [e 3 _ (by decide)]
    norm_num

variable (m : (ℓ : Loc nD τ sig) → Buf (Elt Ideal) ℓ)

/-- The cached keys as the kernel reads them: lane `r` of the 512 is head `r / 64`, place `r % 64`. -/
theorem V54 (c : Dev nD) (b : Fin 128) (r : Fin 512) (l : Fin 2048) :
    (V m c main_v54 (ix3 b r l) : EReal)
      = m ((c : Thread nD τ).loc main_arg3) (ix4 b l ⟨r.val / 64, by omega⟩ ⟨r.val % 64, by omega⟩) := by
  unfold V
  simp only [hostOps0, hostOps0_1, hostOps0_2, List.flatten_cons, List.flatten_nil, List.cons_append, List.nil_append, List.append_nil]
  after_results
  pointwise

/-- The cached values likewise. -/
theorem V56 (c : Dev nD) (b : Fin 128) (r : Fin 512) (l : Fin 2048) :
    (V m c main_v56 (ix3 b r l) : EReal)
      = m ((c : Thread nD τ).loc main_arg4) (ix4 b l ⟨r.val / 64, by omega⟩ ⟨r.val % 64, by omega⟩) := by
  unfold V
  simp only [hostOps0, hostOps0_1, hostOps0_2, List.flatten_cons, List.flatten_nil, List.cons_append, List.nil_append, List.append_nil]
  after_results
  pointwise

/-- The bias of the cached positions. -/
theorem V51 (c : Dev nD) (r : Fin 32) (l : Fin 2048) :
    (V m c main_v51 (ix2 r l) : EReal) = Ideal.log ((mult (r.val / 8) l.val : ℝ) : EReal) := by
  unfold V
  simp only [hostOps0, hostOps0_1, hostOps0_2, List.flatten_cons, List.flatten_nil, List.cons_append, List.nil_append, List.append_nil]
  after_results
  simp -implicitDefEqProofs only [StableHlo.TRef.ofBuf, StableHlo.TRef.toBuf, cast_cast, cast_eq, id_eq]
  pointwise
  exact bias_value _ _ (mult_le _ _) (multWord_at (r.val / 8) l.val (by omega) (by omega))

/-- The bias of the new positions (and of the padding, which no pattern holds). -/
theorem V52 (c : Dev nD) (r : Fin 32) (l : Fin 128) :
    (V m c main_v52 (ix2 r l) : EReal) = Ideal.log ((mult (r.val / 8) (2048 + l.val) : ℝ) : EReal) := by
  unfold V
  simp only [hostOps0, hostOps0_1, hostOps0_2, List.flatten_cons, List.flatten_nil, List.cons_append, List.nil_append, List.append_nil]
  after_results
  simp -implicitDefEqProofs only [StableHlo.TRef.ofBuf, StableHlo.TRef.toBuf, cast_cast, cast_eq, id_eq]
  pointwise
  exact bias_value _ _ (mult_le _ _) (multWord_at (r.val / 8) (2048 + l.val) (by omega) (by omega))

end Cert.KernelIdeal.Attn
-- ==== Proof.Block.lean ====
/-
  What one block of the sampling attention computes (`KernelIdeal`), from the blocks that it loads: row `8 t + h` of the stacked
  scores is query `t` of head `h`, all other heads' lanes are masked to zero, and the sum of the 8 rows of a query keeps, in
  each lane, the lane's own head.
-/
module

public import proofs.«01_k».proof.Proof.Gen.KernelIdeal.Value
public import proofs.«01_k».proof.Proof.Patterns
public import proofs.«01_k».proof.Proof.Soft
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen Cert.Patterns

theorem own_word : ∀ (r : Fin 32) (l : Fin 512),
    IntOp.cmpi .eq (IntOp.andi (BitVec.ofNat 32 r.val) 7#32) (IntOp.shrsi .vector (BitVec.ofNat 32 l.val) 6#32)
      = if r.val % 8 = l.val / 64 then 1#1 else 0#1 := by
  decide +kernel

/-- The mask: lane `l` belongs to head `l / 64`. -/
theorem own_at (r : Fin 32) (l : Fin 512) : k0_pay2 (ix2 r l) = if r.val % 8 = l.val / 64 then 1#1 else 0#1 := by
  rw [← own_word]
  pointwise [k0_pay2]

theorem select_own {α : Type} (p : Prop) [Decidable p] (a b : α) :
    Scalar.select (if p then 1#1 else 0#1) a b = if p then a else b := by
  split <;> rfl

variable (q kn vn : Vec Ideal S1x4x512 .f32) (kt vt : Vec Ideal S1x512x2048 .f32) (b0 : Vec Ideal S32x2048 .f32)
  (b1 : Vec Ideal S32x128 .f32)

/-- The stacked queries: row `8 t + h` is query `t`, in head `h`'s lanes alone. -/
theorem query_at (r : Fin 32) (l : Fin 512) :
    k0_pay3 q (ix2 r l) = if r.val % 8 = l.val / 64 then q (ix3 0 ⟨r.val / 8, by omega⟩ l) else 0 := by
  pointwise [k0_pay3]
  rw [own_at, select_own]
  refine if_congr Iff.rfl ?_ rfl
  have hr := r.isLt
  split
  · exact congrArg (fun t => q (ix3 0 t l)) (Fin.ext (by show 0 = r.val / 8; omega))
  split
  · exact congrArg (fun t => q (ix3 0 t l)) (Fin.ext (by show 1 = r.val / 8; omega))
  split
  · exact congrArg (fun t => q (ix3 0 t l)) (Fin.ext (by show 2 = r.val / 8; omega))
  · exact congrArg (fun t => q (ix3 0 t l)) (Fin.ext (by show 3 = r.val / 8; omega))

/-- The new rows, padded by zeros. -/
def pad (k : Vec Ideal S1x4x512 .f32) (x : Fin 128) (l : Fin 512) : EReal :=
  if h : x.val < 4 then k (ix3 0 ⟨x.val, h⟩ l) else 0

theorem newk_at (x : Fin 128) (l : Fin 512) : k0_pay5 kn (ix2 x l) = pad kn x l := by
  pointwise [k0_pay5, k0_pay4]
  rfl

theorem newv_at (x : Fin 128) (l : Fin 512) : k0_pay6 vn (ix2 x l) = pad vn x l := by
  pointwise [k0_pay6, k0_pay4]
  rfl

/-- A product over all lanes with one head's lanes kept is the product over the head's 64 lanes. -/
theorem lane_sum (h : Fin 8) (f g : Fin 512 → EReal) :
    ∑ x : Fin 512, (if h.val = x.val / 64 then f x else 0) * g x
      = ∑ d : Fin 64, f ⟨h.val * 64 + d.val, by omega⟩ * g ⟨h.val * 64 + d.val, by omega⟩ := by
  have h1 : ∀ x : Fin 512, (if h.val = x.val / 64 then f x else 0) * g x = if h.val = x.val / 64 then f x * g x else 0 := by
    intro x
    split
    · rfl
    · exact zero_mul _
  simp only [h1]
  rw [← Finset.sum_filter]
  symm
  refine Finset.sum_bij (fun d _ => (⟨h.val * 64 + d.val, by omega⟩ : Fin 512)) ?_ ?_ ?_ ?_
  · intro d _
    rw [Finset.mem_filter]
    refine ⟨Finset.mem_univ _, ?_⟩
    show h.val = (h.val * 64 + d.val) / 64
    omega
  · intro a _ b _ e
    have := Fin.mk.inj e
    exact Fin.ext (by omega)
  · intro x hx
    rw [Finset.mem_filter] at hx
    have := hx.2
    exact ⟨⟨x.val % 64, by omega⟩, Finset.mem_univ _, Fin.ext (by show h.val * 64 + x.val % 64 = x.val; omega)⟩
  · intro d _
    rfl

/-- The head of a stacked row. -/
abbrev hd (r : Fin 32) : Fin 8 := ⟨r.val % 8, by omega⟩

/-- The query of a stacked row. -/
abbrev qy (r : Fin 32) : Fin 4 := ⟨r.val / 8, by omega⟩

/-- A cached key's score. -/
theorem cached_at (r : Fin 32) (x : Fin 2048) :
    k0_pay7 q kt (ix2 r x)
      = ∑ d : Fin 64, q (ix3 0 (qy r) ⟨(hd r).val * 64 + d.val, by omega⟩) * kt (ix3 0 ⟨(hd r).val * 64 + d.val, by omega⟩ x) := by
  pointwise [k0_pay7]
  simp only [query_at]
  exact lane_sum (hd r) (fun l => q (ix3 0 (qy r) l)) fun l => kt (ix3 0 l x)

/-- A new key's score. -/
theorem new_at (r : Fin 32) (x : Fin 128) :
    ∑ l : Fin 512, k0_pay3 q (ix2 r l) * k0_pay5 kn (ix2 x l)
      = ∑ d : Fin 64, q (ix3 0 (qy r) ⟨(hd r).val * 64 + d.val, by omega⟩) * pad kn x ⟨(hd r).val * 64 + d.val, by omega⟩ := by
  simp only [query_at, newk_at]
  exact lane_sum (hd r) (fun l => q (ix3 0 (qy r) l)) fun l => pad kn x l

theorem mult_self (t : ℕ) : mult t (2048 + t) = 3 := by
  unfold mult hit Hits
  simp

theorem bias_at (r : Fin 32) (x : Fin 2048) : k0_pay8 b0 (ix2 r x) = b0 (ix2 r x) := by
  pointwise [k0_pay8]

/-- Outside its head's lanes a row is zero. -/
theorem row_other (r : Fin 32) (l : Fin 512) (hl : ¬ r.val % 8 = l.val / 64) (a : FVec Ideal S32x512 .bf16) (b c : FVec Ideal S128x512 .bf16)
    (s s' : FVec Ideal S32x2048 .f32) :
    k0_pay9 k0_pay2 a b c s s' b1 vt (ix2 r l) = 0 := by
  pointwise [k0_pay9]
  rw [own_at, select_own, if_neg hl]

/-- In its head's lanes a row is the weighted average over all positions. -/
theorem row_own (r : Fin 32) (l : Fin 512) (hl : r.val % 8 = l.val / 64) (S : ℕ → ℝ) (v : ℕ → EReal)
    (h0 : ∀ x : Fin 2048, k0_pay7 q kt (ix2 r x) = (S x.val : EReal))
    (h1 : ∀ x : Fin 128, ∑ l : Fin 512, k0_pay3 q (ix2 r l) * k0_pay5 kn (ix2 x l) = (S (2048 + x.val) : EReal))
    (hb0 : ∀ x : Fin 2048, b0 (ix2 r x) = Ideal.log ((mult (r.val / 8) x.val : ℝ) : EReal))
    (hb1 : ∀ x : Fin 128, b1 (ix2 r x) = Ideal.log ((mult (r.val / 8) (2048 + x.val) : ℝ) : EReal))
    (hv0 : ∀ x : Fin 2048, vt (ix3 0 l x) = v x.val) (hv1 : ∀ x : Fin 128, pad vn x l = v (2048 + x.val)) :
    k0_pay9 k0_pay2 (k0_pay3 q) (k0_pay5 kn) (k0_pay6 vn) (k0_pay7 q kt) (k0_pay8 b0) b1 vt (ix2 r l)
      = (∑ j : Fin 2176, ((mult (r.val / 8) j.val * Real.exp (S j.val) : ℝ) : EReal) * v j.val)
        * (((∑ j : Fin 2176, mult (r.val / 8) j.val * Real.exp (S j.val))⁻¹ : ℝ) : EReal) := by
  pointwise [k0_pay9]
  rw [own_at, select_own, if_pos hl]
  simp only [h0, h1, bias_at, hb0, hb1, hv0, newv_at, hv1, Soft.ofBits_bot]
  have e : ∀ j, (0 : ℝ) ≤ mult (r.val / 8) j * Real.exp (S j) := fun j => mul_nonneg (Nat.cast_nonneg _) (Real.exp_pos _).le
  have hU : 0 < ∑ x : Fin 128, (mult (r.val / 8) (2048 + x.val) : ℝ) * Real.exp (S (2048 + x.val)) := by
    refine Finset.sum_pos' (fun x _ => e _) ⟨⟨r.val / 8, by omega⟩, Finset.mem_univ _, ?_⟩
    show 0 < (mult (r.val / 8) (2048 + r.val / 8) : ℝ) * _
    rw [mult_self]
    exact mul_pos (by norm_num) (Real.exp_pos _)
  refine (Soft.two_max (fun x : Fin 2048 => (S x.val : EReal) + Ideal.log ((mult (r.val / 8) x.val : ℝ) : EReal))
    (fun x : Fin 128 => (S (2048 + x.val) : EReal) + Ideal.log ((mult (r.val / 8) (2048 + x.val) : ℝ) : EReal))
    _ (fun x => e x.val) _ (fun x => e (2048 + x.val)) (fun x => Soft.score_add _ _ (Nat.cast_nonneg _))
    (fun x => Soft.score_add _ _ (Nat.cast_nonneg _)) hU (fun x => v x.val) fun x => v (2048 + x.val)).trans ?_
  have a1 := Fin.sum_univ_add (a := 2048) (b := 128) fun j : Fin 2176 =>
    ((mult (r.val / 8) j.val * Real.exp (S j.val) : ℝ) : EReal) * v j.val
  have a2 := Fin.sum_univ_add (a := 2048) (b := 128) fun j : Fin 2176 => (mult (r.val / 8) j.val : ℝ) * Real.exp (S j.val)
  rw [show (∑ j : Fin 2176, ((mult (r.val / 8) j.val * Real.exp (S j.val) : ℝ) : EReal) * v j.val) = _ from a1,
    show (∑ j : Fin 2176, (mult (r.val / 8) j.val : ℝ) * Real.exp (S j.val)) = _ from a2]
  rfl

end Cert.KernelIdeal.Attn
-- ==== Proof.Gather.lean ====
/-
  The reference's gathers (`ReferenceIdeal`): each branch takes, for query `t` and step `n`, the extended keys (and values)
  at position `2048 + t - dil * n`; the extended arrays are the 2048 cached rows followed by the 4 new ones.
-/
module

public import proofs.«01_k».proof.Defs
public import proofs.«01_k».proof.Proof.Gen.ReferenceIdeal.Read
public import Idealize.ShloMosaic.Lib.Pipeline.ValueKit
public import Idealize.ShloMosaic.Lib.Tactic.IndexArith
public import Idealize.ShloMosaic.Lib.Tactic.WordOmega

@[expose] public section

set_option maxRecDepth 16384

noncomputable section

open Idealize.ShloMosaic Idealize.ShloMosaic.TcCoe Idealize.SL.Sem

namespace Cert.ReferenceIdeal.Attn

open Cert.ReferenceIdeal Cert.ReferenceIdeal.Read

/-- One gather along the positions, read at an index: position `(t, n)` of the index words, clamped into the array. -/
theorem gather_at {α : Type} (x : S128x2052x8x64.Idx → α) (w : IVec S4x129x1 32) (b : Fin 128) (t : Fin 4) (n : Fin 129)
    (h : Fin 8) (d : Fin 64) (j : Fin 2052) (hj : j.val = min (w (ix3 t n 0)).toInt.toNat 2051) :
    Host.gather gather_S128x2052x8x64_S4x129x1_S128x4x129x8x64_034_1_n_n_1_2_1281864 x w (ix5 b t n h d)
      = x (ix4 b j h d) := by
  unfold Host.gather
  congr 1
  funext a
  refine Fin.ext ?_
  have hs : ∀ k, (gather_S128x2052x8x64_S4x129x1_S128x4x129x8x64_034_1_n_n_1_2_1281864).siIdx (ix5 b t n h d) k
      = (ix3 t n 0 : S4x129x1.Idx) := by
    intro k
    obtain ⟨k, hk⟩ := k
    obtain rfl : k = 0 := by
      have : k < 1 := hk
      omega
    funext a
    refine Fin.ext ?_
    match a with
    | ⟨0, _⟩ => rfl
    | ⟨1, _⟩ => rfl
    | ⟨2, _⟩ => rfl
  match a with
  | ⟨0, _⟩ =>
    show GatherDims.start _ _ w _ + GatherDims.batchCoord _ _ _ + GatherDims.offCoord _ _ _ = b.val
    rw [GatherDims.batchCoord_eq_zero _ _ _ List.not_mem_nil]
    unfold GatherDims.start
    split
    · next hh => exact absurd hh (show (0 : Fin 4) ∉ ([1] : List (Fin 4)) by decide)
    · rw [Nat.zero_add]
      rfl
  | ⟨1, _⟩ =>
    show GatherDims.start _ _ w _ + GatherDims.batchCoord _ _ _ + GatherDims.offCoord _ _ _ = j.val
    rw [GatherDims.batchCoord_eq_zero _ _ _ List.not_mem_nil,
      GatherDims.offCoord_eq_zero _ _ _ (fun h => ((GatherDims.mem_sKept _ _).mp h).1 (List.mem_singleton.mpr rfl))]
    unfold GatherDims.start
    split
    · rw [hs, hj]
      rfl
    · next hh => exact absurd (show (1 : Fin 4) ∈ ([1] : List (Fin 4)) by decide) hh
  | ⟨2, _⟩ =>
    show GatherDims.start _ _ w _ + GatherDims.batchCoord _ _ _ + GatherDims.offCoord _ _ _ = h.val
    rw [GatherDims.batchCoord_eq_zero _ _ _ List.not_mem_nil]
    unfold GatherDims.start
    split
    · next hh => exact absurd hh (show (2 : Fin 4) ∉ ([1] : List (Fin 4)) by decide)
    · rw [Nat.zero_add]
      rfl
  | ⟨3, _⟩ =>
    show GatherDims.start _ _ w _ + GatherDims.batchCoord _ _ _ + GatherDims.offCoord _ _ _ = d.val
    rw [GatherDims.batchCoord_eq_zero _ _ _ List.not_mem_nil]
    unfold GatherDims.start
    split
    · next hh => exact absurd hh (show (3 : Fin 4) ∉ ([1] : List (Fin 4)) by decide)
    · rw [Nat.zero_add]
      rfl

/-- The position words of the branch of dilation 1 (keys). -/
theorem word0 (t : Fin 4) (n : Fin 129) :
    (val_main_call0_v0 (F := Ideal) (ix3 t n 0)).toInt.toNat = 2048 + t.val - 1 * n.val := by
  pointwise [val_main_call0_v0, val_main_v11, val_main_v10, val_main_v9, val_main_v8, val_main_v7, val_main_v6, val_main_v5, val_main_c, val_main_c_0]
  revert t n
  decide +kernel

/-- The position words of the branch of dilation 1 (values). -/
theorem word1 (t : Fin 4) (n : Fin 129) :
    (val_main_call1_v0 (F := Ideal) (ix3 t n 0)).toInt.toNat = 2048 + t.val - 1 * n.val := by
  pointwise [val_main_call1_v0, val_main_v11, val_main_v10, val_main_v9, val_main_v8, val_main_v7, val_main_v6, val_main_v5, val_main_c, val_main_c_0]
  revert t n
  decide +kernel

/-- The position words of the branch of dilation 4 (keys). -/
theorem word2 (t : Fin 4) (n : Fin 129) :
    (val_main_call2_v0 (F := Ideal) (ix3 t n 0)).toInt.toNat = 2048 + t.val - 4 * n.val := by
  pointwise [val_main_call2_v0, val_main_v34, val_main_v33, val_main_v32, val_main_v31, val_main_v30, val_main_v29, val_main_v28, val_main_c_2, val_main_c_3]
  revert t n
  decide +kernel

/-- The position words of the branch of dilation 4 (values). -/
theorem word3 (t : Fin 4) (n : Fin 129) :
    (val_main_call3_v0 (F := Ideal) (ix3 t n 0)).toInt.toNat = 2048 + t.val - 4 * n.val := by
  pointwise [val_main_call3_v0, val_main_v34, val_main_v33, val_main_v32, val_main_v31, val_main_v30, val_main_v29, val_main_v28, val_main_c_2, val_main_c_3]
  revert t n
  decide +kernel

/-- The position words of the branch of dilation 16 (keys). -/
theorem word4 (t : Fin 4) (n : Fin 129) :
    (val_main_call4_v0 (F := Ideal) (ix3 t n 0)).toInt.toNat = 2048 + t.val - 16 * n.val := by
  pointwise [val_main_call4_v0, val_main_v57, val_main_v56, val_main_v55, val_main_v54, val_main_v53, val_main_v52, val_main_v51, val_main_c_6, val_main_c_7]
  revert t n
  decide +kernel

/-- The position words of the branch of dilation 16 (values). -/
theorem word5 (t : Fin 4) (n : Fin 129) :
    (val_main_call5_v0 (F := Ideal) (ix3 t n 0)).toInt.toNat = 2048 + t.val - 16 * n.val := by
  pointwise [val_main_call5_v0, val_main_v57, val_main_v56, val_main_v55, val_main_v54, val_main_v53, val_main_v52, val_main_v51, val_main_c_6, val_main_c_7]
  revert t n
  decide +kernel

variable (x1 x2 : (⟨S128x4x512, .f32⟩ : BufTy).Contents (Elt Ideal)) (x3 x4 : (⟨S128x2048x8x64, .f32⟩ : BufTy).Contents (Elt Ideal))

/-- Row `j` of the extended array: the cached rows, then the new ones (a lane of the 512 is head `l / 64`, place `l % 64`). -/
def ext (new : (⟨S128x4x512, .f32⟩ : BufTy).Contents (Elt Ideal)) (cache : (⟨S128x2048x8x64, .f32⟩ : BufTy).Contents (Elt Ideal))
    (b : Fin 128) (h : Fin 8) (d : Fin 64) (j : ℕ) : EReal :=
  if hj : j < 2048 then cache (ix4 b ⟨j, hj⟩ h d)
  else if hj' : j - 2048 < 4 then new (ix3 b ⟨j - 2048, hj'⟩ ⟨h.val * 64 + d.val, by omega⟩) else 0

/-- The joined array is `ext`. -/
theorem v2_at (b : Fin 128) (j : Fin 2052) (h : Fin 8) (d : Fin 64) :
    val_main_v2 (F := Ideal) x1 x3 (ix4 b j h d) = ext x1 x3 b h d j.val := by
  pointwise [val_main_v2, val_main_v1]
  unfold ext
  split
  · rfl
  · rw [dif_pos (by omega)]

/-- The joined array is `ext`. -/
theorem v4_at (b : Fin 128) (j : Fin 2052) (h : Fin 8) (d : Fin 64) :
    val_main_v4 (F := Ideal) x2 x4 (ix4 b j h d) = ext x2 x4 b h d j.val := by
  pointwise [val_main_v4, val_main_v3]
  unfold ext
  split
  · rfl
  · rw [dif_pos (by omega)]

/-- The branch of dilation 1, keys: row `2048 + t - 1 n` of the extended array. -/
theorem v12_at (b : Fin 128) (t : Fin 4) (n : Fin 129) (h : Fin 8) (d : Fin 64) :
    val_main_v12 (F := Ideal) x1 x3 (ix5 b t n h d) = ext x1 x3 b h d (2048 + t.val - 1 * n.val) := by
  unfold val_main_v12
  rw [gather_at _ _ b t n h d ⟨2048 + t.val - 1 * n.val, by omega⟩ (by rw [word0]; dsimp only; omega), v2_at]

/-- The branch of dilation 1, values: row `2048 + t - 1 n` of the extended array. -/
theorem v13_at (b : Fin 128) (t : Fin 4) (n : Fin 129) (h : Fin 8) (d : Fin 64) :
    val_main_v13 (F := Ideal) x2 x4 (ix5 b t n h d) = ext x2 x4 b h d (2048 + t.val - 1 * n.val) := by
  unfold val_main_v13
  rw [gather_at _ _ b t n h d ⟨2048 + t.val - 1 * n.val, by omega⟩ (by rw [word1]; dsimp only; omega), v4_at]

/-- The branch of dilation 4, keys: row `2048 + t - 4 n` of the extended array. -/
theorem v35_at (b : Fin 128) (t : Fin 4) (n : Fin 129) (h : Fin 8) (d : Fin 64) :
    val_main_v35 (F := Ideal) x1 x3 (ix5 b t n h d) = ext x1 x3 b h d (2048 + t.val - 4 * n.val) := by
  unfold val_main_v35
  rw [gather_at _ _ b t n h d ⟨2048 + t.val - 4 * n.val, by omega⟩ (by rw [word2]; dsimp only; omega), v2_at]

/-- The branch of dilation 4, values: row `2048 + t - 4 n` of the extended array. -/
theorem v36_at (b : Fin 128) (t : Fin 4) (n : Fin 129) (h : Fin 8) (d : Fin 64) :
    val_main_v36 (F := Ideal) x2 x4 (ix5 b t n h d) = ext x2 x4 b h d (2048 + t.val - 4 * n.val) := by
  unfold val_main_v36
  rw [gather_at _ _ b t n h d ⟨2048 + t.val - 4 * n.val, by omega⟩ (by rw [word3]; dsimp only; omega), v4_at]

/-- The branch of dilation 16, keys: row `2048 + t - 16 n` of the extended array. -/
theorem v58_at (b : Fin 128) (t : Fin 4) (n : Fin 129) (h : Fin 8) (d : Fin 64) :
    val_main_v58 (F := Ideal) x1 x3 (ix5 b t n h d) = ext x1 x3 b h d (2048 + t.val - 16 * n.val) := by
  unfold val_main_v58
  rw [gather_at _ _ b t n h d ⟨2048 + t.val - 16 * n.val, by omega⟩ (by rw [word4]; dsimp only; omega), v2_at]

/-- The branch of dilation 16, values: row `2048 + t - 16 n` of the extended array. -/
theorem v59_at (b : Fin 128) (t : Fin 4) (n : Fin 129) (h : Fin 8) (d : Fin 64) :
    val_main_v59 (F := Ideal) x2 x4 (ix5 b t n h d) = ext x2 x4 b h d (2048 + t.val - 16 * n.val) := by
  unfold val_main_v59
  rw [gather_at _ _ b t n h d ⟨2048 + t.val - 16 * n.val, by omega⟩ (by rw [word5]; dsimp only; omega), v4_at]

end Cert.ReferenceIdeal.Attn
-- ==== Proof.RefAttn.lean ====
/-
  What the reference computes (`ReferenceIdeal`), at an index: for finite scores, the three merged branches are one weighted
  average over the positions, a position weighted by how many patterns hold it times the exponential of its score.
-/
module

public import proofs.«01_k».proof.Proof.Gather
public import proofs.«01_k».proof.Proof.Patterns

@[expose] public section

set_option maxRecDepth 16384

noncomputable section

open Idealize.ShloMosaic Idealize.ShloMosaic.TcCoe Idealize.SL.Sem

namespace Cert.ReferenceIdeal.Attn

open Cert.ReferenceIdeal Cert.ReferenceIdeal.Read Cert.Patterns

variable (x0 x1 x2 : (⟨S128x4x512, .f32⟩ : BufTy).Contents (Elt Ideal)) (x3 x4 : (⟨S128x2048x8x64, .f32⟩ : BufTy).Contents (Elt Ideal))

/-- The score of position `j`: the head's query against the position's key. -/
def score (b : Fin 128) (t : Fin 4) (h : Fin 8) (j : ℕ) : EReal :=
  ∑ d : Fin 64, x0 (ix3 b t ⟨h.val * 64 + d.val, by omega⟩) * ext x1 x3 b h d j

/-- The weight of one branch: the sum of its exponentials. -/
def weight (S : ℕ → ℝ) (t d : ℕ) : ℝ := ∑ n : Fin 129, Real.exp (S (2048 + t - d * n.val))

/-- The weighted values of one branch. -/
def values (S : ℕ → ℝ) (v : ℕ → EReal) (t d : ℕ) : EReal :=
  ∑ n : Fin 129, (Real.exp (S (2048 + t - d * n.val)) : EReal) * v (2048 + t - d * n.val)

theorem weight_pos (S : ℕ → ℝ) (t d : ℕ) : 0 < weight S t d :=
  Finset.sum_pos (fun _ _ => Real.exp_pos _) Finset.univ_nonempty

theorem lse0 (b : Fin 128) (t : Fin 4) (h : Fin 8) (S : ℕ → ℝ) (hS : ∀ j, score x0 x1 x3 b t h j = (S j : EReal)) :
    val_main_v27 x0 x1 x3 (ix3 b t h) = Ideal.log ((weight S t.val 1 : ℝ) : EReal) := by
  pointwise [val_main_v27, val_main_v26, val_main_v25, val_main_v20, val_main_v19, val_main_v18, val_main_v17, val_main_v16, val_main_v15, val_main_v14, val_main_cst, val_main_cst_1, val_main_v0]
  simp only [v12_at, Soft.ofBits_bot]
  exact (Soft.branch_max (fun n : Fin 129 => score x0 x1 x3 b t h (2048 + t.val - 1 * n.val)) _
    (fun n => (Real.exp_pos _).le) (fun n => by rw [hS, Soft.log_exp]) (weight_pos S t.val 1) (fun _ => 0)).2

theorem out0 (b : Fin 128) (t : Fin 4) (h : Fin 8) (d : Fin 64) (S : ℕ → ℝ)
    (hS : ∀ j, score x0 x1 x3 b t h j = (S j : EReal)) :
    val_main_v24 x0 x1 x2 x3 x4 (ix4 b t h d)
      = values S (fun j => ext x2 x4 b h d j) t.val 1 * (((weight S t.val 1)⁻¹ : ℝ) : EReal) := by
  pointwise [val_main_v24, val_main_v23, val_main_v22, val_main_v21, val_main_v20, val_main_v19, val_main_v18, val_main_v17, val_main_v16, val_main_v15, val_main_v14, val_main_cst, val_main_cst_1, val_main_v0]
  simp only [v12_at, v13_at, Soft.ofBits_bot]
  exact (Soft.branch_max (fun n : Fin 129 => score x0 x1 x3 b t h (2048 + t.val - 1 * n.val)) _
    (fun n => (Real.exp_pos _).le) (fun n => by rw [hS, Soft.log_exp]) (weight_pos S t.val 1)
    (fun n => ext x2 x4 b h d (2048 + t.val - 1 * n.val))).1

theorem lse1 (b : Fin 128) (t : Fin 4) (h : Fin 8) (S : ℕ → ℝ) (hS : ∀ j, score x0 x1 x3 b t h j = (S j : EReal)) :
    val_main_v50 x0 x1 x3 (ix3 b t h) = Ideal.log ((weight S t.val 4 : ℝ) : EReal) := by
  pointwise [val_main_v50, val_main_v49, val_main_v48, val_main_v43, val_main_v42, val_main_v41, val_main_v40, val_main_v39, val_main_v38, val_main_v37, val_main_cst_4, val_main_cst_5, val_main_v0]
  simp only [v35_at, Soft.ofBits_bot]
  exact (Soft.branch_max (fun n : Fin 129 => score x0 x1 x3 b t h (2048 + t.val - 4 * n.val)) _
    (fun n => (Real.exp_pos _).le) (fun n => by rw [hS, Soft.log_exp]) (weight_pos S t.val 4) (fun _ => 0)).2

theorem out1 (b : Fin 128) (t : Fin 4) (h : Fin 8) (d : Fin 64) (S : ℕ → ℝ)
    (hS : ∀ j, score x0 x1 x3 b t h j = (S j : EReal)) :
    val_main_v47 x0 x1 x2 x3 x4 (ix4 b t h d)
      = values S (fun j => ext x2 x4 b h d j) t.val 4 * (((weight S t.val 4)⁻¹ : ℝ) : EReal) := by
  pointwise [val_main_v47, val_main_v46, val_main_v45, val_main_v44, val_main_v43, val_main_v42, val_main_v41, val_main_v40, val_main_v39, val_main_v38, val_main_v37, val_main_cst_4, val_main_cst_5, val_main_v0]
  simp only [v35_at, v36_at, Soft.ofBits_bot]
  exact (Soft.branch_max (fun n : Fin 129 => score x0 x1 x3 b t h (2048 + t.val - 4 * n.val)) _
    (fun n => (Real.exp_pos _).le) (fun n => by rw [hS, Soft.log_exp]) (weight_pos S t.val 4)
    (fun n => ext x2 x4 b h d (2048 + t.val - 4 * n.val))).1

theorem lse2 (b : Fin 128) (t : Fin 4) (h : Fin 8) (S : ℕ → ℝ) (hS : ∀ j, score x0 x1 x3 b t h j = (S j : EReal)) :
    val_main_v73 x0 x1 x3 (ix3 b t h) = Ideal.log ((weight S t.val 16 : ℝ) : EReal) := by
  pointwise [val_main_v73, val_main_v72, val_main_v71, val_main_v66, val_main_v65, val_main_v64, val_main_v63, val_main_v62, val_main_v61, val_main_v60, val_main_cst_8, val_main_cst_9, val_main_v0]
  simp only [v58_at, Soft.ofBits_bot]
  exact (Soft.branch_max (fun n : Fin 129 => score x0 x1 x3 b t h (2048 + t.val - 16 * n.val)) _
    (fun n => (Real.exp_pos _).le) (fun n => by rw [hS, Soft.log_exp]) (weight_pos S t.val 16) (fun _ => 0)).2

theorem out2 (b : Fin 128) (t : Fin 4) (h : Fin 8) (d : Fin 64) (S : ℕ → ℝ)
    (hS : ∀ j, score x0 x1 x3 b t h j = (S j : EReal)) :
    val_main_v70 x0 x1 x2 x3 x4 (ix4 b t h d)
      = values S (fun j => ext x2 x4 b h d j) t.val 16 * (((weight S t.val 16)⁻¹ : ℝ) : EReal) := by
  pointwise [val_main_v70, val_main_v69, val_main_v68, val_main_v67, val_main_v66, val_main_v65, val_main_v64, val_main_v63, val_main_v62, val_main_v61, val_main_v60, val_main_cst_8, val_main_cst_9, val_main_v0]
  simp only [v58_at, v59_at, Soft.ofBits_bot]
  exact (Soft.branch_max (fun n : Fin 129 => score x0 x1 x3 b t h (2048 + t.val - 16 * n.val)) _
    (fun n => (Real.exp_pos _).le) (fun n => by rw [hS, Soft.log_exp]) (weight_pos S t.val 16)
    (fun n => ext x2 x4 b h d (2048 + t.val - 16 * n.val))).1

/-- The three branches merged, read at an index. -/
theorem out_at (b : Fin 128) (t : Fin 4) (l : Fin 512) (S : ℕ → ℝ)
    (hS : ∀ j, score x0 x1 x3 b t ⟨l.val / 64, by omega⟩ j = (S j : EReal)) :
    val_main_v98 x0 x1 x2 x3 x4 (ix3 b t l)
      = (∑ j : Fin 2176, ((mult t.val j.val * Real.exp (S j.val) : ℝ) : EReal)
          * ext x2 x4 b ⟨l.val / 64, by omega⟩ ⟨l.val % 64, by omega⟩ j.val)
        * (((∑ j : Fin 2176, mult t.val j.val * Real.exp (S j.val))⁻¹ : ℝ) : EReal) := by
  have hw := three_weights t.val t.isLt fun j => Real.exp (S j)
  have hv := three_sums t.val t.isLt (fun j => Real.exp (S j)) (fun j => (Real.exp_pos _).le)
    fun j => ext x2 x4 b ⟨l.val / 64, by omega⟩ ⟨l.val % 64, by omega⟩ j
  rw [← hw, ← hv]
  pointwise [val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74,
    val_main_cst_10, val_main_cst_11, val_main_cst_12, val_main_cst_13]
  simp only [lse0 x0 x1 x3 b t _ S hS, lse1 x0 x1 x3 b t _ S hS, lse2 x0 x1 x3 b t _ S hS, out0 x0 x1 x2 x3 x4 b t _ _ S hS,
    out1 x0 x1 x2 x3 x4 b t _ _ S hS, out2 x0 x1 x2 x3 x4 b t _ _ S hS, Soft.ofBits_bot]
  refine (Soft.merge_max (fun i : Fin 3 => weight S t.val (![1, 4, 16] i)) (fun i => weight_pos S _ _)
    (Finset.sum_pos (fun i _ => weight_pos S _ _) Finset.univ_nonempty)
    (fun i => values S (fun j => ext x2 x4 b ⟨l.val / 64, by omega⟩ ⟨l.val % 64, by omega⟩ j) t.val (![1, 4, 16] i)) _ _ ?_ ?_).trans ?_
  · intro i
    fin_cases i <;> rfl
  · intro i
    fin_cases i <;> rfl
  · rw [Fin.sum_univ_three, Fin.sum_univ_three]
    rfl

end Cert.ReferenceIdeal.Attn
-- ==== Proof.Attn.lean ====
/-
  The sampling attention (`KernelIdeal` against `ReferenceIdeal`): over the reals, for finite queries and keys, the kernel's one
  softmax with the logarithms of the multiplicities as bias is the reference's three softmaxes merged by their log-sum-exps.
-/
module

public import proofs.«01_k».proof.Defs
public import proofs.«01_k».proof.Proof.Bias
public import proofs.«01_k».proof.Proof.Block
public import proofs.«01_k».proof.Proof.RefAttn
public import proofs.«01_k».proof.Proof.Gen.KernelIdeal.Value
public import proofs.«01_k».proof.Proof.Gen.ReferenceIdeal.Run
public import proofs.«01_k».proof.Proof.Gen.Pre_finite
public import Idealize.ShloMosaic.Lib.Pipeline.ValueKit
public import Idealize.ShloMosaic.Lib.ReduceAll
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen Cert.Patterns
open Cert.ReferenceIdeal.Attn (ext score)

/-- An extended real that is a real. -/
def IsReal (x : EReal) : Prop := ∃ r : ℝ, x = (r : EReal)

theorem isReal_zero : IsReal 0 := ⟨0, rfl⟩

theorem isReal_sum {ι : Type} (s : Finset ι) (f : ι → EReal) (h : ∀ i, IsReal (f i)) : IsReal (∑ i ∈ s, f i) := by
  choose g hg using h
  exact ⟨∑ i ∈ s, g i, by simp only [hg]; exact (Soft.coe_sum s g).symm⟩

theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- What the precondition tests of an element. -/
theorem isReal_of_test (x : EReal) (h : Ideal.cmp .olt (max x (-x)) (Ideal.ofBits .f32 0x7F800000#32) = 1#1) : IsReal x := by
  rw [Soft.ofBits_top] at h
  induction x with
  | bot => simp [Ideal.cmp] at h
  | top => simp [Ideal.cmp] at h
  | coe r => exact ⟨r, rfl⟩

variable (m : (ℓ : Loc nD τ sig) → Buf (Elt Ideal) ℓ)

/-- Every query, new key and cached key is a real. -/
theorem finite_args (h : Cert.Pre_KernelIdeal_finite m) (c : Dev nD) :
    (∀ i, IsReal (m ((c : Thread nD τ).loc main_arg0) i)) ∧ (∀ i, IsReal (m ((c : Thread nD τ).loc main_arg1) i))
      ∧ (∀ i, IsReal (m ((c : Thread nD τ).loc main_arg3) i)) := by
  have h0 := congrFun (h c) (fun a : Fin 0 => a.elim0)
  unfold Cert.Pre_finite.fn at h0
  obtain ⟨h1, h3⟩ := IntOp.andi_eq_one.1 h0
  obtain ⟨h1, h2⟩ := IntOp.andi_eq_one.1 h1
  haveI : Subsingleton Cert.Pre_finite.S_.Idx := ⟨fun a b => funext fun k => k.elim0⟩
  exact ⟨fun i => isReal_of_test _ (Host.reduce_andi_all _ _ _ _ _ h1 i), fun i => isReal_of_test _ (Host.reduce_andi_all _ _ _ _ _ h2 i),
    fun i => isReal_of_test _ (Host.reduce_andi_all _ _ _ _ _ h3 i)⟩

/-- So every score is a real. -/
theorem score_real (h : Cert.Pre_KernelIdeal_finite m) (c : Dev nD) (b : Fin 128) (t : Fin 4) (hd : Fin 8) (j : ℕ) :
    IsReal (score (m ((c : Thread nD τ).loc main_arg0)) (m ((c : Thread nD τ).loc main_arg1)) (m ((c : Thread nD τ).loc main_arg3)) b t hd j) := by
  obtain ⟨h0, h1, h3⟩ := finite_args m h c
  refine isReal_sum _ _ fun d => isReal_mul (h0 _) ?_
  unfold ext
  split
  · exact h3 _
  split
  · exact h1 _
  · exact isReal_zero

/-- Where each window's block sits at grid point `t`. -/
theorem idx : ∀ t : Fin cfg0.N, win0_0.index t = ![t.val, 0, 0] ∧ win0_1.index t = ![t.val, 0, 0]
    ∧ win0_2.index t = ![t.val, 0, 0] ∧ win0_3.index t = ![t.val, 0, 0] ∧ win0_4.index t = ![t.val, 0, 0]
    ∧ win0_5.index t = ![0, 0] ∧ win0_6.index t = ![0, 0] ∧ win0_7.index t = ![t.val, 0, 0] :=
  (by decide +kernel : ∀ t : Fin grid0.N, _)

theorem blk0 (c : Dev nD) (t : Fin cfg0.N) (a : Fin 4) (l : Fin 512) :
    (iblk m c 0 t (ix3 0 a l) : EReal) = m ((c : Thread nD τ).loc main_arg0) (ix3 ⟨t.val, t.isLt⟩ a l) := by
  blk_point [iblk, V, idx t]

theorem blk1 (c : Dev nD) (t : Fin cfg0.N) (a : Fin 4) (l : Fin 512) :
    (iblk m c 1 t (ix3 0 a l) : EReal) = m ((c : Thread nD τ).loc main_arg1) (ix3 ⟨t.val, t.isLt⟩ a l) := by
  blk_point [iblk, V, idx t]

theorem blk2 (c : Dev nD) (t : Fin cfg0.N) (a : Fin 4) (l : Fin 512) :
    (iblk m c 2 t (ix3 0 a l) : EReal) = m ((c : Thread nD τ).loc main_arg2) (ix3 ⟨t.val, t.isLt⟩ a l) := by
  blk_point [iblk, V, idx t]

theorem blk3 (c : Dev nD) (t : Fin cfg0.N) (a : Fin 512) (l : Fin 2048) :
    (iblk m c 3 t (ix3 0 a l) : EReal)
      = m ((c : Thread nD τ).loc main_arg3) (ix4 ⟨t.val, t.isLt⟩ l ⟨a.val / 64, by omega⟩ ⟨a.val % 64, by omega⟩) := by
  refine Eq.trans ?_ (V54 m c ⟨t.val, t.isLt⟩ a l)
  blk_point [iblk, idx t]

theorem blk4 (c : Dev nD) (t : Fin cfg0.N) (a : Fin 512) (l : Fin 2048) :
    (iblk m c 4 t (ix3 0 a l) : EReal)
      = m ((c : Thread nD τ).loc main_arg4) (ix4 ⟨t.val, t.isLt⟩ l ⟨a.val / 64, by omega⟩ ⟨a.val % 64, by omega⟩) := by
  refine Eq.trans ?_ (V56 m c ⟨t.val, t.isLt⟩ a l)
  blk_point [iblk, idx t]

theorem blk5 (c : Dev nD) (t : Fin cfg0.N) (r : Fin 32) (l : Fin 2048) :
    (iblk m c 5 t (ix2 r l) : EReal) = Ideal.log ((mult (r.val / 8) l.val : ℝ) : EReal) := by
  refine Eq.trans ?_ (V51 m c r l)
  blk_point [iblk, idx t]

theorem blk6 (c : Dev nD) (t : Fin cfg0.N) (r : Fin 32) (l : Fin 128) :
    (iblk m c 6 t (ix2 r l) : EReal) = Ideal.log ((mult (r.val / 8) (2048 + l.val) : ℝ) : EReal) := by
  refine Eq.trans ?_ (V52 m c r l)
  blk_point [iblk, idx t]

/-- The extended array beyond the cached rows. -/
theorem ext_new (new : FVec Ideal S128x4x512 .f32) (cache : FVec Ideal S128x2048x8x64 .f32)
    (b : Fin 128) (h : Fin 8) (d : Fin 64) (x : ℕ) :
    ext new cache b h d (2048 + x) = if hx : x < 4 then new (ix3 b ⟨x, hx⟩ ⟨h.val * 64 + d.val, by omega⟩) else 0 := by
  unfold ext
  have e : 2048 + x - 2048 = x := by omega
  rw [dif_neg (by omega)]
  simp only [e]

/-- A lane of the 512, by its head and place. -/
theorem lane (h : Fin 8) (d : Fin 64) (a : Fin 8) (b : Fin 64) (ha : a.val = (h.val * 64 + d.val) / 64)
    (hb : b.val = (h.val * 64 + d.val) % 64) : a = h ∧ b = d :=
  ⟨Fin.ext (by omega), Fin.ext (by omega)⟩

/-- The cached positions' scores are the reference's. -/
theorem cached_score (c : Dev nD) (t : Fin cfg0.N) (r : Fin 32) (x : Fin 2048) :
    k0_pay7 (F := Ideal) (iblk m c 0 t) (iblk m c 3 t) (ix2 r x)
      = score (m ((c : Thread nD τ).loc main_arg0)) (m ((c : Thread nD τ).loc main_arg1)) (m ((c : Thread nD τ).loc main_arg3))
          ⟨t.val, t.isLt⟩ (qy r) (hd r) x.val := by
  rw [cached_at]
  refine Finset.sum_congr rfl fun d _ => ?_
  rw [blk0, blk3]
  unfold ext
  rw [dif_pos x.isLt]
  obtain ⟨e1, e2⟩ := lane (hd r) d ⟨((hd r).val * 64 + d.val) / 64, by omega⟩ ⟨((hd r).val * 64 + d.val) % 64, by omega⟩ rfl rfl
  rw [e1, e2]

/-- The new positions' scores (and the padding's, zero) are the reference's. -/
theorem new_score (c : Dev nD) (t : Fin cfg0.N) (r : Fin 32) (x : Fin 128) :
    ∑ l : Fin 512, k0_pay3 (F := Ideal) (iblk m c 0 t) (ix2 r l) * k0_pay5 (F := Ideal) (iblk m c 1 t) (ix2 x l)
      = score (m ((c : Thread nD τ).loc main_arg0)) (m ((c : Thread nD τ).loc main_arg1)) (m ((c : Thread nD τ).loc main_arg3))
          ⟨t.val, t.isLt⟩ (qy r) (hd r) (2048 + x.val) := by
  rw [new_at]
  refine Finset.sum_congr rfl fun d _ => ?_
  rw [blk0]
  congr 1
  rw [ext_new]
  unfold pad
  split
  · rw [blk1]
  · rfl

/-- The reference's array of the kernel's arguments. -/
abbrev REF (c : Dev nD) : FVec Ideal Cert.ReferenceIdeal.S128x4x512 .f32 :=
  Cert.ReferenceIdeal.Read.val_main_v98 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- THE POINT: the 8 rows of query `a`, summed, are the reference's row. -/
theorem point (h : Cert.Pre_KernelIdeal_finite m) (c : Dev nD) (t : Fin cfg0.N) (a : Fin 4) (l : Fin 512) (k : ℕ) (hk : k = a.val * 8)
    (R : Fin 8 → Fin 32) (hR : ∀ x, (R x).val = k + x.val) :
    ∑ x : Fin 8, k0_pay9 (F := Ideal) k0_pay2 (k0_pay3 (iblk m c 0 t)) (k0_pay5 (iblk m c 1 t)) (k0_pay6 (iblk m c 2 t))
        (k0_pay7 (iblk m c 0 t) (iblk m c 3 t)) (k0_pay8 (iblk m c 5 t)) (iblk m c 6 t) (iblk m c 4 t) (ix2 (R x) l)
      = REF m c (ix3 ⟨t.val, t.isLt⟩ a l) := by
  subst hk
  rw [Finset.sum_eq_single (⟨l.val / 64, by omega⟩ : Fin 8)]
  · have hr := hR ⟨l.val / 64, by omega⟩
    generalize R ⟨l.val / 64, by omega⟩ = r at hr
    dsimp only at hr
    have e1 : qy r = a := Fin.ext (by show r.val / 8 = a.val; omega)
    have e2 : hd r = ⟨l.val / 64, by omega⟩ := Fin.ext (by show r.val % 8 = l.val / 64; omega)
    choose S hS using fun j => score_real m h c ⟨t.val, t.isLt⟩ a ⟨l.val / 64, by omega⟩ j
    rw [row_own (iblk m c 0 t) (iblk m c 1 t) (iblk m c 2 t) (iblk m c 3 t) (iblk m c 4 t) (iblk m c 5 t) (iblk m c 6 t) r l
      (by omega) S (fun j => ext (m ((c : Thread nD τ).loc main_arg2)) (m ((c : Thread nD τ).loc main_arg4)) ⟨t.val, t.isLt⟩
        ⟨l.val / 64, by omega⟩ ⟨l.val % 64, by omega⟩ j)
      (fun x => by rw [cached_score, e1, e2, hS]) (fun x => by rw [new_score, e1, e2, hS]) (fun x => blk5 m c t r x)
      (fun x => blk6 m c t r x) ?_ ?_]
    · refine Eq.trans ?_ (Cert.ReferenceIdeal.Attn.out_at _ _ _ _ _ ⟨t.val, t.isLt⟩ a l S hS).symm
      rw [show r.val / 8 = a.val from congrArg Fin.val e1]
    · intro x
      rw [blk4]
      unfold ext
      rw [dif_pos x.isLt]
    · intro x
      rw [ext_new]
      unfold pad
      split
      · rw [blk2]
        congr 1
        exact congrArg _ (Fin.ext (by show l.val = l.val / 64 * 64 + l.val % 64; omega))
      · rfl
  · intro x _ hx
    refine row_other _ _ _ l ?_ _ _ _ _ _
    intro e
    apply hx
    apply Fin.ext
    have := hR x
    show x.val = l.val / 64
    omega
  · intro hx
    exact absurd (Finset.mem_univ _) hx

/-- The values that the block's code hands on are those of the payloads. -/
theorem handed (x0 x1 x2 : Vec Ideal S1x4x512 .f32) (x3 x4 : Vec Ideal S1x512x2048 .f32) (x5 : Vec Ideal S32x2048 .f32)
    (x6 : Vec Ideal S32x128 .f32) :
    k0_pay14 x0 x1 x2 x3 x4 x5 x6 = k0_pay2 ∧ k0_pay15 x0 x1 x2 x3 x4 x5 x6 = k0_pay3 x0 ∧ k0_pay16 x0 x1 x2 x3 x4 x5 x6 = k0_pay5 x1
      ∧ k0_pay17 x0 x1 x2 x3 x4 x5 x6 = k0_pay6 x2 ∧ k0_pay18 x0 x1 x2 x3 x4 x5 x6 = k0_pay7 x0 x3
      ∧ k0_pay19 x0 x1 x2 x3 x4 x5 x6 = k0_pay8 x5 := by
  unfold k0_pay14 k0_pay15 k0_pay16 k0_pay17 k0_pay18 k0_pay19
  frame_out
  exact ⟨trivial, trivial, trivial, trivial, trivial, trivial⟩

/-- The kernel's array after the run is the reference's. -/
theorem final (h : Cert.Pre_KernelIdeal_finite m) (c : Dev nD) : (dats m 0 c).arrAt 7 cfg0.N = REF m c := by
  refine (dats m 0 c).arrAt_eq_of_covers 7 _ (by decide +kernel) fun t _ y => ?_
  blk_simp
  rw [after0_7]
  frame_out
  obtain ⟨e14, e15, e16, e17, e18, e19⟩ := handed (iblk m c 0 t) (iblk m c 1 t) (iblk m c 2 t) (iblk m c 3 t) (iblk m c 4 t) (iblk m c 5 t) (iblk m c 6 t)
  rw [e14, e15, e16, e17, e18, e19]
  pointwise [k0_pay1, k0_pay10, k0_pay11, k0_pay12, k0_pay13]
  have hE : ((View.whole main_v57).slice (win0_7.rect t)).emb y = (ix3 ⟨t.val, t.isLt⟩ (y 1) (y 2) : Cert.ReferenceIdeal.S128x4x512.Idx) := by
    have h0 : (y 0).val < 1 := (y 0).isLt
    have e1 : (y ⟨1, (1 : Fin 3).isLt⟩).val = (y 1).val := rfl
    have e2 : (y ⟨2, (2 : Fin 3).isLt⟩).val = (y 2).val := rfl
    funext a
    apply Fin.ext
    match a with
    | ⟨0, _⟩ => blk_simp [idx t] <;> omega
    | ⟨1, _⟩ => blk_simp [idx t] <;> omega
    | ⟨2, _⟩ => blk_simp [idx t] <;> omega
  rw [hE]
  have h1 : (y 1).val < 4 := (y 1).isLt
  split
  · exact point m h c t (y 1) (y 2) 0 (by omega) (fun x => ⟨x.val, by omega⟩) fun x => (Nat.zero_add _).symm
  split
  · exact point m h c t (y 1) (y 2) 8 (by omega) (fun x => ⟨8 + x.val, by omega⟩) fun x => rfl
  split
  · exact point m h c t (y 1) (y 2) 16 (by omega) (fun x => ⟨16 + x.val, by omega⟩) fun x => rfl
  · exact point m h c t (y 1) (y 2) 24 (by omega) (fun x => ⟨24 + x.val, by omega⟩) fun x => rfl

end Cert.KernelIdeal.Attn

namespace Cert.KernelIdeal.Attn

/-- Over the reals, for finite queries and keys, the sampling attention's array is the reference's. -/
theorem algebraic : Cert.algebraic_KernelIdeal_ReferenceIdeal_pre_finite := by
  pair_intro
  · run_from Cert.KernelIdeal.Value.run_blocks m g
  · run_from Cert.ReferenceIdeal.Value.run m' g'
    all_goals
      refine (Cert.ReferenceIdeal.Read.val_main_v98_eq m' c).trans ?_
      obtain ⟨e0, e1, e2, e3, e4⟩ := hagree c
      rw [e0, e1, e2, e3, e4]
      exact (final m hpre c).symm

end Cert.KernelIdeal.Attn

end
-- ==== Proof.InProj.lean ====
/-
  The input projection (`Kernel2`): each block of 512 rows is normalised, scaled, modulated and multiplied by the joined
  projection matrix, and the four bands of the product go to the four result arrays. Block by block, each of them is the
  band of the reference's product of whole arrays at the place where the block sits.
-/
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel2Ideal.InProj

open Cert.Kernel2Ideal Cert.Kernel2Ideal.Gen
open Cert.Reference2Ideal.Read

variable (m : (ℓ : Loc nD τ sig) → Buf (Elt Ideal) ℓ)

/-- Where each window's block sits at grid point `t`: sequence `t / 4`, rows `512 (t % 4)` on. -/
theorem idx : ∀ t : Fin cfg0.N, win0_0.index t = ![t.val / 4, t.val % 4, 0] ∧ win0_1.index t = ![t.val / 4, 0, 0]
    ∧ win0_2.index t = ![t.val / 4, 0, 0] ∧ win0_3.index t = ![0, 0] ∧ win0_4.index t = ![0, 0]
    ∧ win0_5.index t = ![t.val / 4, t.val % 4, 0] ∧ win0_6.index t = ![t.val / 4, t.val % 4, 0]
    ∧ win0_7.index t = ![t.val / 4, t.val % 4, 0] ∧ win0_8.index t = ![t.val / 4, t.val % 4, 0] :=
  (by decide +kernel : ∀ t : Fin grid0.N, _)

/-- The reference's projection of the modulated rows, all four bands. -/
abbrev PROJ (c : Dev nD) : FVec Ideal Cert.Reference2Ideal.S32x2048x2048 .f32 :=
  val_main_v19 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- THE POINT: row `r` of the block's product at grid point `t` is the row of the reference's product that it sits at. -/
theorem point (c : Dev nD) (t : Fin cfg0.N) (r : Fin 512) (e : Fin 2048) (b : Fin 32) (s e' : Fin 2048)
    (hb : b.val = t.val / 4) (hs : s.val = t.val % 4 * 512 + r.val) (he : e'.val = e.val) :
    k0_pay4 (F := Ideal) (iblk m c 0 t) (iblk m c 3 t) (iblk m c 2 t) (iblk m c 1 t) (iblk m c 4 t) (ix2 r e)
      = PROJ m c (ix3 b s e') := by
  obtain rfl : e' = e := Fin.ext he
  pointwise [k0_pay4, PROJ, val_main_v19, val_main_v18, val_main_v17, val_main_v16, val_main_v15, val_main_v14, val_main_v13,
    val_main_v12, val_main_v11, val_main_v10, val_main_v9, val_main_v8, val_main_v7, val_main_v6, val_main_v5, val_main_v4,
    val_main_v3, val_main_v2, val_main_v1, val_main_v0, val_main_cst, val_main_cst_0, val_main_cst_1, val_main_cst_2]
  blk_point [iblk, V, idx t]

/-- The product as the last three bands read it is the same product of the same blocks. -/
theorem pay6_eq (x0 : Vec Ideal S1x512x1024 .f32) (x1 x2 : Vec Ideal S1x1x1024 .f32) (x3 : Vec Ideal S1x1024 .f32)
    (x4 : Vec Ideal S1024x2048 .bf16) : k0_pay6 x0 x1 x2 x3 x4 = k0_pay4 (F := Ideal) x0 x3 x2 x1 x4 := by
  unfold k0_pay6
  frame_out

/-- The queries' array after the run: the first band of the reference's product, times the scores' scale. -/
theorem final5 (c : Dev nD) : (dats m 0 c).arrAt 5 cfg0.N
    = val_main_v25 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  frame_out
  pointwise [k0_pay5, val_main_v25, val_main_v24, val_main_v20, val_main_cst_3]
  exact congrArg (· * _) (point m c t (y 1) _ _ _ _ (by blk_simp [idx t] <;> omega) (by blk_simp [idx t] <;> omega) (by blk_simp [idx t] <;> omega))

/-- Window 6's array after the run: the second band of the reference's product. -/
theorem final6 (c : Dev nD) : (dats m 0 c).arrAt 6 cfg0.N
    = val_main_v21 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  frame_out
  pointwise [k0_pay1, val_main_v21, val_main_v23]
  rw [pay6_eq]
  refine point m c t (y 1) _ _ _ _ ?_ ?_ ?_ <;> blk_simp [idx t] <;> omega

/-- Window 7's array after the run: the third band of the reference's product. -/
theorem final7 (c : Dev nD) : (dats m 0 c).arrAt 7 cfg0.N
    = val_main_v22 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]
  frame_out
  pointwise [k0_pay2, val_main_v22, val_main_v23]
  rw [pay6_eq]
  refine point m c t (y 1) _ _ _ _ ?_ ?_ ?_ <;> blk_simp [idx t] <;> omega

/-- Window 8's array after the run: the fourth band of the reference's product. -/
theorem final8 (c : Dev nD) : (dats m 0 c).arrAt 8 cfg0.N
    = val_main_v26 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 8 _ (by decide +kernel) fun t _ y => ?_
  blk_simp
  rw [after0_8]
  frame_out
  pointwise [k0_pay3, val_main_v26, val_main_v23]
  rw [pay6_eq]
  refine point m c t (y 1) _ _ _ _ ?_ ?_ ?_ <;> blk_simp [idx t] <;> omega

end Cert.Kernel2Ideal.InProj

namespace Cert.Kernel2Ideal.InProj

/-- Over the reals the input projection's four result arrays are the reference's four. -/
theorem algebraic : Cert.algebraic_Kernel2Ideal_Reference2Ideal := by
  pair_intro
  · run_from Cert.Kernel2Ideal.Value.run_blocks m g
  · run_from Cert.Reference2Ideal.Value.run m' g'
    all_goals first
      | exact (final5 m c).symm
      | exact (final6 m c).symm
      | exact (final7 m c).symm
      | exact (final8 m c).symm

end Cert.Kernel2Ideal.InProj

end
-- ==== Proof.ExpertsRun.lean ====
module

public import proofs.«01_k».proof.Proof.Gen.Kernel3Ideal.Skeleton
public import proofs.«01_k».proof.Proof.Gen.Kernel3Ideal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

/-! Every path of the experts' body run once, for whatever words the two tables hold. A point reloads the three
weight scratches or keeps them, and computes its block or zeroes it: four paths. -/

@[expose] public section

set_option maxRecDepth 16384
set_option Elab.async false

noncomputable section

namespace Cert.Kernel3Ideal.Moe

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

abbrev tab0 : Memref sig .tc .smem S290 .i32 := Memref.whole main_arg1
abbrev tab1 : Memref sig .tc .smem S1 .i32 := Memref.whole main_arg2
abbrev scr0 : Memref sig .tc .vmem S1024x512 .bf16 := Memref.whole cc0_scratch0
abbrev scr1 : Memref sig .tc .vmem S1024x512 .bf16 := Memref.whole cc0_scratch1
abbrev scr2 : Memref sig .tc .vmem S512x1024 .bf16 := Memref.whole cc0_scratch2

abbrev ETab := S290.Idx → Elt Ideal .i32
abbrev NTab := S1.Idx → Elt Ideal .i32

/-- The expert of point `i`, as the body reads it. -/
abbrev here (T0 : ETab) (i : grid0.Coords) : BitVec 32 :=
  View.readAt (Elt Ideal) tab0.view (Rect.unit (s := S290) (k0_off1 i) S1.size (k0_off1_inb i)).toLoadRect T0
    (Shape.Idx.first (numel1_S1.symm ▸ Nat.one_pos))
/-- The expert of the point before `i`, as the body reads it. -/
abbrev prev (T0 : ETab) (i : grid0.Coords) : BitVec 32 :=
  View.readAt (Elt Ideal) tab0.view (Rect.unit (s := S290) (k0_off2 i) S1.size (k0_off2_inb i)).toLoadRect T0
    (Shape.Idx.first (numel1_S1.symm ▸ Nat.one_pos))
/-- The number of blocks in use, as the body reads it. -/
abbrev used (T1 : NTab) : BitVec 32 :=
  View.readAt (Elt Ideal) tab1.view (Rect.unit (s := S1) ![0] S1.size inb_S1_S1_0).toLoadRect T1
    (Shape.Idx.first (numel1_S1.symm ▸ Nat.one_pos))
/-- Point `i` loads its expert's weights anew. -/
abbrev Reload (T0 : ETab) (i : grid0.Coords) : Prop :=
  Scalar.cmpi .ne (Scalar.extui (Scalar.ori (Scalar.cmpi .eq (BitVec.ofNat 32 (i 0).val) 0#32)
    (Scalar.cmpi .ne (here T0 i) (prev T0 i)))) 0#32 = 1#1

/-- A chunk of 128 columns of the rows' block. -/
abbrev chunk (x0 : S8x512x128.Idx → Elt Ideal .bf16) (k : ℕ) (h : ∀ a, (![k, 0, 0] : Fin 3 → ℕ) a + S1x512x128.size a ≤ S8x512x128.size a) :
    Vec Ideal S1x512x128 .bf16 := View.ld x0 (Rect.unit (s := S8x512x128) ![k, 0, 0] S1x512x128.size h)

/-- The gated hidden rows of a block, from its eight chunks and the expert's two weights. -/
def hidden (x0 : S8x512x128.Idx → Elt Ideal .bf16) (w0 w1 : S1024x512.Idx → Elt Ideal .bf16) : FVec Ideal S512x512 .bf16 :=
  k0_pay6 (chunk x0 0 inb_S8x512x128_S1x512x128_0_0_0) (chunk x0 1 inb_S8x512x128_S1x512x128_1_0_0)
    (chunk x0 2 inb_S8x512x128_S1x512x128_2_0_0) (chunk x0 3 inb_S8x512x128_S1x512x128_3_0_0)
    (chunk x0 4 inb_S8x512x128_S1x512x128_4_0_0) (chunk x0 5 inb_S8x512x128_S1x512x128_5_0_0)
    (chunk x0 6 inb_S8x512x128_S1x512x128_6_0_0) (chunk x0 7 inb_S8x512x128_S1x512x128_7_0_0) w0 w1

/-- What a point in use stores, chunk by chunk, the last first. -/
def usePieces (x0 : S8x512x128.Idx → Elt Ideal .bf16) (w0 w1 : S1024x512.Idx → Elt Ideal .bf16)
    (w2 : S512x1024.Idx → Elt Ideal .bf16) : List (View.Piece (Elt Ideal) S8x512x128 .bf16) :=
  [⟨Rect.unit ![7, 0, 0] S1x512x128.size inb_S8x512x128_S1x512x128_7_0_0, k0_pay4 (k0_pay15 (hidden x0 w0 w1) w2)⟩,
    ⟨Rect.unit ![6, 0, 0] S1x512x128.size inb_S8x512x128_S1x512x128_6_0_0, k0_pay14 (hidden x0 w0 w1) w2⟩,
    ⟨Rect.unit ![5, 0, 0] S1x512x128.size inb_S8x512x128_S1x512x128_5_0_0, k0_pay13 (hidden x0 w0 w1) w2⟩,
    ⟨Rect.unit ![4, 0, 0] S1x512x128.size inb_S8x512x128_S1x512x128_4_0_0, k0_pay12 (hidden x0 w0 w1) w2⟩,
    ⟨Rect.unit ![3, 0, 0] S1x512x128.size inb_S8x512x128_S1x512x128_3_0_0, k0_pay11 (hidden x0 w0 w1) w2⟩,
    ⟨Rect.unit ![2, 0, 0] S1x512x128.size inb_S8x512x128_S1x512x128_2_0_0, k0_pay10 (hidden x0 w0 w1) w2⟩,
    ⟨Rect.unit ![1, 0, 0] S1x512x128.size inb_S8x512x128_S1x512x128_1_0_0, k0_pay9 (hidden x0 w0 w1) w2⟩,
    ⟨Rect.unit ![0, 0, 0] S1x512x128.size inb_S8x512x128_S1x512x128_0_0_0, k0_pay8 (hidden x0 w0 w1) w2⟩]

/-- What a point out of use stores: zeros. -/
def zeroPieces : List (View.Piece (Elt Ideal) S8x512x128 .bf16) :=
  [⟨Rect.unit ![0, 0, 0] S8x512x128.size inb_S8x512x128_S8x512x128_0_0_0, k0_pay5 (F := Ideal)⟩]

/-- One staging buffer of the output's window, through which a block's contents are stated. -/
abbrev VO : View sig .tc .vmem S8x512x128 .bf16 := (Memref.whole cc0_stg4_0 : Memref sig .tc .vmem S8x512x128 .bf16).view

def useOut (x0 : S8x512x128.Idx → Elt Ideal .bf16) (w0 w1 : S1024x512.Idx → Elt Ideal .bf16)
    (w2 : S512x1024.Idx → Elt Ideal .bf16) : S8x512x128.Idx → Elt Ideal .bf16 :=
  VO.read (Elt Ideal) (VO.writes (Elt Ideal) VO.junk (usePieces x0 w0 w1 w2))

def zeroOut : S8x512x128.Idx → Elt Ideal .bf16 :=
  VO.read (Elt Ideal) (VO.writes (Elt Ideal) VO.junk zeroPieces)

theorem use_cover (x0 : S8x512x128.Idx → Elt Ideal .bf16) (w0 w1 : S1024x512.Idx → Elt Ideal .bf16)
    (w2 : S512x1024.Idx → Elt Ideal .bf16) (y : S8x512x128.Idx) : ∃ pc ∈ usePieces x0 w0 w1 w2, y ∈ pc.1.set :=
  View.cover_of_tiledL (usePieces x0 w0 w1 w2) S1x512x128.size (by sl_kernel_rfl) y

theorem zero_cover (y : S8x512x128.Idx) : ∃ pc ∈ zeroPieces, y ∈ pc.1.set :=
  View.cover_of_tiledL zeroPieces S8x512x128.size (by sl_kernel_rfl) y

set_option backward.proofsInPublic true in
set_option maxHeartbeats 8000000 in
theorem run_load_use (c : Dev nD) (i : grid0.Coords)
    (arg3 : Memref sig .tc .vmem S8x512x128 .bf16) (harg3 : arg3.IsWhole)
    (arg4 : Memref sig .tc .vmem S1x1024x512 .f32) (harg4 : arg4.IsWhole)
    (arg5 : Memref sig .tc .vmem S1x1024x512 .f32) (harg5 : arg5.IsWhole)
    (arg6 : Memref sig .tc .vmem S1x512x1024 .f32) (harg6 : arg6.IsWhole)
    (arg7 : Memref sig .tc .vmem S8x512x128 .bf16) (harg7 : arg7.IsWhole)
    (T0 : ETab) (T1 : NTab) (x0 : S8x512x128.Idx → Elt Ideal .bf16) (x1 x2 : S1x1024x512.Idx → Elt Ideal .f32)
    (x3 : S1x512x1024.Idx → Elt Ideal .f32)
    (w0 w1 : S1024x512.Idx → Elt Ideal .bf16) (w2 : S512x1024.Idx → Elt Ideal .bf16)
    (hc0 : Reload T0 i) (h2 : k0_cond2 i (used T1) = 1#1) (h3 : ¬k0_cond3 i (used T1) = 1#1)
    (K : PUnit → sProp 𝕄) :
    iprop((arg3.view.loc (c : Thread nD τ) ↦[arg3.view.set]{fullShare} arg3.view.rep x0)
        ∗ (arg4.view.loc (c : Thread nD τ) ↦[arg4.view.set]{fullShare} arg4.view.rep x1)
        ∗ (arg5.view.loc (c : Thread nD τ) ↦[arg5.view.set]{fullShare} arg5.view.rep x2)
        ∗ (arg6.view.loc (c : Thread nD τ) ↦[arg6.view.set]{fullShare} arg6.view.rep x3)
        ∗ (tab0.view.loc (c : Thread nD τ) ↦{fullShare.right} T0)
        ∗ (tab1.view.loc (c : Thread nD τ) ↦{fullShare.right} T1)
        ∗ (∃ d, owns (c : Thread nD τ) arg7 fullShare d)
        ∗ (scr0.view.loc (c : Thread nD τ) ↦{fullShare} w0)
        ∗ (scr1.view.loc (c : Thread nD τ) ↦{fullShare} w1)
        ∗ (scr2.view.loc (c : Thread nD τ) ↦{fullShare} w2)
        ∗ (iprop((arg3.view.loc (c : Thread nD τ) ↦[arg3.view.set]{fullShare} arg3.view.rep x0)
            ∗ (arg4.view.loc (c : Thread nD τ) ↦[arg4.view.set]{fullShare} arg4.view.rep x1)
            ∗ (arg5.view.loc (c : Thread nD τ) ↦[arg5.view.set]{fullShare} arg5.view.rep x2)
            ∗ (arg6.view.loc (c : Thread nD τ) ↦[arg6.view.set]{fullShare} arg6.view.rep x3)
            ∗ (tab0.view.loc (c : Thread nD τ) ↦{fullShare.right} T0)
            ∗ (tab1.view.loc (c : Thread nD τ) ↦{fullShare.right} T1)
            ∗ (∃ f, arg7.view.loc (c : Thread nD τ) ↦[arg7.view.set]{fullShare} arg7.view.writes (Elt Ideal) f (usePieces x0 (k0_pay1 x1) (k0_pay2 x2) (k0_pay3 x3)))
            ∗ (scr0.view.loc (c : Thread nD τ) ↦{fullShare} (k0_pay1 x1))
            ∗ (scr1.view.loc (c : Thread nD τ) ↦{fullShare} (k0_pay2 x2))
            ∗ (scr2.view.loc (c : Thread nD τ) ↦{fullShare} (k0_pay3 x3))) -∗ K ⟨⟩))
      ⊢ wp frame (wpE (defs₀ (F := Ideal)) Variants.none c none) Set.univ (cc0__expert_kernel i tab0 (Memref.isWhole_whole _) tab1 (Memref.isWhole_whole _) arg3 harg3 arg4 harg4 arg5 harg5 arg6 harg6 arg7 harg7 scr0 (Memref.isWhole_whole _) scr1 (Memref.isWhole_whole _) scr2 (Memref.isWhole_whole _)) K := by
  unfold owns
  rw [cc0__expert_kernel_eq_skeleton]; unfold cc0__expert_kernel_skel
  iintro ⟨H0, H1, H2, H3, HT0, HT1, ⟨%d4, %f4, -, HO4⟩, HS0, HS1, HS2, Hk⟩
  have hS0 : scr0.IsWhole := Memref.isWhole_whole _
  have hS1 : scr1.IsWhole := Memref.isWhole_whole _
  have hS2 : scr2.IsWhole := Memref.isWhole_whole _
  have hT0 : tab0.IsWhole := Memref.isWhole_whole _
  have hT1 : tab1.IsWhole := Memref.isWhole_whole _
  sl_exec! (disch := first | (guard_target = (Scalar.cmpi _ _ _ = _); exact hc0) | (guard_target = (k0_cond2 _ _ = _); exact h2) | (guard_target = ¬(k0_cond3 _ _ = _); exact h3))
  sl_step
  rw [show scr0.view.writes (Elt Ideal) scr0.view.junk (run_load_use.sl.HS0_1 arg4 x1) = k0_pay1 x1 from by
      unfold run_load_use.sl.HS0_1; rw [View.readAt_rep_full]
      have h := View.read_writes_full (Val := Elt Ideal) scr0.view scr0.view.junk inb_S1024x512_S1024x512_0_0 (k0_pay1 x1) []
      exact h,
    show scr1.view.writes (Elt Ideal) scr1.view.junk (run_load_use.sl.HS1_1 arg5 x2) = k0_pay2 x2 from by
      unfold run_load_use.sl.HS1_1; rw [View.readAt_rep_full]
      have h := View.read_writes_full (Val := Elt Ideal) scr1.view scr1.view.junk inb_S1024x512_S1024x512_0_0 (k0_pay2 x2) []
      exact h,
    show scr2.view.writes (Elt Ideal) scr2.view.junk (run_load_use.sl.HS2_1 arg6 x3) = k0_pay3 x3 from by
      unfold run_load_use.sl.HS2_1; rw [View.readAt_rep_full]
      have h := View.read_writes_full (Val := Elt Ideal) scr2.view scr2.view.junk inb_S512x1024_S512x1024_0_0 (k0_pay3 x3) []
      exact h]
  rw [show run_load_use.sl.HO4_8 arg3 arg4 arg5 arg6 x0 x1 x2 x3 = usePieces x0 (k0_pay1 x1) (k0_pay2 x2) (k0_pay3 x3) from by
      have e0 : run_load_use.sl.v38 arg4 x1 = k0_pay1 x1 := by
        unfold run_load_use.sl.v38 run_load_use.sl.HS0_1; rw [View.readAt_rep_full]; exact View.readCov_full scr0.view _ _ _ []
      have e1 : run_load_use.sl.v40 arg5 x2 = k0_pay2 x2 := by
        unfold run_load_use.sl.v40 run_load_use.sl.HS1_1; rw [View.readAt_rep_full]; exact View.readCov_full scr1.view _ _ _ []
      have e2 : run_load_use.sl.v46 arg6 x3 = k0_pay3 x3 := by
        unfold run_load_use.sl.v46 run_load_use.sl.HS2_1; rw [View.readAt_rep_full]; exact View.readCov_full scr2.view _ _ _ []
      unfold run_load_use.sl.HO4_8 run_load_use.sl.r_4 run_load_use.sl.r_3
      rw [e0, e1, e2]
      simp only [View.readAt_rep]
      rfl]
  iapply Hk
  isplitl [H0]; · iexact H0
  isplitl [H1]; · iexact H1
  isplitl [H2]; · iexact H2
  isplitl [H3]; · iexact H3
  isplitl [HT0]; · iexact HT0
  isplitl [HT1]; · iexact HT1
  isplitl [HO4]; · iexists _; iexact HO4
  isplitl [HS0]; · iexact HS0
  isplitl [HS1]; · iexact HS1
  iexact HS2

set_option backward.proofsInPublic true in
set_option maxHeartbeats 8000000 in
theorem run_keep_use (c : Dev nD) (i : grid0.Coords)
    (arg3 : Memref sig .tc .vmem S8x512x128 .bf16) (harg3 : arg3.IsWhole)
    (arg4 : Memref sig .tc .vmem S1x1024x512 .f32) (harg4 : arg4.IsWhole)
    (arg5 : Memref sig .tc .vmem S1x1024x512 .f32) (harg5 : arg5.IsWhole)
    (arg6 : Memref sig .tc .vmem S1x512x1024 .f32) (harg6 : arg6.IsWhole)
    (arg7 : Memref sig .tc .vmem S8x512x128 .bf16) (harg7 : arg7.IsWhole)
    (T0 : ETab) (T1 : NTab) (x0 : S8x512x128.Idx → Elt Ideal .bf16) (x1 x2 : S1x1024x512.Idx → Elt Ideal .f32)
    (x3 : S1x512x1024.Idx → Elt Ideal .f32)
    (w0 w1 : S1024x512.Idx → Elt Ideal .bf16) (w2 : S512x1024.Idx → Elt Ideal .bf16)
    (hc0 : ¬Reload T0 i) (h2 : k0_cond2 i (used T1) = 1#1) (h3 : ¬k0_cond3 i (used T1) = 1#1)
    (K : PUnit → sProp 𝕄) :
    iprop((arg3.view.loc (c : Thread nD τ) ↦[arg3.view.set]{fullShare} arg3.view.rep x0)
        ∗ (arg4.view.loc (c : Thread nD τ) ↦[arg4.view.set]{fullShare} arg4.view.rep x1)
        ∗ (arg5.view.loc (c : Thread nD τ) ↦[arg5.view.set]{fullShare} arg5.view.rep x2)
        ∗ (arg6.view.loc (c : Thread nD τ) ↦[arg6.view.set]{fullShare} arg6.view.rep x3)
        ∗ (tab0.view.loc (c : Thread nD τ) ↦{fullShare.right} T0)
        ∗ (tab1.view.loc (c : Thread nD τ) ↦{fullShare.right} T1)
        ∗ (∃ d, owns (c : Thread nD τ) arg7 fullShare d)
        ∗ (scr0.view.loc (c : Thread nD τ) ↦{fullShare} w0)
        ∗ (scr1.view.loc (c : Thread nD τ) ↦{fullShare} w1)
        ∗ (scr2.view.loc (c : Thread nD τ) ↦{fullShare} w2)
        ∗ (iprop((arg3.view.loc (c : Thread nD τ) ↦[arg3.view.set]{fullShare} arg3.view.rep x0)
            ∗ (arg4.view.loc (c : Thread nD τ) ↦[arg4.view.set]{fullShare} arg4.view.rep x1)
            ∗ (arg5.view.loc (c : Thread nD τ) ↦[arg5.view.set]{fullShare} arg5.view.rep x2)
            ∗ (arg6.view.loc (c : Thread nD τ) ↦[arg6.view.set]{fullShare} arg6.view.rep x3)
            ∗ (tab0.view.loc (c : Thread nD τ) ↦{fullShare.right} T0)
            ∗ (tab1.view.loc (c : Thread nD τ) ↦{fullShare.right} T1)
            ∗ (∃ f, arg7.view.loc (c : Thread nD τ) ↦[arg7.view.set]{fullShare} arg7.view.writes (Elt Ideal) f (usePieces x0 w0 w1 w2))
            ∗ (scr0.view.loc (c : Thread nD τ) ↦{fullShare} w0)
            ∗ (scr1.view.loc (c : Thread nD τ) ↦{fullShare} w1)
            ∗ (scr2.view.loc (c : Thread nD τ) ↦{fullShare} w2)) -∗ K ⟨⟩))
      ⊢ wp frame (wpE (defs₀ (F := Ideal)) Variants.none c none) Set.univ (cc0__expert_kernel i tab0 (Memref.isWhole_whole _) tab1 (Memref.isWhole_whole _) arg3 harg3 arg4 harg4 arg5 harg5 arg6 harg6 arg7 harg7 scr0 (Memref.isWhole_whole _) scr1 (Memref.isWhole_whole _) scr2 (Memref.isWhole_whole _)) K := by
  unfold owns
  rw [cc0__expert_kernel_eq_skeleton]; unfold cc0__expert_kernel_skel
  iintro ⟨H0, H1, H2, H3, HT0, HT1, ⟨%d4, %f4, -, HO4⟩, HS0, HS1, HS2, Hk⟩
  have hS0 : scr0.IsWhole := Memref.isWhole_whole _
  have hS1 : scr1.IsWhole := Memref.isWhole_whole _
  have hS2 : scr2.IsWhole := Memref.isWhole_whole _
  have hT0 : tab0.IsWhole := Memref.isWhole_whole _
  have hT1 : tab1.IsWhole := Memref.isWhole_whole _
  sl_exec! (disch := first | (guard_target = ¬(Scalar.cmpi _ _ _ = _); exact hc0) | (guard_target = (k0_cond2 _ _ = _); exact h2) | (guard_target = ¬(k0_cond3 _ _ = _); exact h3))
  sl_step
  rw [show run_keep_use.sl.HO4_8 arg3 x0 w0 w1 w2 = usePieces x0 w0 w1 w2 from by
      have e0 : scr0.view.readAt (Elt Ideal) (Rect.unit ![0, 0] S1024x512.size inb_S1024x512_S1024x512_0_0).toLoadRect w0 = w0 :=
        View.readAt_full scr0.view w0 _
      have e1 : scr1.view.readAt (Elt Ideal) (Rect.unit ![0, 0] S1024x512.size inb_S1024x512_S1024x512_0_0).toLoadRect w1 = w1 :=
        View.readAt_full scr1.view w1 _
      have e2 : run_keep_use.sl.r_4 w2 = w2 := View.readAt_full scr2.view w2 _
      unfold run_keep_use.sl.HO4_8 run_keep_use.sl.r_5 run_keep_use.sl.r_3
      rw [e0, e1, e2]
      simp only [View.readAt_rep]
      rfl]
  iapply Hk
  isplitl [H0]; · iexact H0
  isplitl [H1]; · iexact H1
  isplitl [H2]; · iexact H2
  isplitl [H3]; · iexact H3
  isplitl [HT0]; · iexact HT0
  isplitl [HT1]; · iexact HT1
  isplitl [HO4]; · iexists _; iexact HO4
  isplitl [HS0]; · iexact HS0
  isplitl [HS1]; · iexact HS1
  iexact HS2

set_option backward.proofsInPublic true in
set_option maxHeartbeats 8000000 in
theorem run_load_zero (c : Dev nD) (i : grid0.Coords)
    (arg3 : Memref sig .tc .vmem S8x512x128 .bf16) (harg3 : arg3.IsWhole)
    (arg4 : Memref sig .tc .vmem S1x1024x512 .f32) (harg4 : arg4.IsWhole)
    (arg5 : Memref sig .tc .vmem S1x1024x512 .f32) (harg5 : arg5.IsWhole)
    (arg6 : Memref sig .tc .vmem S1x512x1024 .f32) (harg6 : arg6.IsWhole)
    (arg7 : Memref sig .tc .vmem S8x512x128 .bf16) (harg7 : arg7.IsWhole)
    (T0 : ETab) (T1 : NTab) (x0 : S8x512x128.Idx → Elt Ideal .bf16) (x1 x2 : S1x1024x512.Idx → Elt Ideal .f32)
    (x3 : S1x512x1024.Idx → Elt Ideal .f32)
    (w0 w1 : S1024x512.Idx → Elt Ideal .bf16) (w2 : S512x1024.Idx → Elt Ideal .bf16)
    (hc0 : Reload T0 i) (h2 : ¬k0_cond2 i (used T1) = 1#1) (h3 : k0_cond3 i (used T1) = 1#1)
    (K : PUnit → sProp 𝕄) :
    iprop((arg3.view.loc (c : Thread nD τ) ↦[arg3.view.set]{fullShare} arg3.view.rep x0)
        ∗ (arg4.view.loc (c : Thread nD τ) ↦[arg4.view.set]{fullShare} arg4.view.rep x1)
        ∗ (arg5.view.loc (c : Thread nD τ) ↦[arg5.view.set]{fullShare} arg5.view.rep x2)
        ∗ (arg6.view.loc (c : Thread nD τ) ↦[arg6.view.set]{fullShare} arg6.view.rep x3)
        ∗ (tab0.view.loc (c : Thread nD τ) ↦{fullShare.right} T0)
        ∗ (tab1.view.loc (c : Thread nD τ) ↦{fullShare.right} T1)
        ∗ (∃ d, owns (c : Thread nD τ) arg7 fullShare d)
        ∗ (scr0.view.loc (c : Thread nD τ) ↦{fullShare} w0)
        ∗ (scr1.view.loc (c : Thread nD τ) ↦{fullShare} w1)
        ∗ (scr2.view.loc (c : Thread nD τ) ↦{fullShare} w2)
        ∗ (iprop((arg3.view.loc (c : Thread nD τ) ↦[arg3.view.set]{fullShare} arg3.view.rep x0)
            ∗ (arg4.view.loc (c : Thread nD τ) ↦[arg4.view.set]{fullShare} arg4.view.rep x1)
            ∗ (arg5.view.loc (c : Thread nD τ) ↦[arg5.view.set]{fullShare} arg5.view.rep x2)
            ∗ (arg6.view.loc (c : Thread nD τ) ↦[arg6.view.set]{fullShare} arg6.view.rep x3)
            ∗ (tab0.view.loc (c : Thread nD τ) ↦{fullShare.right} T0)
            ∗ (tab1.view.loc (c : Thread nD τ) ↦{fullShare.right} T1)
            ∗ (∃ f, arg7.view.loc (c : Thread nD τ) ↦[arg7.view.set]{fullShare} arg7.view.writes (Elt Ideal) f zeroPieces)
            ∗ (scr0.view.loc (c : Thread nD τ) ↦{fullShare} (k0_pay1 x1))
            ∗ (scr1.view.loc (c : Thread nD τ) ↦{fullShare} (k0_pay2 x2))
            ∗ (scr2.view.loc (c : Thread nD τ) ↦{fullShare} (k0_pay3 x3))) -∗ K ⟨⟩))
      ⊢ wp frame (wpE (defs₀ (F := Ideal)) Variants.none c none) Set.univ (cc0__expert_kernel i tab0 (Memref.isWhole_whole _) tab1 (Memref.isWhole_whole _) arg3 harg3 arg4 harg4 arg5 harg5 arg6 harg6 arg7 harg7 scr0 (Memref.isWhole_whole _) scr1 (Memref.isWhole_whole _) scr2 (Memref.isWhole_whole _)) K := by
  unfold owns
  rw [cc0__expert_kernel_eq_skeleton]; unfold cc0__expert_kernel_skel
  iintro ⟨H0, H1, H2, H3, HT0, HT1, ⟨%d4, %f4, -, HO4⟩, HS0, HS1, HS2, Hk⟩
  have hS0 : scr0.IsWhole := Memref.isWhole_whole _
  have hS1 : scr1.IsWhole := Memref.isWhole_whole _
  have hS2 : scr2.IsWhole := Memref.isWhole_whole _
  have hT0 : tab0.IsWhole := Memref.isWhole_whole _
  have hT1 : tab1.IsWhole := Memref.isWhole_whole _
  sl_exec! (disch := first | (guard_target = (Scalar.cmpi _ _ _ = _); exact hc0) | (guard_target = ¬(k0_cond2 _ _ = _); exact h2) | (guard_target = (k0_cond3 _ _ = _); exact h3))
  sl_step
  rw [show scr0.view.writes (Elt Ideal) scr0.view.junk (run_load_zero.sl.HS0_1 arg4 x1) = k0_pay1 x1 from by
      unfold run_load_zero.sl.HS0_1; rw [View.readAt_rep_full]
      have h := View.read_writes_full (Val := Elt Ideal) scr0.view scr0.view.junk inb_S1024x512_S1024x512_0_0 (k0_pay1 x1) []
      exact h,
    show scr1.view.writes (Elt Ideal) scr1.view.junk (run_load_zero.sl.HS1_1 arg5 x2) = k0_pay2 x2 from by
      unfold run_load_zero.sl.HS1_1; rw [View.readAt_rep_full]
      have h := View.read_writes_full (Val := Elt Ideal) scr1.view scr1.view.junk inb_S1024x512_S1024x512_0_0 (k0_pay2 x2) []
      exact h,
    show scr2.view.writes (Elt Ideal) scr2.view.junk (run_load_zero.sl.HS2_1 arg6 x3) = k0_pay3 x3 from by
      unfold run_load_zero.sl.HS2_1; rw [View.readAt_rep_full]
      have h := View.read_writes_full (Val := Elt Ideal) scr2.view scr2.view.junk inb_S512x1024_S512x1024_0_0 (k0_pay3 x3) []
      exact h]
  iapply Hk
  isplitl [H0]; · iexact H0
  isplitl [H1]; · iexact H1
  isplitl [H2]; · iexact H2
  isplitl [H3]; · iexact H3
  isplitl [HT0]; · iexact HT0
  isplitl [HT1]; · iexact HT1
  isplitl [HO4]; · iexists _; iexact HO4
  isplitl [HS0]; · iexact HS0
  isplitl [HS1]; · iexact HS1
  iexact HS2

set_option backward.proofsInPublic true in
set_option maxHeartbeats 8000000 in
theorem run_keep_zero (c : Dev nD) (i : grid0.Coords)
    (arg3 : Memref sig .tc .vmem S8x512x128 .bf16) (harg3 : arg3.IsWhole)
    (arg4 : Memref sig .tc .vmem S1x1024x512 .f32) (harg4 : arg4.IsWhole)
    (arg5 : Memref sig .tc .vmem S1x1024x512 .f32) (harg5 : arg5.IsWhole)
    (arg6 : Memref sig .tc .vmem S1x512x1024 .f32) (harg6 : arg6.IsWhole)
    (arg7 : Memref sig .tc .vmem S8x512x128 .bf16) (harg7 : arg7.IsWhole)
    (T0 : ETab) (T1 : NTab) (x0 : S8x512x128.Idx → Elt Ideal .bf16) (x1 x2 : S1x1024x512.Idx → Elt Ideal .f32)
    (x3 : S1x512x1024.Idx → Elt Ideal .f32)
    (w0 w1 : S1024x512.Idx → Elt Ideal .bf16) (w2 : S512x1024.Idx → Elt Ideal .bf16)
    (hc0 : ¬Reload T0 i) (h2 : ¬k0_cond2 i (used T1) = 1#1) (h3 : k0_cond3 i (used T1) = 1#1)
    (K : PUnit → sProp 𝕄) :
    iprop((arg3.view.loc (c : Thread nD τ) ↦[arg3.view.set]{fullShare} arg3.view.rep x0)
        ∗ (arg4.view.loc (c : Thread nD τ) ↦[arg4.view.set]{fullShare} arg4.view.rep x1)
        ∗ (arg5.view.loc (c : Thread nD τ) ↦[arg5.view.set]{fullShare} arg5.view.rep x2)
        ∗ (arg6.view.loc (c : Thread nD τ) ↦[arg6.view.set]{fullShare} arg6.view.rep x3)
        ∗ (tab0.view.loc (c : Thread nD τ) ↦{fullShare.right} T0)
        ∗ (tab1.view.loc (c : Thread nD τ) ↦{fullShare.right} T1)
        ∗ (∃ d, owns (c : Thread nD τ) arg7 fullShare d)
        ∗ (scr0.view.loc (c : Thread nD τ) ↦{fullShare} w0)
        ∗ (scr1.view.loc (c : Thread nD τ) ↦{fullShare} w1)
        ∗ (scr2.view.loc (c : Thread nD τ) ↦{fullShare} w2)
        ∗ (iprop((arg3.view.loc (c : Thread nD τ) ↦[arg3.view.set]{fullShare} arg3.view.rep x0)
            ∗ (arg4.view.loc (c : Thread nD τ) ↦[arg4.view.set]{fullShare} arg4.view.rep x1)
            ∗ (arg5.view.loc (c : Thread nD τ) ↦[arg5.view.set]{fullShare} arg5.view.rep x2)
            ∗ (arg6.view.loc (c : Thread nD τ) ↦[arg6.view.set]{fullShare} arg6.view.rep x3)
            ∗ (tab0.view.loc (c : Thread nD τ) ↦{fullShare.right} T0)
            ∗ (tab1.view.loc (c : Thread nD τ) ↦{fullShare.right} T1)
            ∗ (∃ f, arg7.view.loc (c : Thread nD τ) ↦[arg7.view.set]{fullShare} arg7.view.writes (Elt Ideal) f zeroPieces)
            ∗ (scr0.view.loc (c : Thread nD τ) ↦{fullShare} w0)
            ∗ (scr1.view.loc (c : Thread nD τ) ↦{fullShare} w1)
            ∗ (scr2.view.loc (c : Thread nD τ) ↦{fullShare} w2)) -∗ K ⟨⟩))
      ⊢ wp frame (wpE (defs₀ (F := Ideal)) Variants.none c none) Set.univ (cc0__expert_kernel i tab0 (Memref.isWhole_whole _) tab1 (Memref.isWhole_whole _) arg3 harg3 arg4 harg4 arg5 harg5 arg6 harg6 arg7 harg7 scr0 (Memref.isWhole_whole _) scr1 (Memref.isWhole_whole _) scr2 (Memref.isWhole_whole _)) K := by
  unfold owns
  rw [cc0__expert_kernel_eq_skeleton]; unfold cc0__expert_kernel_skel
  iintro ⟨H0, H1, H2, H3, HT0, HT1, ⟨%d4, %f4, -, HO4⟩, HS0, HS1, HS2, Hk⟩
  have hS0 : scr0.IsWhole := Memref.isWhole_whole _
  have hS1 : scr1.IsWhole := Memref.isWhole_whole _
  have hS2 : scr2.IsWhole := Memref.isWhole_whole _
  have hT0 : tab0.IsWhole := Memref.isWhole_whole _
  have hT1 : tab1.IsWhole := Memref.isWhole_whole _
  sl_exec! (disch := first | (guard_target = ¬(Scalar.cmpi _ _ _ = _); exact hc0) | (guard_target = ¬(k0_cond2 _ _ = _); exact h2) | (guard_target = (k0_cond3 _ _ = _); exact h3))
  sl_step
  iapply Hk
  isplitl [H0]; · iexact H0
  isplitl [H1]; · iexact H1
  isplitl [H2]; · iexact H2
  isplitl [H3]; · iexact H3
  isplitl [HT0]; · iexact HT0
  isplitl [HT1]; · iexact HT1
  isplitl [HO4]; · iexists _; iexact HO4
  isplitl [HS0]; · iexact HS0
  isplitl [HS1]; · iexact HS1
  iexact HS2

end Cert.Kernel3Ideal.Moe

end
-- ==== Proof.ExpertsFrame.lean ====
module

public import proofs.«01_k».proof.Proof.ExpertsRun
public import proofs.«01_k».proof.Defs
public import proofs.«01_k».proof.Proof.Gen.Pre_experts_named

/-! The experts' call, whatever words its two tables hold, so long as every expert named has weights. Before a point
the three scratches hold the weights of the point before; a point that keeps them has that point's expert, so after
every point they hold the weights of the point's own. -/

@[expose] public section

set_option maxRecDepth 16384
set_option Elab.async false

noncomputable section

namespace Cert.Kernel3Ideal.Moe

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

abbrev EP : Emb (UR sig nD τ) 𝕄 := emb₁

/-! ## The body's decisions -/

/-- The two tests on the number of blocks in use are one another's negation. -/
theorem use_or_zero (i : grid0.Coords) (v : BitVec 32) : k0_cond3 i v = 1#1 ↔ ¬k0_cond2 i v = 1#1 := by
  unfold k0_cond2 k0_cond3
  generalize BitVec.ofNat 32 (i 0).val = x
  simp only [Scalar.cmpi, IntOp.cmpi, Scalar.extui, BitVec.sle_eq_not_slt]
  cases x.slt v <;> decide

/-- A point that keeps the scratches is not the first, and its expert is the one of the point before. -/
theorem keep_spec {T0 : ETab} {i : grid0.Coords} (h : ¬Reload T0 i) : (i 0).val ≠ 0 ∧ here T0 i = prev T0 i := by
  unfold Reload at h
  generalize here T0 i = x at h ⊢
  generalize prev T0 i = y at h ⊢
  simp only [Scalar.cmpi, IntOp.cmpi, Scalar.extui, Scalar.ori] at h
  constructor
  · intro h0
    rw [h0] at h
    cases hb : (x != y) <;> rw [hb] at h <;> exact h (by decide)
  · by_contra hxy
    have hb : (x != y) = true := by simpa using hxy
    rw [hb] at h
    cases hc : (BitVec.ofNat 32 (i 0).val == 0#32) <;> rw [hc] at h <;> exact h (by decide)

variable (a : (pcfg0 (F := Ideal)).Adm)

abbrev cfgA : Pipeline.Cfg sig Λ₀ := cfg0 (F := Ideal) a
abbrev pcs : Fin 1 → Pipeline.Cfg sig Λ₀ := Pipeline.pin (pcfgs (F := Ideal)) fun _ => a

/-- The two tables' words. -/
abbrev T0 : ETab := a.1 0
abbrev T1 : NTab := a.1 1

variable (m : (ℓ : Loc nD τ sig) → Buf (Elt Ideal) ℓ) (ρ : Dev nD → PrngReg)

/-- Every device's tables are those the pipeline is run at. -/
def Tabled : Prop :=
  (∀ c : Dev nD, m ((c : Thread nD τ).loc main_arg1) = T0 a) ∧ (∀ c : Dev nD, m ((c : Thread nD τ).loc main_arg2) = T1 a)

abbrev crd (t : Fin (cfgA a).N) : (cfgA a).grid.Coords := (cfgA a).grid.coords t

abbrev ms0 (t : Fin (cfgA a).N) : Memref sig .tc .vmem S8x512x128 .bf16 := spec0_0.stage ((cfgA a).slots t (0 : Fin 5))
abbrev hs0 (t : Fin (cfgA a).N) : (ms0 a t).IsWhole := hstage0_0 (((cfgA a).slots t (0 : Fin 5)).cast nbuf0_0)
abbrev ms1 (t : Fin (cfgA a).N) : Memref sig .tc .vmem S1x1024x512 .f32 := spec0_1.stage ((cfgA a).slots t (1 : Fin 5))
abbrev hs1 (t : Fin (cfgA a).N) : (ms1 a t).IsWhole := hstage0_1 (((cfgA a).slots t (1 : Fin 5)).cast nbuf0_1)
abbrev ms2 (t : Fin (cfgA a).N) : Memref sig .tc .vmem S1x1024x512 .f32 := spec0_2.stage ((cfgA a).slots t (2 : Fin 5))
abbrev hs2 (t : Fin (cfgA a).N) : (ms2 a t).IsWhole := hstage0_2 (((cfgA a).slots t (2 : Fin 5)).cast nbuf0_2)
abbrev ms3 (t : Fin (cfgA a).N) : Memref sig .tc .vmem S1x512x1024 .f32 := spec0_3.stage ((cfgA a).slots t (3 : Fin 5))
abbrev hs3 (t : Fin (cfgA a).N) : (ms3 a t).IsWhole := hstage0_3 (((cfgA a).slots t (3 : Fin 5)).cast nbuf0_3)
abbrev ms4 (t : Fin (cfgA a).N) : Memref sig .tc .vmem S8x512x128 .bf16 := spec0_4.stage ((cfgA a).slots t (4 : Fin 5))
abbrev hs4 (t : Fin (cfgA a).N) : (ms4 a t).IsWhole := hstage0_4 (((cfgA a).slots t (4 : Fin 5)).cast nbuf0_4)
/-- Window `w`'s block at point `t`, read off its array at launch. -/
def iblk (c : Dev nD) (w : Fin (cfgA a).W) (t : Fin (cfgA a).N) : (((cfgA a).win w).xblock (crd a t)).Idx → Elt Ideal ((cfgA a).win w).elt :=
  (((cfgA a).win w).blk t).view.read (Elt Ideal) ((s₀ m ρ).mem (((cfgA a).win w).arr.view.loc (c : Thread nD τ)))

/-- The weights of point `t`'s expert, as the scratches hold them. -/
def gate (c : Dev nD) (t : Fin (cfgA a).N) : S1024x512.Idx → Elt Ideal .bf16 := k0_pay1 (F := Ideal) (iblk a m ρ c (1 : Fin 5) t)
def up (c : Dev nD) (t : Fin (cfgA a).N) : S1024x512.Idx → Elt Ideal .bf16 := k0_pay2 (F := Ideal) (iblk a m ρ c (2 : Fin 5) t)
def down (c : Dev nD) (t : Fin (cfgA a).N) : S512x1024.Idx → Elt Ideal .bf16 := k0_pay3 (F := Ideal) (iblk a m ρ c (3 : Fin 5) t)

/-- What point `t` leaves in the output's block. -/
def blockOut (c : Dev nD) (t : Fin (cfgA a).N) : S8x512x128.Idx → Elt Ideal .bf16 :=
  if k0_cond2 (crd a t) (used (T1 a)) = 1#1 then useOut (iblk a m ρ c (0 : Fin 5) t) (gate a m ρ c t) (up a m ρ c t) (down a m ρ c t)
  else zeroOut

/-! ## The pipeline's proof data -/

/-- Before point `t`: the scratches at the weights of the point before, if there is one; the body's halves of the
tables. -/
def Phi (c : Dev nD) (t : Fin ((cfgA a).N + 1)) : sProp 𝕄 :=
  iprop((∃ w, ⌜∀ t' : Fin (cfgA a).N, t.val = t'.val + 1 → w = gate a m ρ c t'⌝ ∗ (scr0.view.loc (c : Thread nD τ) ↦{fullShare} w))
    ∗ (∃ w, ⌜∀ t' : Fin (cfgA a).N, t.val = t'.val + 1 → w = up a m ρ c t'⌝ ∗ (scr1.view.loc (c : Thread nD τ) ↦{fullShare} w))
    ∗ (∃ w, ⌜∀ t' : Fin (cfgA a).N, t.val = t'.val + 1 → w = down a m ρ c t'⌝ ∗ (scr2.view.loc (c : Thread nD τ) ↦{fullShare} w))
    ∗ (tab0.view.loc (c : Thread nD τ) ↦{fullShare.right} T0 a) ∗ (tab1.view.loc (c : Thread nD τ) ↦{fullShare.right} T1 a))

/-- The proof data of the one pipeline on core `c`. -/
def dats (_ : Fin 1) (c : Dev nD) : Dat τ (Elt Ideal) Unit ℕ (UR sig nD τ) ℕ (cfgA a) c where
  A w := (s₀ m ρ).mem (((cfgA a).win w).arr.view.loc (c : Thread nD τ))
  after w t := match w with
    | ⟨0, _⟩ => iblk a m ρ c (0 : Fin 5) t
    | ⟨1, _⟩ => iblk a m ρ c (1 : Fin 5) t
    | ⟨2, _⟩ => iblk a m ρ c (2 : Fin 5) t
    | ⟨3, _⟩ => iblk a m ρ c (3 : Fin 5) t
    | ⟨4, _⟩ => blockOut a m ρ c t
  Φ t := Phi a m ρ c t
  q _ := fullShare
  owed _ := 0

theorem after0 (c : Dev nD) (t : Fin (cfgA a).N) : (dats a m ρ 0 c).after (0 : Fin 5) t = iblk a m ρ c (0 : Fin 5) t := rfl
theorem after1 (c : Dev nD) (t : Fin (cfgA a).N) : (dats a m ρ 0 c).after (1 : Fin 5) t = iblk a m ρ c (1 : Fin 5) t := rfl
theorem after2 (c : Dev nD) (t : Fin (cfgA a).N) : (dats a m ρ 0 c).after (2 : Fin 5) t = iblk a m ρ c (2 : Fin 5) t := rfl
theorem after3 (c : Dev nD) (t : Fin (cfgA a).N) : (dats a m ρ 0 c).after (3 : Fin 5) t = iblk a m ρ c (3 : Fin 5) t := rfl
theorem after4 (c : Dev nD) (t : Fin (cfgA a).N) : (dats a m ρ 0 c).after (4 : Fin 5) t = blockOut a m ρ c t := rfl

theorem fetched0 (c : Dev nD) (t : Fin (cfgA a).N) (d) : (dats a m ρ 0 c).fetched (0 : Fin 5) t d = iblk a m ρ c (0 : Fin 5) t := by
  unfold Dat.fetched Dat.blockOf iblk; rfl
theorem before0 (c : Dev nD) (t : Fin (cfgA a).N) (d) : (dats a m ρ 0 c).before (0 : Fin 5) t d = iblk a m ρ c (0 : Fin 5) t :=
  ((dats a m ρ 0 c).before_in_eq_fetched (0 : Fin 5) rfl (fun _ => rfl) (fun _ _ _ => rfl) (fun t => by rw [after0]; unfold Dat.blockOf iblk; rfl) t d).trans
    (fetched0 a m ρ c t d)

theorem fetched1 (c : Dev nD) (t : Fin (cfgA a).N) (d) : (dats a m ρ 0 c).fetched (1 : Fin 5) t d = iblk a m ρ c (1 : Fin 5) t := by
  unfold Dat.fetched Dat.blockOf iblk; rfl
theorem before1 (c : Dev nD) (t : Fin (cfgA a).N) (d) : (dats a m ρ 0 c).before (1 : Fin 5) t d = iblk a m ρ c (1 : Fin 5) t :=
  ((dats a m ρ 0 c).before_in_eq_fetched (1 : Fin 5) rfl (fun _ => rfl) (fun _ _ _ => rfl) (fun t => by rw [after1]; unfold Dat.blockOf iblk; rfl) t d).trans
    (fetched1 a m ρ c t d)

theorem fetched2 (c : Dev nD) (t : Fin (cfgA a).N) (d) : (dats a m ρ 0 c).fetched (2 : Fin 5) t d = iblk a m ρ c (2 : Fin 5) t := by
  unfold Dat.fetched Dat.blockOf iblk; rfl
theorem before2 (c : Dev nD) (t : Fin (cfgA a).N) (d) : (dats a m ρ 0 c).before (2 : Fin 5) t d = iblk a m ρ c (2 : Fin 5) t :=
  ((dats a m ρ 0 c).before_in_eq_fetched (2 : Fin 5) rfl (fun _ => rfl) (fun _ _ _ => rfl) (fun t => by rw [after2]; unfold Dat.blockOf iblk; rfl) t d).trans
    (fetched2 a m ρ c t d)

theorem fetched3 (c : Dev nD) (t : Fin (cfgA a).N) (d) : (dats a m ρ 0 c).fetched (3 : Fin 5) t d = iblk a m ρ c (3 : Fin 5) t := by
  unfold Dat.fetched Dat.blockOf iblk; rfl
theorem before3 (c : Dev nD) (t : Fin (cfgA a).N) (d) : (dats a m ρ 0 c).before (3 : Fin 5) t d = iblk a m ρ c (3 : Fin 5) t :=
  ((dats a m ρ 0 c).before_in_eq_fetched (3 : Fin 5) rfl (fun _ => rfl) (fun _ _ _ => rfl) (fun t => by rw [after3]; unfold Dat.blockOf iblk; rfl) t d).trans
    (fetched3 a m ρ c t d)

/-! ## A point that keeps the scratches has the weights of the point before -/

theorem off_prev : ∀ t : Fin grid0.N, (h : t.val ≠ 0) → k0_off2 (grid0.coords t) = k0_off1 (grid0.coords ⟨t.val - 1, by omega⟩) := by
  decide +kernel

theorem coord_zero : ∀ t : Fin grid0.N, t.val = 0 → (grid0.coords t 0).val = 0 := by decide +kernel

theorem word_congr (T : ETab) {o o' : Fin 1 → ℕ} (e : o = o') (h : ∀ a, o a + S1.size a ≤ S290.size a) (h' : ∀ a, o' a + S1.size a ≤ S290.size a) :
    View.readAt (Elt Ideal) tab0.view (Rect.unit (s := S290) o S1.size h).toLoadRect T (Shape.Idx.first (numel1_S1.symm ▸ Nat.one_pos))
      = View.readAt (Elt Ideal) tab0.view (Rect.unit (s := S290) o' S1.size h').toLoadRect T (Shape.Idx.first (numel1_S1.symm ▸ Nat.one_pos)) := by
  subst e; rfl

theorem tr1 (pf : pre0.Contents (Elt Ideal)) (i : grid0.Coords) : cc0_transform_1 k0_off1_inb numel1_S1 pf i = ![(here (pf 0) i).toNat, 0, 0] := rfl
theorem index1 (t : Fin (cfgA a).N) : ((cfgA a).win (1 : Fin 5)).index t = ![(here (T0 a) (crd a t)).toNat, 0, 0] := tr1 a.1 (crd a t)

theorem tr2 (pf : pre0.Contents (Elt Ideal)) (i : grid0.Coords) : cc0_transform_2 k0_off1_inb numel1_S1 pf i = ![(here (pf 0) i).toNat, 0, 0] := rfl
theorem index2 (t : Fin (cfgA a).N) : ((cfgA a).win (2 : Fin 5)).index t = ![(here (T0 a) (crd a t)).toNat, 0, 0] := tr2 a.1 (crd a t)

theorem tr3 (pf : pre0.Contents (Elt Ideal)) (i : grid0.Coords) : cc0_transform_3 k0_off1_inb numel1_S1 pf i = ![(here (pf 0) i).toNat, 0, 0] := rfl
theorem index3 (t : Fin (cfgA a).N) : ((cfgA a).win (3 : Fin 5)).index t = ![(here (T0 a) (crd a t)).toNat, 0, 0] := tr3 a.1 (crd a t)

theorem keep_here (t : Fin (cfgA a).N) (h : ¬Reload (T0 a) (crd a t)) :
    ∃ h0 : t.val ≠ 0, here (T0 a) (crd a t) = here (T0 a) (crd a ⟨t.val - 1, by omega⟩) := by
  obtain ⟨h0, he⟩ := keep_spec h
  have hn : t.val ≠ 0 := fun e => h0 (coord_zero t e)
  exact ⟨hn, he.trans (word_congr (T0 a) (off_prev t hn) _ _)⟩

theorem iblk_congr1 (c : Dev nD) {t t' : Fin (cfgA a).N} (e : here (T0 a) (crd a t) = here (T0 a) (crd a t')) :
    (iblk a m ρ c (1 : Fin 5) t' : S1x1024x512.Idx → Elt Ideal .f32) = iblk a m ρ c (1 : Fin 5) t := by
  have h := (dats a m ρ 0 c).fetched_congr (1 : Fin 5) (t := t') (t' := t) (by rw [index1, index1, e]) rfl (fun _ => default)
  exact ((fetched1 a m ρ c t' _).symm.trans h).trans (fetched1 a m ρ c t _)

theorem iblk_congr2 (c : Dev nD) {t t' : Fin (cfgA a).N} (e : here (T0 a) (crd a t) = here (T0 a) (crd a t')) :
    (iblk a m ρ c (2 : Fin 5) t' : S1x1024x512.Idx → Elt Ideal .f32) = iblk a m ρ c (2 : Fin 5) t := by
  have h := (dats a m ρ 0 c).fetched_congr (2 : Fin 5) (t := t') (t' := t) (by rw [index2, index2, e]) rfl (fun _ => default)
  exact ((fetched2 a m ρ c t' _).symm.trans h).trans (fetched2 a m ρ c t _)

theorem iblk_congr3 (c : Dev nD) {t t' : Fin (cfgA a).N} (e : here (T0 a) (crd a t) = here (T0 a) (crd a t')) :
    (iblk a m ρ c (3 : Fin 5) t' : S1x512x1024.Idx → Elt Ideal .f32) = iblk a m ρ c (3 : Fin 5) t := by
  have h := (dats a m ρ 0 c).fetched_congr (3 : Fin 5) (t := t') (t' := t) (by rw [index3, index3, e]) rfl (fun _ => default)
  exact ((fetched3 a m ρ c t' _).symm.trans h).trans (fetched3 a m ρ c t _)

theorem keep_weights (c : Dev nD) (t : Fin (cfgA a).N) (h : ¬Reload (T0 a) (crd a t)) :
    ∃ t' : Fin (cfgA a).N, t.val = t'.val + 1 ∧ gate a m ρ c t' = gate a m ρ c t ∧ up a m ρ c t' = up a m ρ c t ∧ down a m ρ c t' = down a m ρ c t := by
  obtain ⟨h0, he⟩ := keep_here a t h
  refine ⟨⟨t.val - 1, by omega⟩, by simp only []; omega, ?_, ?_, ?_⟩
  · unfold gate; rw [iblk_congr1 a m ρ c he]
  · unfold up; rw [iblk_congr2 a m ρ c he]
  · unfold down; rw [iblk_congr3 a m ρ c he]

/-! ## The body obligation -/

theorem idle4 (t : Fin (cfgA a).N) : (cfgA a).idle (4 : Fin 5) ((cfgA a).grid.coords t) = false := by
  show (!(k0_cond2 (crd a t) (a.1.atD 1 ![0]) == 1#1) && !(k0_cond3 (crd a t) (a.1.atD 1 ![0]) == 1#1)) = false
  have h := use_or_zero (crd a t) (a.1.atD 1 ![0])
  by_cases h2 : k0_cond2 (crd a t) (a.1.atD 1 ![0]) = 1#1
  · rw [h2]; rfl
  · rw [h.2 h2]; simp

abbrev bodyAt (t : Fin (cfgA a).N) : Prog (TpuEff nD τ sig (Elt Ideal) Λ₀ .tc) PUnit :=
  cc0__expert_kernel (crd a t) (Memref.whole main_arg1) (Memref.isWhole_whole _) (Memref.whole main_arg2) (Memref.isWhole_whole _) (ms0 a t) (hs0 a t) (ms1 a t) (hs1 a t) (ms2 a t) (hs2 a t) (ms3 a t) (hs3 a t) (ms4 a t) (hs4 a t) (Memref.whole cc0_scratch0) (Memref.isWhole_whole _) (Memref.whole cc0_scratch1) (Memref.isWhole_whole _) (Memref.whole cc0_scratch2) (Memref.isWhole_whole _)

theorem use_read {v : Memref sig .tc .vmem S8x512x128 .bf16} (f) (x0 : S8x512x128.Idx → Elt Ideal .bf16) (w0 w1 : S1024x512.Idx → Elt Ideal .bf16)
    (w2 : S512x1024.Idx → Elt Ideal .bf16) : v.view.read (Elt Ideal) (v.view.writes (Elt Ideal) f (usePieces x0 w0 w1 w2)) = useOut x0 w0 w1 w2 :=
  View.read_writes_of_cover _ _ _ _ _ (use_cover x0 w0 w1 w2)

theorem zero_read {v : Memref sig .tc .vmem S8x512x128 .bf16} (f) :
    v.view.read (Elt Ideal) (v.view.writes (Elt Ideal) f zeroPieces) = zeroOut :=
  View.read_writes_of_cover _ _ _ _ _ zero_cover

set_option maxHeartbeats 4000000 in
theorem sound_body (c : Dev nD) (t : Fin (cfgA a).N) :
    iprop((dats a m ρ 0 c).Φ t.castSucc ∗ (dats a m ρ 0 c).owesAt () t.castSucc
        ∗ (∃ d, owns (c : Thread nD τ) (ms0 a t) fullShare ((dats a m ρ 0 c).before (0 : Fin 5) t d))
        ∗ (∃ d, owns (c : Thread nD τ) (ms1 a t) fullShare ((dats a m ρ 0 c).before (1 : Fin 5) t d))
        ∗ (∃ d, owns (c : Thread nD τ) (ms2 a t) fullShare ((dats a m ρ 0 c).before (2 : Fin 5) t d))
        ∗ (∃ d, owns (c : Thread nD τ) (ms3 a t) fullShare ((dats a m ρ 0 c).before (3 : Fin 5) t d))
        ∗ (∃ d, owns (c : Thread nD τ) (ms4 a t) fullShare ((dats a m ρ 0 c).before (4 : Fin 5) t d)))
      ⊢ wp frame (wpE (defs₀ (F := Ideal)) Variants.none c none) Set.univ (bodyAt a t) fun _ =>
          iprop((dats a m ρ 0 c).Φ t.succ ∗ (dats a m ρ 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m ρ 0 c).before w t d))
                  | true => owns (c : Thread nD τ) (((cfgA a).win w).stage ((cfgA a).slots t w)) fullShare ((dats a m ρ 0 c).after w t)
                | false => owns (c : Thread nD τ) (((cfgA a).win w).stage ((cfgA a).slots t w)) fullShare ((dats a m ρ 0 c).after w t)) := by
  rw [bigSep_W0]
  rewrite [idle4 a t]
  simp only [before0, before1, before2, before3, after0, after1, after2, after3, after4]
  rewrite [show (dats a m ρ 0 c).Φ t.succ = Phi a m ρ c t.succ from rfl, show (dats a m ρ 0 c).Φ t.castSucc = Phi a m ρ c t.castSucc from rfl,
    show (dats a m ρ 0 c).owesAt () t.succ = (dats a m ρ 0 c).owesAt () t.castSucc from rfl]
  unfold Phi; simp only [Fin.val_castSucc, Fin.val_succ]
  by_cases hc0 : Reload (T0 a) (crd a t)
  · by_cases h2 : k0_cond2 (crd a t) (used (T1 a)) = 1#1
    · iintro ⟨⟨⟨%w0, %hw0, HS0⟩, ⟨%w1, %hw1, HS1⟩, ⟨%w2, %hw2, HS2⟩, HT0, HT1⟩, Ho, ⟨%d0, H0⟩, ⟨%d1, H1⟩, ⟨%d2, H2⟩, ⟨%d3, H3⟩, ⟨%d4, H4⟩⟩
      iapply (run_load_use c (crd a t) (ms0 a t) (hs0 a t) (ms1 a t) (hs1 a t) (ms2 a t) (hs2 a t) (ms3 a t) (hs3 a t) (ms4 a t) (hs4 a t) (T0 a) (T1 a) (iblk a m ρ c (0 : Fin 5) t) (iblk a m ρ c (1 : Fin 5) t) (iblk a m ρ c (2 : Fin 5) t) (iblk a m ρ c (3 : Fin 5) t) w0 w1 w2 hc0 h2 (fun h3 => (use_or_zero _ _).1 h3 h2) _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, ⟨%e4, H4⟩, HS0, HS1, HS2⟩
      isplitl [HS0 HS1 HS2 HT0 HT1]
      · skip
        isplitl [HS0]
        · iexists _; isplitr; swap
          · iexact HS0
          · ipureintro; intro t'' hn; obtain rfl : t = t'' := Fin.ext (by omega); rfl
        isplitl [HS1]
        · iexists _; isplitr; swap
          · iexact HS1
          · ipureintro; intro t'' hn; obtain rfl : t = t'' := Fin.ext (by omega); rfl
        isplitl [HS2]
        · iexists _; isplitr; swap
          · iexact HS2
          · ipureintro; intro t'' hn; obtain rfl : t = t'' := Fin.ext (by omega); rfl
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; unfold blockOut; rw [use_read, if_pos h2]; rfl
    · iintro ⟨⟨⟨%w0, %hw0, HS0⟩, ⟨%w1, %hw1, HS1⟩, ⟨%w2, %hw2, HS2⟩, HT0, HT1⟩, Ho, ⟨%d0, H0⟩, ⟨%d1, H1⟩, ⟨%d2, H2⟩, ⟨%d3, H3⟩, ⟨%d4, H4⟩⟩
      iapply (run_load_zero c (crd a t) (ms0 a t) (hs0 a t) (ms1 a t) (hs1 a t) (ms2 a t) (hs2 a t) (ms3 a t) (hs3 a t) (ms4 a t) (hs4 a t) (T0 a) (T1 a) (iblk a m ρ c (0 : Fin 5) t) (iblk a m ρ c (1 : Fin 5) t) (iblk a m ρ c (2 : Fin 5) t) (iblk a m ρ c (3 : Fin 5) t) w0 w1 w2 hc0 h2 ((use_or_zero _ _).2 h2) _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, ⟨%e4, H4⟩, HS0, HS1, HS2⟩
      isplitl [HS0 HS1 HS2 HT0 HT1]
      · skip
        isplitl [HS0]
        · iexists _; isplitr; swap
          · iexact HS0
          · ipureintro; intro t'' hn; obtain rfl : t = t'' := Fin.ext (by omega); rfl
        isplitl [HS1]
        · iexists _; isplitr; swap
          · iexact HS1
          · ipureintro; intro t'' hn; obtain rfl : t = t'' := Fin.ext (by omega); rfl
        isplitl [HS2]
        · iexists _; isplitr; swap
          · iexact HS2
          · ipureintro; intro t'' hn; obtain rfl : t = t'' := Fin.ext (by omega); rfl
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; unfold blockOut; rw [zero_read, if_neg h2]
  · obtain ⟨t', ht, e0, e1, e2⟩ := keep_weights a m ρ c t hc0
    by_cases h2 : k0_cond2 (crd a t) (used (T1 a)) = 1#1
    · iintro ⟨⟨⟨%w0, %hw0, HS0⟩, ⟨%w1, %hw1, HS1⟩, ⟨%w2, %hw2, HS2⟩, HT0, HT1⟩, Ho, ⟨%d0, H0⟩, ⟨%d1, H1⟩, ⟨%d2, H2⟩, ⟨%d3, H3⟩, ⟨%d4, H4⟩⟩
      iapply (run_keep_use c (crd a t) (ms0 a t) (hs0 a t) (ms1 a t) (hs1 a t) (ms2 a t) (hs2 a t) (ms3 a t) (hs3 a t) (ms4 a t) (hs4 a t) (T0 a) (T1 a) (iblk a m ρ c (0 : Fin 5) t) (iblk a m ρ c (1 : Fin 5) t) (iblk a m ρ c (2 : Fin 5) t) (iblk a m ρ c (3 : Fin 5) t) w0 w1 w2 hc0 h2 (fun h3 => (use_or_zero _ _).1 h3 h2) _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, ⟨%e4, H4⟩, HS0, HS1, HS2⟩
      isplitl [HS0 HS1 HS2 HT0 HT1]
      · skip
        isplitl [HS0]
        · iexists _; isplitr; swap
          · iexact HS0
          · ipureintro; intro t'' hn; obtain rfl : t = t'' := Fin.ext (by omega); exact (hw0 t' ht).trans e0
        isplitl [HS1]
        · iexists _; isplitr; swap
          · iexact HS1
          · ipureintro; intro t'' hn; obtain rfl : t = t'' := Fin.ext (by omega); exact (hw1 t' ht).trans e1
        isplitl [HS2]
        · iexists _; isplitr; swap
          · iexact HS2
          · ipureintro; intro t'' hn; obtain rfl : t = t'' := Fin.ext (by omega); exact (hw2 t' ht).trans e2
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; unfold blockOut; rw [use_read, if_pos h2, (hw0 t' ht).trans e0, (hw1 t' ht).trans e1, (hw2 t' ht).trans e2]
    · iintro ⟨⟨⟨%w0, %hw0, HS0⟩, ⟨%w1, %hw1, HS1⟩, ⟨%w2, %hw2, HS2⟩, HT0, HT1⟩, Ho, ⟨%d0, H0⟩, ⟨%d1, H1⟩, ⟨%d2, H2⟩, ⟨%d3, H3⟩, ⟨%d4, H4⟩⟩
      iapply (run_keep_zero c (crd a t) (ms0 a t) (hs0 a t) (ms1 a t) (hs1 a t) (ms2 a t) (hs2 a t) (ms3 a t) (hs3 a t) (ms4 a t) (hs4 a t) (T0 a) (T1 a) (iblk a m ρ c (0 : Fin 5) t) (iblk a m ρ c (1 : Fin 5) t) (iblk a m ρ c (2 : Fin 5) t) (iblk a m ρ c (3 : Fin 5) t) w0 w1 w2 hc0 h2 ((use_or_zero _ _).2 h2) _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, ⟨%e4, H4⟩, HS0, HS1, HS2⟩
      isplitl [HS0 HS1 HS2 HT0 HT1]
      · skip
        isplitl [HS0]
        · iexists _; isplitr; swap
          · iexact HS0
          · ipureintro; intro t'' hn; obtain rfl : t = t'' := Fin.ext (by omega); exact (hw0 t' ht).trans e0
        isplitl [HS1]
        · iexists _; isplitr; swap
          · iexact HS1
          · ipureintro; intro t'' hn; obtain rfl : t = t'' := Fin.ext (by omega); exact (hw1 t' ht).trans e1
        isplitl [HS2]
        · iexists _; isplitr; swap
          · iexact HS2
          · ipureintro; intro t'' hn; obtain rfl : t = t'' := Fin.ext (by omega); exact (hw2 t' ht).trans e2
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; unfold blockOut; rw [zero_read, if_neg h2]
/-- The library's body obligation, at every point. -/
theorem body_obligation (c : Dev nD) : BodyObligation (dats a m ρ 0 c) (defs₀ (F := Ideal)) Variants.none () Set.univ := fun t => by
  rw [bigSep_W0]
  exact sound_body a m ρ c t

/-! ## The launch -/

def u₀ : UR sig nD τ :=
  initOf (Pipeline.cells (pcs a) ((launch0 (F := Ideal)).cellOf_inj fun _ => a))
    (Pipeline.launchToks (pcs a) ((launch0 (F := Ideal)).cellOf_inj fun _ => a))

theorem share_eq (c : Dev nD) (w : Fin (cfgA a).W) : (dats a m ρ 0 c).share w = fullShare := by unfold Dat.share; split <;> rfl

theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) a.1 ∗ Pipeline.scopedRest spec0 c) ⊢ (dats a m ρ 0 c).Φ 0 := by
  rw [prefHeld_eq, scopedRest0_eq, show (dats a m ρ 0 c).Φ 0 = Phi a m ρ c 0 from rfl]
  unfold Phi
  iintro ⟨-, ⟨HT0, HT1⟩, ⟨%a0, HS0⟩, ⟨%a1, HS1⟩, ⟨%a2, HS2⟩⟩
  isplitl [HS0]
  · iexists a0; isplitr; swap
    · iexact HS0
    · ipureintro; intro t' h; exact absurd h (Nat.succ_ne_zero _).symm
  isplitl [HS1]
  · iexists a1; isplitr; swap
    · iexact HS1
    · ipureintro; intro t' h; exact absurd h (Nat.succ_ne_zero _).symm
  isplitl [HS2]
  · iexists a2; isplitr; swap
    · iexact HS2
    · ipureintro; intro t' h; exact absurd h (Nat.succ_ne_zero _).symm
  isplitl [HT0]
  · iexact HT0
  iexact HT1

theorem phiN_exit (c : Dev nD) : (dats a m ρ 0 c).Φ (Fin.last (cfgA a).N) ⊢ iprop(BI.emp ∗ Pipeline.scopedRest spec0 c) := by
  rw [scopedRest0_eq, show (dats a m ρ 0 c).Φ (Fin.last (cfgA a).N) = Phi a m ρ c (Fin.last _) from rfl]
  unfold Phi
  iintro ⟨⟨%a0, -, HS0⟩, ⟨%a1, -, HS1⟩, ⟨%a2, -, HS2⟩, -, -⟩
  isplitr; · iempintro
  isplitl [HS0]
  · iexists a0; iexact HS0
  isplitl [HS1]
  · iexists a1; iexact HS1
  iexists a2; iexact HS2

/-- Every array at what the library computes, every table at what the pipeline ran at. -/
def QC : PUnit × MemSt nD τ sig (Elt Ideal) → Prop := fun r =>
  ∀ c : Dev nD, (∀ w : Fin (cfgA a).W, r.2.mem (((cfgA a).win w).arr.view.loc (c : Thread nD τ)) = (dats a m ρ 0 c).arrAt w (cfgA a).N)
    ∧ ∀ j, r.2.mem ((c : Thread nD τ).loc (pre0.ref j)) = a.1 j

variable {a m} in
theorem V_pre (hp : Tabled a m) (c : Dev nD) (j : Fin 2) : m ((c : Thread nD τ).loc (pre0.ref j)) = a.1 j := by
  fin_cases j
  · exact hp.1 c
  · exact hp.2 c

set_option backward.isDefEq.respectTransparency.types false in
set_option maxHeartbeats 4000000 in
theorem run_quiescent (hp : Tabled a m) : θ_run (defs (F := Ideal)) (onTc (τ := τ) (main (F := Ideal))) (s₀ m ρ) (fun r => QC a m ρ r ∧ r.2.sem = fun _ => 0) :=
  Pipeline.θ_run_region_noSem_pf_quiescent pcfgs (fun _ => a) (dats a m ρ) () ((launch0 (F := Ideal)).cellOf_inj fun _ => a) (0 : Fin 1)
    (launch0 (F := Ideal)).win.to₀ (launch0 (F := Ideal)).pre EP defs₀ Variants.none m ρ main
    (hbody := fun c => (body_obligation a m ρ c).loose) (hne := (launch0 (F := Ideal)).block_pos)
    (harr := (launch0 (F := Ideal)).arr_whole) (hstage := (launch0 (F := Ideal)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := Ideal)).win.arr_inj c (launch0 (F := Ideal)).arr_whole
      (share_eq a m ρ c) _ _ fun _ => rfl)
    (hpf := V_pre hp)
    (X := fun _ => iprop(emp)) (Y := fun _ => iprop(emp)) (Z := fun _ => iprop(emp))
    (hX := fun c => by rw [unscopedRestP0_eq]; iintro -; isplitr <;> iempintro)
    (hin := phi0_intro a m ρ)
    (hout := phiN_exit a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- What a run leaves: the result at the pipeline's array, the arguments as they were, the counters at zero. -/
theorem run_all (hp : Tabled a m) :
    θ_run (defs (F := Ideal)) (onTc (τ := τ) (main (F := Ideal))) ⟨m, fun _ => 0, ρ⟩ (fun r => (∀ c : Dev nD,
      r.2.mem ((c.tc : Thread nD τ).loc main_v0) = (dats a m ρ 0 c).arrAt (4 : Fin 5) (cfgA a).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 (4 : Fin 5),
    ((h.1 c).1 (0 : Fin 5)).trans ((dats a m ρ 0 c).arrAt_in (0 : Fin 5) rfl _), ((h.1 c).2 0).trans (hp.1 c).symm,
    ((h.1 c).2 1).trans (hp.2 c).symm, ((h.1 c).1 (1 : Fin 5)).trans ((dats a m ρ 0 c).arrAt_in (1 : Fin 5) rfl _),
    ((h.1 c).1 (2 : Fin 5)).trans ((dats a m ρ 0 c).arrAt_in (2 : Fin 5) rfl _),
    ((h.1 c).1 (3 : Fin 5)).trans ((dats a m ρ 0 c).arrAt_in (3 : Fin 5) rfl _)⟩, h.2⟩) (run_quiescent a m ρ hp)

/-! ## Experts that have weights -/

/-- The words the two tables hold in memory `m`. -/
def words : pre0.Contents (Elt Ideal) :=
  fun | ⟨0, _⟩ => m (((0 : Dev nD) : Thread nD τ).loc main_arg1) | ⟨1, _⟩ => m (((0 : Dev nD) : Thread nD τ).loc main_arg2) | ⟨_ + 2, h⟩ => absurd h (by simp)

theorem dev_eq (c : Dev nD) : c = 0 := Subsingleton.elim _ _

/-- The precondition read: every word of the table of experts names one of the thirty-two. -/
theorem named (h : Cert.Pre_Kernel3Ideal m) (c : Dev nD) (x : S290.Idx) : (m ((c : Thread nD τ).loc main_arg1) x : BitVec 32).toNat < 32 := by
  have hx : IntOp.andi (IntOp.cmpi .sge (m ((c : Thread nD τ).loc main_arg1) x : BitVec 32) 0#32) (IntOp.cmpi .slt (m ((c : Thread nD τ).loc main_arg1) x : BitVec 32) 32#32) = 1#1 := congrFun (h c) x
  generalize (m ((c : Thread nD τ).loc main_arg1) x : BitVec 32) = w at hx ⊢
  simp only [IntOp.andi, IntOp.cmpi] at hx
  have h1 : (0#32).sle w = true := by
    cases hb : (0#32).sle w
    · rw [hb] at hx; revert hx; cases w.slt 32#32 <;> decide
    · rfl
  have h2 : w.slt 32#32 = true := by
    cases hb : w.slt 32#32
    · rw [hb, h1] at hx; exact absurd hx (by decide)
    · rfl
  rw [BitVec.sle_iff_toInt_le] at h1
  rw [BitVec.slt_iff_toInt_lt] at h2
  simp only [BitVec.toInt_eq_toNat_cond] at h1 h2
  have e0 : (0#32).toNat = 0 := rfl
  have e1 : (32#32).toNat = 32 := rfl
  rw [e0] at h1; rw [e1] at h2
  have := w.isLt
  split_ifs at h1 h2 <;> omega

theorem word_lt (h : Cert.Pre_Kernel3Ideal m) (i : grid0.Coords) : (here (words m 0) i).toNat < 32 := named m h 0 _

theorem ok1 (h : Cert.Pre_Kernel3Ideal m) (i : grid0.Coords) : ∀ b, (cc0_transform_1 k0_off1_inb numel1_S1 (words m) i b + 1) * S1x1024x512.size b ≤ S32x1024x512.size b := by
  rw [tr1]
  have hw := word_lt m h i
  generalize (here (words m 0) i).toNat = n at hw ⊢
  refine Fin.cases ?_ (Fin.cases ?_ (Fin.cases ?_ (fun x => x.elim0)))
  · show (n + 1) * 1 ≤ 32; omega
  · show (0 + 1) * _ ≤ _; decide
  · show (0 + 1) * _ ≤ _; decide
theorem ok2 (h : Cert.Pre_Kernel3Ideal m) (i : grid0.Coords) : ∀ b, (cc0_transform_2 k0_off1_inb numel1_S1 (words m) i b + 1) * S1x1024x512.size b ≤ S32x1024x512.size b := by
  rw [tr2]
  have hw := word_lt m h i
  generalize (here (words m 0) i).toNat = n at hw ⊢
  refine Fin.cases ?_ (Fin.cases ?_ (Fin.cases ?_ (fun x => x.elim0)))
  · show (n + 1) * 1 ≤ 32; omega
  · show (0 + 1) * _ ≤ _; decide
  · show (0 + 1) * _ ≤ _; decide
theorem ok3 (h : Cert.Pre_Kernel3Ideal m) (i : grid0.Coords) : ∀ b, (cc0_transform_3 k0_off1_inb numel1_S1 (words m) i b + 1) * S1x512x1024.size b ≤ S32x512x1024.size b := by
  rw [tr3]
  have hw := word_lt m h i
  generalize (here (words m 0) i).toNat = n at hw ⊢
  refine Fin.cases ?_ (Fin.cases ?_ (Fin.cases ?_ (fun x => x.elim0)))
  · show (n + 1) * 1 ≤ 32; omega
  · show (0 + 1) * _ ≤ _; decide
  · show (0 + 1) * _ ≤ _; decide
theorem ok (h : Cert.Pre_Kernel3Ideal m) : ok0 (F := Ideal) (words m) :=
  ⟨fun i => ⟨ok1 m h i, .inl rfl⟩, fun i => ⟨ok2 m h i, .inl rfl⟩, fun i => ⟨ok3 m h i, .inl rfl⟩⟩

abbrev adm (h : Cert.Pre_Kernel3Ideal m) : (pcfg0 (F := Ideal)).Adm := ⟨words m, ok m h⟩

theorem tabled (h : Cert.Pre_Kernel3Ideal m) : Tabled (adm m h) m :=
  ⟨fun c => by rw [dev_eq c]; rfl, fun c => by rw [dev_eq c]; rfl⟩

/-- The call runs, faults nowhere, leaves its arguments as they were and every counter at zero. -/
theorem frame : Cert.quiescent_Kernel3Ideal := fun m ρ h =>
  (θ_run defs _ _).mono (fun _ r => ⟨fun c => (r.1 c).2, r.2⟩) (run_all (adm m h) m ρ (tabled m h))

end Cert.Kernel3Ideal.Moe

end
-- ==== Proof.ExpertsRunBits.lean ====
module

public import proofs.«01_k».proof.Proof.Gen.Kernel3.Skeleton
public import proofs.«01_k».proof.Proof.Gen.Kernel3.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

/-! Every path of the experts' body run once, for whatever words the two tables hold. A point reloads the three
weight scratches or keeps them, and computes its block or zeroes it: four paths. -/

@[expose] public section

set_option maxRecDepth 16384
set_option Elab.async false

noncomputable section

namespace Cert.Kernel3.Moe

open Cert.Kernel3 Cert.Kernel3.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

abbrev tab0 : Memref sig .tc .smem S290 .i32 := Memref.whole main_arg1
abbrev tab1 : Memref sig .tc .smem S1 .i32 := Memref.whole main_arg2
abbrev scr0 : Memref sig .tc .vmem S1024x512 .bf16 := Memref.whole cc0_scratch0
abbrev scr1 : Memref sig .tc .vmem S1024x512 .bf16 := Memref.whole cc0_scratch1
abbrev scr2 : Memref sig .tc .vmem S512x1024 .bf16 := Memref.whole cc0_scratch2

abbrev ETab := S290.Idx → Elt Bits .i32
abbrev NTab := S1.Idx → Elt Bits .i32

/-- The expert of point `i`, as the body reads it. -/
abbrev here (T0 : ETab) (i : grid0.Coords) : BitVec 32 :=
  View.readAt (Elt Bits) tab0.view (Rect.unit (s := S290) (k0_off1 i) S1.size (k0_off1_inb i)).toLoadRect T0
    (Shape.Idx.first (numel1_S1.symm ▸ Nat.one_pos))
/-- The expert of the point before `i`, as the body reads it. -/
abbrev prev (T0 : ETab) (i : grid0.Coords) : BitVec 32 :=
  View.readAt (Elt Bits) tab0.view (Rect.unit (s := S290) (k0_off2 i) S1.size (k0_off2_inb i)).toLoadRect T0
    (Shape.Idx.first (numel1_S1.symm ▸ Nat.one_pos))
/-- The number of blocks in use, as the body reads it. -/
abbrev used (T1 : NTab) : BitVec 32 :=
  View.readAt (Elt Bits) tab1.view (Rect.unit (s := S1) ![0] S1.size inb_S1_S1_0).toLoadRect T1
    (Shape.Idx.first (numel1_S1.symm ▸ Nat.one_pos))
/-- Point `i` loads its expert's weights anew. -/
abbrev Reload (T0 : ETab) (i : grid0.Coords) : Prop :=
  Scalar.cmpi .ne (Scalar.extui (Scalar.ori (Scalar.cmpi .eq (BitVec.ofNat 32 (i 0).val) 0#32)
    (Scalar.cmpi .ne (here T0 i) (prev T0 i)))) 0#32 = 1#1

/-- A chunk of 128 columns of the rows' block. -/
abbrev chunk (x0 : S8x512x128.Idx → Elt Bits .bf16) (k : ℕ) (h : ∀ a, (![k, 0, 0] : Fin 3 → ℕ) a + S1x512x128.size a ≤ S8x512x128.size a) :
    Vec Bits S1x512x128 .bf16 := View.ld x0 (Rect.unit (s := S8x512x128) ![k, 0, 0] S1x512x128.size h)

/-- The gated hidden rows of a block, from its eight chunks and the expert's two weights. -/
def hidden (x0 : S8x512x128.Idx → Elt Bits .bf16) (w0 w1 : S1024x512.Idx → Elt Bits .bf16) : FVec Bits S512x512 .bf16 :=
  k0_pay6 (chunk x0 0 inb_S8x512x128_S1x512x128_0_0_0) (chunk x0 1 inb_S8x512x128_S1x512x128_1_0_0)
    (chunk x0 2 inb_S8x512x128_S1x512x128_2_0_0) (chunk x0 3 inb_S8x512x128_S1x512x128_3_0_0)
    (chunk x0 4 inb_S8x512x128_S1x512x128_4_0_0) (chunk x0 5 inb_S8x512x128_S1x512x128_5_0_0)
    (chunk x0 6 inb_S8x512x128_S1x512x128_6_0_0) (chunk x0 7 inb_S8x512x128_S1x512x128_7_0_0) w0 w1

/-- What a point in use stores, chunk by chunk, the last first. -/
def usePieces (x0 : S8x512x128.Idx → Elt Bits .bf16) (w0 w1 : S1024x512.Idx → Elt Bits .bf16)
    (w2 : S512x1024.Idx → Elt Bits .bf16) : List (View.Piece (Elt Bits) S8x512x128 .bf16) :=
  [⟨Rect.unit ![7, 0, 0] S1x512x128.size inb_S8x512x128_S1x512x128_7_0_0, k0_pay4 (k0_pay15 (hidden x0 w0 w1) w2)⟩,
    ⟨Rect.unit ![6, 0, 0] S1x512x128.size inb_S8x512x128_S1x512x128_6_0_0, k0_pay14 (hidden x0 w0 w1) w2⟩,
    ⟨Rect.unit ![5, 0, 0] S1x512x128.size inb_S8x512x128_S1x512x128_5_0_0, k0_pay13 (hidden x0 w0 w1) w2⟩,
    ⟨Rect.unit ![4, 0, 0] S1x512x128.size inb_S8x512x128_S1x512x128_4_0_0, k0_pay12 (hidden x0 w0 w1) w2⟩,
    ⟨Rect.unit ![3, 0, 0] S1x512x128.size inb_S8x512x128_S1x512x128_3_0_0, k0_pay11 (hidden x0 w0 w1) w2⟩,
    ⟨Rect.unit ![2, 0, 0] S1x512x128.size inb_S8x512x128_S1x512x128_2_0_0, k0_pay10 (hidden x0 w0 w1) w2⟩,
    ⟨Rect.unit ![1, 0, 0] S1x512x128.size inb_S8x512x128_S1x512x128_1_0_0, k0_pay9 (hidden x0 w0 w1) w2⟩,
    ⟨Rect.unit ![0, 0, 0] S1x512x128.size inb_S8x512x128_S1x512x128_0_0_0, k0_pay8 (hidden x0 w0 w1) w2⟩]

/-- What a point out of use stores: zeros. -/
def zeroPieces : List (View.Piece (Elt Bits) S8x512x128 .bf16) :=
  [⟨Rect.unit ![0, 0, 0] S8x512x128.size inb_S8x512x128_S8x512x128_0_0_0, k0_pay5 (F := Bits)⟩]

/-- One staging buffer of the output's window, through which a block's contents are stated. -/
abbrev VO : View sig .tc .vmem S8x512x128 .bf16 := (Memref.whole cc0_stg4_0 : Memref sig .tc .vmem S8x512x128 .bf16).view

def useOut (x0 : S8x512x128.Idx → Elt Bits .bf16) (w0 w1 : S1024x512.Idx → Elt Bits .bf16)
    (w2 : S512x1024.Idx → Elt Bits .bf16) : S8x512x128.Idx → Elt Bits .bf16 :=
  VO.read (Elt Bits) (VO.writes (Elt Bits) VO.junk (usePieces x0 w0 w1 w2))

def zeroOut : S8x512x128.Idx → Elt Bits .bf16 :=
  VO.read (Elt Bits) (VO.writes (Elt Bits) VO.junk zeroPieces)

theorem use_cover (x0 : S8x512x128.Idx → Elt Bits .bf16) (w0 w1 : S1024x512.Idx → Elt Bits .bf16)
    (w2 : S512x1024.Idx → Elt Bits .bf16) (y : S8x512x128.Idx) : ∃ pc ∈ usePieces x0 w0 w1 w2, y ∈ pc.1.set :=
  View.cover_of_tiledL (usePieces x0 w0 w1 w2) S1x512x128.size (by sl_kernel_rfl) y

theorem zero_cover (y : S8x512x128.Idx) : ∃ pc ∈ zeroPieces, y ∈ pc.1.set :=
  View.cover_of_tiledL zeroPieces S8x512x128.size (by sl_kernel_rfl) y

set_option backward.proofsInPublic true in
set_option maxHeartbeats 8000000 in
theorem run_load_use (c : Dev nD) (i : grid0.Coords)
    (arg3 : Memref sig .tc .vmem S8x512x128 .bf16) (harg3 : arg3.IsWhole)
    (arg4 : Memref sig .tc .vmem S1x1024x512 .f32) (harg4 : arg4.IsWhole)
    (arg5 : Memref sig .tc .vmem S1x1024x512 .f32) (harg5 : arg5.IsWhole)
    (arg6 : Memref sig .tc .vmem S1x512x1024 .f32) (harg6 : arg6.IsWhole)
    (arg7 : Memref sig .tc .vmem S8x512x128 .bf16) (harg7 : arg7.IsWhole)
    (T0 : ETab) (T1 : NTab) (x0 : S8x512x128.Idx → Elt Bits .bf16) (x1 x2 : S1x1024x512.Idx → Elt Bits .f32)
    (x3 : S1x512x1024.Idx → Elt Bits .f32)
    (w0 w1 : S1024x512.Idx → Elt Bits .bf16) (w2 : S512x1024.Idx → Elt Bits .bf16)
    (hc0 : Reload T0 i) (h2 : k0_cond2 i (used T1) = 1#1) (h3 : ¬k0_cond3 i (used T1) = 1#1)
    (K : PUnit → sProp 𝕄) :
    iprop((arg3.view.loc (c : Thread nD τ) ↦[arg3.view.set]{fullShare} arg3.view.rep x0)
        ∗ (arg4.view.loc (c : Thread nD τ) ↦[arg4.view.set]{fullShare} arg4.view.rep x1)
        ∗ (arg5.view.loc (c : Thread nD τ) ↦[arg5.view.set]{fullShare} arg5.view.rep x2)
        ∗ (arg6.view.loc (c : Thread nD τ) ↦[arg6.view.set]{fullShare} arg6.view.rep x3)
        ∗ (tab0.view.loc (c : Thread nD τ) ↦{fullShare.right} T0)
        ∗ (tab1.view.loc (c : Thread nD τ) ↦{fullShare.right} T1)
        ∗ (∃ d, owns (c : Thread nD τ) arg7 fullShare d)
        ∗ (scr0.view.loc (c : Thread nD τ) ↦{fullShare} w0)
        ∗ (scr1.view.loc (c : Thread nD τ) ↦{fullShare} w1)
        ∗ (scr2.view.loc (c : Thread nD τ) ↦{fullShare} w2)
        ∗ (iprop((arg3.view.loc (c : Thread nD τ) ↦[arg3.view.set]{fullShare} arg3.view.rep x0)
            ∗ (arg4.view.loc (c : Thread nD τ) ↦[arg4.view.set]{fullShare} arg4.view.rep x1)
            ∗ (arg5.view.loc (c : Thread nD τ) ↦[arg5.view.set]{fullShare} arg5.view.rep x2)
            ∗ (arg6.view.loc (c : Thread nD τ) ↦[arg6.view.set]{fullShare} arg6.view.rep x3)
            ∗ (tab0.view.loc (c : Thread nD τ) ↦{fullShare.right} T0)
            ∗ (tab1.view.loc (c : Thread nD τ) ↦{fullShare.right} T1)
            ∗ (∃ f, arg7.view.loc (c : Thread nD τ) ↦[arg7.view.set]{fullShare} arg7.view.writes (Elt Bits) f (usePieces x0 (k0_pay1 x1) (k0_pay2 x2) (k0_pay3 x3)))
            ∗ (scr0.view.loc (c : Thread nD τ) ↦{fullShare} (k0_pay1 x1))
            ∗ (scr1.view.loc (c : Thread nD τ) ↦{fullShare} (k0_pay2 x2))
            ∗ (scr2.view.loc (c : Thread nD τ) ↦{fullShare} (k0_pay3 x3))) -∗ K ⟨⟩))
      ⊢ wp frame (wpE (defs₀ (F := Bits)) Variants.none c none) Set.univ (cc0__expert_kernel i tab0 (Memref.isWhole_whole _) tab1 (Memref.isWhole_whole _) arg3 harg3 arg4 harg4 arg5 harg5 arg6 harg6 arg7 harg7 scr0 (Memref.isWhole_whole _) scr1 (Memref.isWhole_whole _) scr2 (Memref.isWhole_whole _)) K := by
  unfold owns
  rw [cc0__expert_kernel_eq_skeleton]; unfold cc0__expert_kernel_skel
  iintro ⟨H0, H1, H2, H3, HT0, HT1, ⟨%d4, %f4, -, HO4⟩, HS0, HS1, HS2, Hk⟩
  have hS0 : scr0.IsWhole := Memref.isWhole_whole _
  have hS1 : scr1.IsWhole := Memref.isWhole_whole _
  have hS2 : scr2.IsWhole := Memref.isWhole_whole _
  have hT0 : tab0.IsWhole := Memref.isWhole_whole _
  have hT1 : tab1.IsWhole := Memref.isWhole_whole _
  sl_exec! (disch := first | (guard_target = (Scalar.cmpi _ _ _ = _); exact hc0) | (guard_target = (k0_cond2 _ _ = _); exact h2) | (guard_target = ¬(k0_cond3 _ _ = _); exact h3))
  sl_step
  rw [show scr0.view.writes (Elt Bits) scr0.view.junk (run_load_use.sl.HS0_1 arg4 x1) = k0_pay1 x1 from by
      unfold run_load_use.sl.HS0_1; rw [View.readAt_rep_full]
      have h := View.read_writes_full (Val := Elt Bits) scr0.view scr0.view.junk inb_S1024x512_S1024x512_0_0 (k0_pay1 x1) []
      exact h,
    show scr1.view.writes (Elt Bits) scr1.view.junk (run_load_use.sl.HS1_1 arg5 x2) = k0_pay2 x2 from by
      unfold run_load_use.sl.HS1_1; rw [View.readAt_rep_full]
      have h := View.read_writes_full (Val := Elt Bits) scr1.view scr1.view.junk inb_S1024x512_S1024x512_0_0 (k0_pay2 x2) []
      exact h,
    show scr2.view.writes (Elt Bits) scr2.view.junk (run_load_use.sl.HS2_1 arg6 x3) = k0_pay3 x3 from by
      unfold run_load_use.sl.HS2_1; rw [View.readAt_rep_full]
      have h := View.read_writes_full (Val := Elt Bits) scr2.view scr2.view.junk inb_S512x1024_S512x1024_0_0 (k0_pay3 x3) []
      exact h]
  rw [show run_load_use.sl.HO4_8 arg3 arg4 arg5 arg6 x0 x1 x2 x3 = usePieces x0 (k0_pay1 x1) (k0_pay2 x2) (k0_pay3 x3) from by
      have e0 : run_load_use.sl.v38 arg4 x1 = k0_pay1 x1 := by
        unfold run_load_use.sl.v38 run_load_use.sl.HS0_1; rw [View.readAt_rep_full]; exact View.readCov_full scr0.view _ _ _ []
      have e1 : run_load_use.sl.v40 arg5 x2 = k0_pay2 x2 := by
        unfold run_load_use.sl.v40 run_load_use.sl.HS1_1; rw [View.readAt_rep_full]; exact View.readCov_full scr1.view _ _ _ []
      have e2 : run_load_use.sl.v46 arg6 x3 = k0_pay3 x3 := by
        unfold run_load_use.sl.v46 run_load_use.sl.HS2_1; rw [View.readAt_rep_full]; exact View.readCov_full scr2.view _ _ _ []
      unfold run_load_use.sl.HO4_8 run_load_use.sl.r_4 run_load_use.sl.r_3
      rw [e0, e1, e2]
      simp only [View.readAt_rep]
      rfl]
  iapply Hk
  isplitl [H0]; · iexact H0
  isplitl [H1]; · iexact H1
  isplitl [H2]; · iexact H2
  isplitl [H3]; · iexact H3
  isplitl [HT0]; · iexact HT0
  isplitl [HT1]; · iexact HT1
  isplitl [HO4]; · iexists _; iexact HO4
  isplitl [HS0]; · iexact HS0
  isplitl [HS1]; · iexact HS1
  iexact HS2

set_option backward.proofsInPublic true in
set_option maxHeartbeats 8000000 in
theorem run_keep_use (c : Dev nD) (i : grid0.Coords)
    (arg3 : Memref sig .tc .vmem S8x512x128 .bf16) (harg3 : arg3.IsWhole)
    (arg4 : Memref sig .tc .vmem S1x1024x512 .f32) (harg4 : arg4.IsWhole)
    (arg5 : Memref sig .tc .vmem S1x1024x512 .f32) (harg5 : arg5.IsWhole)
    (arg6 : Memref sig .tc .vmem S1x512x1024 .f32) (harg6 : arg6.IsWhole)
    (arg7 : Memref sig .tc .vmem S8x512x128 .bf16) (harg7 : arg7.IsWhole)
    (T0 : ETab) (T1 : NTab) (x0 : S8x512x128.Idx → Elt Bits .bf16) (x1 x2 : S1x1024x512.Idx → Elt Bits .f32)
    (x3 : S1x512x1024.Idx → Elt Bits .f32)
    (w0 w1 : S1024x512.Idx → Elt Bits .bf16) (w2 : S512x1024.Idx → Elt Bits .bf16)
    (hc0 : ¬Reload T0 i) (h2 : k0_cond2 i (used T1) = 1#1) (h3 : ¬k0_cond3 i (used T1) = 1#1)
    (K : PUnit → sProp 𝕄) :
    iprop((arg3.view.loc (c : Thread nD τ) ↦[arg3.view.set]{fullShare} arg3.view.rep x0)
        ∗ (arg4.view.loc (c : Thread nD τ) ↦[arg4.view.set]{fullShare} arg4.view.rep x1)
        ∗ (arg5.view.loc (c : Thread nD τ) ↦[arg5.view.set]{fullShare} arg5.view.rep x2)
        ∗ (arg6.view.loc (c : Thread nD τ) ↦[arg6.view.set]{fullShare} arg6.view.rep x3)
        ∗ (tab0.view.loc (c : Thread nD τ) ↦{fullShare.right} T0)
        ∗ (tab1.view.loc (c : Thread nD τ) ↦{fullShare.right} T1)
        ∗ (∃ d, owns (c : Thread nD τ) arg7 fullShare d)
        ∗ (scr0.view.loc (c : Thread nD τ) ↦{fullShare} w0)
        ∗ (scr1.view.loc (c : Thread nD τ) ↦{fullShare} w1)
        ∗ (scr2.view.loc (c : Thread nD τ) ↦{fullShare} w2)
        ∗ (iprop((arg3.view.loc (c : Thread nD τ) ↦[arg3.view.set]{fullShare} arg3.view.rep x0)
            ∗ (arg4.view.loc (c : Thread nD τ) ↦[arg4.view.set]{fullShare} arg4.view.rep x1)
            ∗ (arg5.view.loc (c : Thread nD τ) ↦[arg5.view.set]{fullShare} arg5.view.rep x2)
            ∗ (arg6.view.loc (c : Thread nD τ) ↦[arg6.view.set]{fullShare} arg6.view.rep x3)
            ∗ (tab0.view.loc (c : Thread nD τ) ↦{fullShare.right} T0)
            ∗ (tab1.view.loc (c : Thread nD τ) ↦{fullShare.right} T1)
            ∗ (∃ f, arg7.view.loc (c : Thread nD τ) ↦[arg7.view.set]{fullShare} arg7.view.writes (Elt Bits) f (usePieces x0 w0 w1 w2))
            ∗ (scr0.view.loc (c : Thread nD τ) ↦{fullShare} w0)
            ∗ (scr1.view.loc (c : Thread nD τ) ↦{fullShare} w1)
            ∗ (scr2.view.loc (c : Thread nD τ) ↦{fullShare} w2)) -∗ K ⟨⟩))
      ⊢ wp frame (wpE (defs₀ (F := Bits)) Variants.none c none) Set.univ (cc0__expert_kernel i tab0 (Memref.isWhole_whole _) tab1 (Memref.isWhole_whole _) arg3 harg3 arg4 harg4 arg5 harg5 arg6 harg6 arg7 harg7 scr0 (Memref.isWhole_whole _) scr1 (Memref.isWhole_whole _) scr2 (Memref.isWhole_whole _)) K := by
  unfold owns
  rw [cc0__expert_kernel_eq_skeleton]; unfold cc0__expert_kernel_skel
  iintro ⟨H0, H1, H2, H3, HT0, HT1, ⟨%d4, %f4, -, HO4⟩, HS0, HS1, HS2, Hk⟩
  have hS0 : scr0.IsWhole := Memref.isWhole_whole _
  have hS1 : scr1.IsWhole := Memref.isWhole_whole _
  have hS2 : scr2.IsWhole := Memref.isWhole_whole _
  have hT0 : tab0.IsWhole := Memref.isWhole_whole _
  have hT1 : tab1.IsWhole := Memref.isWhole_whole _
  sl_exec! (disch := first | (guard_target = ¬(Scalar.cmpi _ _ _ = _); exact hc0) | (guard_target = (k0_cond2 _ _ = _); exact h2) | (guard_target = ¬(k0_cond3 _ _ = _); exact h3))
  sl_step
  rw [show run_keep_use.sl.HO4_8 arg3 x0 w0 w1 w2 = usePieces x0 w0 w1 w2 from by
      have e0 : scr0.view.readAt (Elt Bits) (Rect.unit ![0, 0] S1024x512.size inb_S1024x512_S1024x512_0_0).toLoadRect w0 = w0 :=
        View.readAt_full scr0.view w0 _
      have e1 : scr1.view.readAt (Elt Bits) (Rect.unit ![0, 0] S1024x512.size inb_S1024x512_S1024x512_0_0).toLoadRect w1 = w1 :=
        View.readAt_full scr1.view w1 _
      have e2 : run_keep_use.sl.r_4 w2 = w2 := View.readAt_full scr2.view w2 _
      unfold run_keep_use.sl.HO4_8 run_keep_use.sl.r_5 run_keep_use.sl.r_3
      rw [e0, e1, e2]
      simp only [View.readAt_rep]
      rfl]
  iapply Hk
  isplitl [H0]; · iexact H0
  isplitl [H1]; · iexact H1
  isplitl [H2]; · iexact H2
  isplitl [H3]; · iexact H3
  isplitl [HT0]; · iexact HT0
  isplitl [HT1]; · iexact HT1
  isplitl [HO4]; · iexists _; iexact HO4
  isplitl [HS0]; · iexact HS0
  isplitl [HS1]; · iexact HS1
  iexact HS2

set_option backward.proofsInPublic true in
set_option maxHeartbeats 8000000 in
theorem run_load_zero (c : Dev nD) (i : grid0.Coords)
    (arg3 : Memref sig .tc .vmem S8x512x128 .bf16) (harg3 : arg3.IsWhole)
    (arg4 : Memref sig .tc .vmem S1x1024x512 .f32) (harg4 : arg4.IsWhole)
    (arg5 : Memref sig .tc .vmem S1x1024x512 .f32) (harg5 : arg5.IsWhole)
    (arg6 : Memref sig .tc .vmem S1x512x1024 .f32) (harg6 : arg6.IsWhole)
    (arg7 : Memref sig .tc .vmem S8x512x128 .bf16) (harg7 : arg7.IsWhole)
    (T0 : ETab) (T1 : NTab) (x0 : S8x512x128.Idx → Elt Bits .bf16) (x1 x2 : S1x1024x512.Idx → Elt Bits .f32)
    (x3 : S1x512x1024.Idx → Elt Bits .f32)
    (w0 w1 : S1024x512.Idx → Elt Bits .bf16) (w2 : S512x1024.Idx → Elt Bits .bf16)
    (hc0 : Reload T0 i) (h2 : ¬k0_cond2 i (used T1) = 1#1) (h3 : k0_cond3 i (used T1) = 1#1)
    (K : PUnit → sProp 𝕄) :
    iprop((arg3.view.loc (c : Thread nD τ) ↦[arg3.view.set]{fullShare} arg3.view.rep x0)
        ∗ (arg4.view.loc (c : Thread nD τ) ↦[arg4.view.set]{fullShare} arg4.view.rep x1)
        ∗ (arg5.view.loc (c : Thread nD τ) ↦[arg5.view.set]{fullShare} arg5.view.rep x2)
        ∗ (arg6.view.loc (c : Thread nD τ) ↦[arg6.view.set]{fullShare} arg6.view.rep x3)
        ∗ (tab0.view.loc (c : Thread nD τ) ↦{fullShare.right} T0)
        ∗ (tab1.view.loc (c : Thread nD τ) ↦{fullShare.right} T1)
        ∗ (∃ d, owns (c : Thread nD τ) arg7 fullShare d)
        ∗ (scr0.view.loc (c : Thread nD τ) ↦{fullShare} w0)
        ∗ (scr1.view.loc (c : Thread nD τ) ↦{fullShare} w1)
        ∗ (scr2.view.loc (c : Thread nD τ) ↦{fullShare} w2)
        ∗ (iprop((arg3.view.loc (c : Thread nD τ) ↦[arg3.view.set]{fullShare} arg3.view.rep x0)
            ∗ (arg4.view.loc (c : Thread nD τ) ↦[arg4.view.set]{fullShare} arg4.view.rep x1)
            ∗ (arg5.view.loc (c : Thread nD τ) ↦[arg5.view.set]{fullShare} arg5.view.rep x2)
            ∗ (arg6.view.loc (c : Thread nD τ) ↦[arg6.view.set]{fullShare} arg6.view.rep x3)
            ∗ (tab0.view.loc (c : Thread nD τ) ↦{fullShare.right} T0)
            ∗ (tab1.view.loc (c : Thread nD τ) ↦{fullShare.right} T1)
            ∗ (∃ f, arg7.view.loc (c : Thread nD τ) ↦[arg7.view.set]{fullShare} arg7.view.writes (Elt Bits) f zeroPieces)
            ∗ (scr0.view.loc (c : Thread nD τ) ↦{fullShare} (k0_pay1 x1))
            ∗ (scr1.view.loc (c : Thread nD τ) ↦{fullShare} (k0_pay2 x2))
            ∗ (scr2.view.loc (c : Thread nD τ) ↦{fullShare} (k0_pay3 x3))) -∗ K ⟨⟩))
      ⊢ wp frame (wpE (defs₀ (F := Bits)) Variants.none c none) Set.univ (cc0__expert_kernel i tab0 (Memref.isWhole_whole _) tab1 (Memref.isWhole_whole _) arg3 harg3 arg4 harg4 arg5 harg5 arg6 harg6 arg7 harg7 scr0 (Memref.isWhole_whole _) scr1 (Memref.isWhole_whole _) scr2 (Memref.isWhole_whole _)) K := by
  unfold owns
  rw [cc0__expert_kernel_eq_skeleton]; unfold cc0__expert_kernel_skel
  iintro ⟨H0, H1, H2, H3, HT0, HT1, ⟨%d4, %f4, -, HO4⟩, HS0, HS1, HS2, Hk⟩
  have hS0 : scr0.IsWhole := Memref.isWhole_whole _
  have hS1 : scr1.IsWhole := Memref.isWhole_whole _
  have hS2 : scr2.IsWhole := Memref.isWhole_whole _
  have hT0 : tab0.IsWhole := Memref.isWhole_whole _
  have hT1 : tab1.IsWhole := Memref.isWhole_whole _
  sl_exec! (disch := first | (guard_target = (Scalar.cmpi _ _ _ = _); exact hc0) | (guard_target = ¬(k0_cond2 _ _ = _); exact h2) | (guard_target = (k0_cond3 _ _ = _); exact h3))
  sl_step
  rw [show scr0.view.writes (Elt Bits) scr0.view.junk (run_load_zero.sl.HS0_1 arg4 x1) = k0_pay1 x1 from by
      unfold run_load_zero.sl.HS0_1; rw [View.readAt_rep_full]
      have h := View.read_writes_full (Val := Elt Bits) scr0.view scr0.view.junk inb_S1024x512_S1024x512_0_0 (k0_pay1 x1) []
      exact h,
    show scr1.view.writes (Elt Bits) scr1.view.junk (run_load_zero.sl.HS1_1 arg5 x2) = k0_pay2 x2 from by
      unfold run_load_zero.sl.HS1_1; rw [View.readAt_rep_full]
      have h := View.read_writes_full (Val := Elt Bits) scr1.view scr1.view.junk inb_S1024x512_S1024x512_0_0 (k0_pay2 x2) []
      exact h,
    show scr2.view.writes (Elt Bits) scr2.view.junk (run_load_zero.sl.HS2_1 arg6 x3) = k0_pay3 x3 from by
      unfold run_load_zero.sl.HS2_1; rw [View.readAt_rep_full]
      have h := View.read_writes_full (Val := Elt Bits) scr2.view scr2.view.junk inb_S512x1024_S512x1024_0_0 (k0_pay3 x3) []
      exact h]
  iapply Hk
  isplitl [H0]; · iexact H0
  isplitl [H1]; · iexact H1
  isplitl [H2]; · iexact H2
  isplitl [H3]; · iexact H3
  isplitl [HT0]; · iexact HT0
  isplitl [HT1]; · iexact HT1
  isplitl [HO4]; · iexists _; iexact HO4
  isplitl [HS0]; · iexact HS0
  isplitl [HS1]; · iexact HS1
  iexact HS2

set_option backward.proofsInPublic true in
set_option maxHeartbeats 8000000 in
theorem run_keep_zero (c : Dev nD) (i : grid0.Coords)
    (arg3 : Memref sig .tc .vmem S8x512x128 .bf16) (harg3 : arg3.IsWhole)
    (arg4 : Memref sig .tc .vmem S1x1024x512 .f32) (harg4 : arg4.IsWhole)
    (arg5 : Memref sig .tc .vmem S1x1024x512 .f32) (harg5 : arg5.IsWhole)
    (arg6 : Memref sig .tc .vmem S1x512x1024 .f32) (harg6 : arg6.IsWhole)
    (arg7 : Memref sig .tc .vmem S8x512x128 .bf16) (harg7 : arg7.IsWhole)
    (T0 : ETab) (T1 : NTab) (x0 : S8x512x128.Idx → Elt Bits .bf16) (x1 x2 : S1x1024x512.Idx → Elt Bits .f32)
    (x3 : S1x512x1024.Idx → Elt Bits .f32)
    (w0 w1 : S1024x512.Idx → Elt Bits .bf16) (w2 : S512x1024.Idx → Elt Bits .bf16)
    (hc0 : ¬Reload T0 i) (h2 : ¬k0_cond2 i (used T1) = 1#1) (h3 : k0_cond3 i (used T1) = 1#1)
    (K : PUnit → sProp 𝕄) :
    iprop((arg3.view.loc (c : Thread nD τ) ↦[arg3.view.set]{fullShare} arg3.view.rep x0)
        ∗ (arg4.view.loc (c : Thread nD τ) ↦[arg4.view.set]{fullShare} arg4.view.rep x1)
        ∗ (arg5.view.loc (c : Thread nD τ) ↦[arg5.view.set]{fullShare} arg5.view.rep x2)
        ∗ (arg6.view.loc (c : Thread nD τ) ↦[arg6.view.set]{fullShare} arg6.view.rep x3)
        ∗ (tab0.view.loc (c : Thread nD τ) ↦{fullShare.right} T0)
        ∗ (tab1.view.loc (c : Thread nD τ) ↦{fullShare.right} T1)
        ∗ (∃ d, owns (c : Thread nD τ) arg7 fullShare d)
        ∗ (scr0.view.loc (c : Thread nD τ) ↦{fullShare} w0)
        ∗ (scr1.view.loc (c : Thread nD τ) ↦{fullShare} w1)
        ∗ (scr2.view.loc (c : Thread nD τ) ↦{fullShare} w2)
        ∗ (iprop((arg3.view.loc (c : Thread nD τ) ↦[arg3.view.set]{fullShare} arg3.view.rep x0)
            ∗ (arg4.view.loc (c : Thread nD τ) ↦[arg4.view.set]{fullShare} arg4.view.rep x1)
            ∗ (arg5.view.loc (c : Thread nD τ) ↦[arg5.view.set]{fullShare} arg5.view.rep x2)
            ∗ (arg6.view.loc (c : Thread nD τ) ↦[arg6.view.set]{fullShare} arg6.view.rep x3)
            ∗ (tab0.view.loc (c : Thread nD τ) ↦{fullShare.right} T0)
            ∗ (tab1.view.loc (c : Thread nD τ) ↦{fullShare.right} T1)
            ∗ (∃ f, arg7.view.loc (c : Thread nD τ) ↦[arg7.view.set]{fullShare} arg7.view.writes (Elt Bits) f zeroPieces)
            ∗ (scr0.view.loc (c : Thread nD τ) ↦{fullShare} w0)
            ∗ (scr1.view.loc (c : Thread nD τ) ↦{fullShare} w1)
            ∗ (scr2.view.loc (c : Thread nD τ) ↦{fullShare} w2)) -∗ K ⟨⟩))
      ⊢ wp frame (wpE (defs₀ (F := Bits)) Variants.none c none) Set.univ (cc0__expert_kernel i tab0 (Memref.isWhole_whole _) tab1 (Memref.isWhole_whole _) arg3 harg3 arg4 harg4 arg5 harg5 arg6 harg6 arg7 harg7 scr0 (Memref.isWhole_whole _) scr1 (Memref.isWhole_whole _) scr2 (Memref.isWhole_whole _)) K := by
  unfold owns
  rw [cc0__expert_kernel_eq_skeleton]; unfold cc0__expert_kernel_skel
  iintro ⟨H0, H1, H2, H3, HT0, HT1, ⟨%d4, %f4, -, HO4⟩, HS0, HS1, HS2, Hk⟩
  have hS0 : scr0.IsWhole := Memref.isWhole_whole _
  have hS1 : scr1.IsWhole := Memref.isWhole_whole _
  have hS2 : scr2.IsWhole := Memref.isWhole_whole _
  have hT0 : tab0.IsWhole := Memref.isWhole_whole _
  have hT1 : tab1.IsWhole := Memref.isWhole_whole _
  sl_exec! (disch := first | (guard_target = ¬(Scalar.cmpi _ _ _ = _); exact hc0) | (guard_target = ¬(k0_cond2 _ _ = _); exact h2) | (guard_target = (k0_cond3 _ _ = _); exact h3))
  sl_step
  iapply Hk
  isplitl [H0]; · iexact H0
  isplitl [H1]; · iexact H1
  isplitl [H2]; · iexact H2
  isplitl [H3]; · iexact H3
  isplitl [HT0]; · iexact HT0
  isplitl [HT1]; · iexact HT1
  isplitl [HO4]; · iexists _; iexact HO4
  isplitl [HS0]; · iexact HS0
  isplitl [HS1]; · iexact HS1
  iexact HS2

end Cert.Kernel3.Moe

end
-- ==== Proof.ExpertsFrameBits.lean ====
module

public import proofs.«01_k».proof.Proof.ExpertsRunBits
public import proofs.«01_k».proof.Defs
public import proofs.«01_k».proof.Proof.Gen.Pre_experts_named

/-! The experts' call, whatever words its two tables hold, so long as every expert named has weights. Before a point
the three scratches hold the weights of the point before; a point that keeps them has that point's expert, so after
every point they hold the weights of the point's own. -/

@[expose] public section

set_option maxRecDepth 16384
set_option Elab.async false

noncomputable section

namespace Cert.Kernel3.Moe

open Cert.Kernel3 Cert.Kernel3.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

abbrev EP : Emb (UR sig nD τ) 𝕄 := emb₁

/-! ## The body's decisions -/

/-- The two tests on the number of blocks in use are one another's negation. -/
theorem use_or_zero (i : grid0.Coords) (v : BitVec 32) : k0_cond3 i v = 1#1 ↔ ¬k0_cond2 i v = 1#1 := by
  unfold k0_cond2 k0_cond3
  generalize BitVec.ofNat 32 (i 0).val = x
  simp only [Scalar.cmpi, IntOp.cmpi, Scalar.extui, BitVec.sle_eq_not_slt]
  cases x.slt v <;> decide

/-- A point that keeps the scratches is not the first, and its expert is the one of the point before. -/
theorem keep_spec {T0 : ETab} {i : grid0.Coords} (h : ¬Reload T0 i) : (i 0).val ≠ 0 ∧ here T0 i = prev T0 i := by
  unfold Reload at h
  generalize here T0 i = x at h ⊢
  generalize prev T0 i = y at h ⊢
  simp only [Scalar.cmpi, IntOp.cmpi, Scalar.extui, Scalar.ori] at h
  constructor
  · intro h0
    rw [h0] at h
    cases hb : (x != y) <;> rw [hb] at h <;> exact h (by decide)
  · by_contra hxy
    have hb : (x != y) = true := by simpa using hxy
    rw [hb] at h
    cases hc : (BitVec.ofNat 32 (i 0).val == 0#32) <;> rw [hc] at h <;> exact h (by decide)

variable (a : (pcfg0 (F := Bits)).Adm)

abbrev cfgA : Pipeline.Cfg sig Λ₀ := cfg0 (F := Bits) a
abbrev pcs : Fin 1 → Pipeline.Cfg sig Λ₀ := Pipeline.pin (pcfgs (F := Bits)) fun _ => a

/-- The two tables' words. -/
abbrev T0 : ETab := a.1 0
abbrev T1 : NTab := a.1 1

variable (m : (ℓ : Loc nD τ sig) → Buf (Elt Bits) ℓ) (ρ : Dev nD → PrngReg)

/-- Every device's tables are those the pipeline is run at. -/
def Tabled : Prop :=
  (∀ c : Dev nD, m ((c : Thread nD τ).loc main_arg1) = T0 a) ∧ (∀ c : Dev nD, m ((c : Thread nD τ).loc main_arg2) = T1 a)

abbrev crd (t : Fin (cfgA a).N) : (cfgA a).grid.Coords := (cfgA a).grid.coords t

abbrev ms0 (t : Fin (cfgA a).N) : Memref sig .tc .vmem S8x512x128 .bf16 := spec0_0.stage ((cfgA a).slots t (0 : Fin 5))
abbrev hs0 (t : Fin (cfgA a).N) : (ms0 a t).IsWhole := hstage0_0 (((cfgA a).slots t (0 : Fin 5)).cast nbuf0_0)
abbrev ms1 (t : Fin (cfgA a).N) : Memref sig .tc .vmem S1x1024x512 .f32 := spec0_1.stage ((cfgA a).slots t (1 : Fin 5))
abbrev hs1 (t : Fin (cfgA a).N) : (ms1 a t).IsWhole := hstage0_1 (((cfgA a).slots t (1 : Fin 5)).cast nbuf0_1)
abbrev ms2 (t : Fin (cfgA a).N) : Memref sig .tc .vmem S1x1024x512 .f32 := spec0_2.stage ((cfgA a).slots t (2 : Fin 5))
abbrev hs2 (t : Fin (cfgA a).N) : (ms2 a t).IsWhole := hstage0_2 (((cfgA a).slots t (2 : Fin 5)).cast nbuf0_2)
abbrev ms3 (t : Fin (cfgA a).N) : Memref sig .tc .vmem S1x512x1024 .f32 := spec0_3.stage ((cfgA a).slots t (3 : Fin 5))
abbrev hs3 (t : Fin (cfgA a).N) : (ms3 a t).IsWhole := hstage0_3 (((cfgA a).slots t (3 : Fin 5)).cast nbuf0_3)
abbrev ms4 (t : Fin (cfgA a).N) : Memref sig .tc .vmem S8x512x128 .bf16 := spec0_4.stage ((cfgA a).slots t (4 : Fin 5))
abbrev hs4 (t : Fin (cfgA a).N) : (ms4 a t).IsWhole := hstage0_4 (((cfgA a).slots t (4 : Fin 5)).cast nbuf0_4)
/-- Window `w`'s block at point `t`, read off its array at launch. -/
def iblk (c : Dev nD) (w : Fin (cfgA a).W) (t : Fin (cfgA a).N) : (((cfgA a).win w).xblock (crd a t)).Idx → Elt Bits ((cfgA a).win w).elt :=
  (((cfgA a).win w).blk t).view.read (Elt Bits) ((s₀ m ρ).mem (((cfgA a).win w).arr.view.loc (c : Thread nD τ)))

/-- The weights of point `t`'s expert, as the scratches hold them. -/
def gate (c : Dev nD) (t : Fin (cfgA a).N) : S1024x512.Idx → Elt Bits .bf16 := k0_pay1 (F := Bits) (iblk a m ρ c (1 : Fin 5) t)
def up (c : Dev nD) (t : Fin (cfgA a).N) : S1024x512.Idx → Elt Bits .bf16 := k0_pay2 (F := Bits) (iblk a m ρ c (2 : Fin 5) t)
def down (c : Dev nD) (t : Fin (cfgA a).N) : S512x1024.Idx → Elt Bits .bf16 := k0_pay3 (F := Bits) (iblk a m ρ c (3 : Fin 5) t)

/-- What point `t` leaves in the output's block. -/
def blockOut (c : Dev nD) (t : Fin (cfgA a).N) : S8x512x128.Idx → Elt Bits .bf16 :=
  if k0_cond2 (crd a t) (used (T1 a)) = 1#1 then useOut (iblk a m ρ c (0 : Fin 5) t) (gate a m ρ c t) (up a m ρ c t) (down a m ρ c t)
  else zeroOut

/-! ## The pipeline's proof data -/

/-- Before point `t`: the scratches at the weights of the point before, if there is one; the body's halves of the
tables. -/
def Phi (c : Dev nD) (t : Fin ((cfgA a).N + 1)) : sProp 𝕄 :=
  iprop((∃ w, ⌜∀ t' : Fin (cfgA a).N, t.val = t'.val + 1 → w = gate a m ρ c t'⌝ ∗ (scr0.view.loc (c : Thread nD τ) ↦{fullShare} w))
    ∗ (∃ w, ⌜∀ t' : Fin (cfgA a).N, t.val = t'.val + 1 → w = up a m ρ c t'⌝ ∗ (scr1.view.loc (c : Thread nD τ) ↦{fullShare} w))
    ∗ (∃ w, ⌜∀ t' : Fin (cfgA a).N, t.val = t'.val + 1 → w = down a m ρ c t'⌝ ∗ (scr2.view.loc (c : Thread nD τ) ↦{fullShare} w))
    ∗ (tab0.view.loc (c : Thread nD τ) ↦{fullShare.right} T0 a) ∗ (tab1.view.loc (c : Thread nD τ) ↦{fullShare.right} T1 a))

/-- The proof data of the one pipeline on core `c`. -/
def dats (_ : Fin 1) (c : Dev nD) : Dat τ (Elt Bits) Unit ℕ (UR sig nD τ) ℕ (cfgA a) c where
  A w := (s₀ m ρ).mem (((cfgA a).win w).arr.view.loc (c : Thread nD τ))
  after w t := match w with
    | ⟨0, _⟩ => iblk a m ρ c (0 : Fin 5) t
    | ⟨1, _⟩ => iblk a m ρ c (1 : Fin 5) t
    | ⟨2, _⟩ => iblk a m ρ c (2 : Fin 5) t
    | ⟨3, _⟩ => iblk a m ρ c (3 : Fin 5) t
    | ⟨4, _⟩ => blockOut a m ρ c t
  Φ t := Phi a m ρ c t
  q _ := fullShare
  owed _ := 0

theorem after0 (c : Dev nD) (t : Fin (cfgA a).N) : (dats a m ρ 0 c).after (0 : Fin 5) t = iblk a m ρ c (0 : Fin 5) t := rfl
theorem after1 (c : Dev nD) (t : Fin (cfgA a).N) : (dats a m ρ 0 c).after (1 : Fin 5) t = iblk a m ρ c (1 : Fin 5) t := rfl
theorem after2 (c : Dev nD) (t : Fin (cfgA a).N) : (dats a m ρ 0 c).after (2 : Fin 5) t = iblk a m ρ c (2 : Fin 5) t := rfl
theorem after3 (c : Dev nD) (t : Fin (cfgA a).N) : (dats a m ρ 0 c).after (3 : Fin 5) t = iblk a m ρ c (3 : Fin 5) t := rfl
theorem after4 (c : Dev nD) (t : Fin (cfgA a).N) : (dats a m ρ 0 c).after (4 : Fin 5) t = blockOut a m ρ c t := rfl

theorem fetched0 (c : Dev nD) (t : Fin (cfgA a).N) (d) : (dats a m ρ 0 c).fetched (0 : Fin 5) t d = iblk a m ρ c (0 : Fin 5) t := by
  unfold Dat.fetched Dat.blockOf iblk; rfl
theorem before0 (c : Dev nD) (t : Fin (cfgA a).N) (d) : (dats a m ρ 0 c).before (0 : Fin 5) t d = iblk a m ρ c (0 : Fin 5) t :=
  ((dats a m ρ 0 c).before_in_eq_fetched (0 : Fin 5) rfl (fun _ => rfl) (fun _ _ _ => rfl) (fun t => by rw [after0]; unfold Dat.blockOf iblk; rfl) t d).trans
    (fetched0 a m ρ c t d)

theorem fetched1 (c : Dev nD) (t : Fin (cfgA a).N) (d) : (dats a m ρ 0 c).fetched (1 : Fin 5) t d = iblk a m ρ c (1 : Fin 5) t := by
  unfold Dat.fetched Dat.blockOf iblk; rfl
theorem before1 (c : Dev nD) (t : Fin (cfgA a).N) (d) : (dats a m ρ 0 c).before (1 : Fin 5) t d = iblk a m ρ c (1 : Fin 5) t :=
  ((dats a m ρ 0 c).before_in_eq_fetched (1 : Fin 5) rfl (fun _ => rfl) (fun _ _ _ => rfl) (fun t => by rw [after1]; unfold Dat.blockOf iblk; rfl) t d).trans
    (fetched1 a m ρ c t d)

theorem fetched2 (c : Dev nD) (t : Fin (cfgA a).N) (d) : (dats a m ρ 0 c).fetched (2 : Fin 5) t d = iblk a m ρ c (2 : Fin 5) t := by
  unfold Dat.fetched Dat.blockOf iblk; rfl
theorem before2 (c : Dev nD) (t : Fin (cfgA a).N) (d) : (dats a m ρ 0 c).before (2 : Fin 5) t d = iblk a m ρ c (2 : Fin 5) t :=
  ((dats a m ρ 0 c).before_in_eq_fetched (2 : Fin 5) rfl (fun _ => rfl) (fun _ _ _ => rfl) (fun t => by rw [after2]; unfold Dat.blockOf iblk; rfl) t d).trans
    (fetched2 a m ρ c t d)

theorem fetched3 (c : Dev nD) (t : Fin (cfgA a).N) (d) : (dats a m ρ 0 c).fetched (3 : Fin 5) t d = iblk a m ρ c (3 : Fin 5) t := by
  unfold Dat.fetched Dat.blockOf iblk; rfl
theorem before3 (c : Dev nD) (t : Fin (cfgA a).N) (d) : (dats a m ρ 0 c).before (3 : Fin 5) t d = iblk a m ρ c (3 : Fin 5) t :=
  ((dats a m ρ 0 c).before_in_eq_fetched (3 : Fin 5) rfl (fun _ => rfl) (fun _ _ _ => rfl) (fun t => by rw [after3]; unfold Dat.blockOf iblk; rfl) t d).trans
    (fetched3 a m ρ c t d)

/-! ## A point that keeps the scratches has the weights of the point before -/

theorem off_prev : ∀ t : Fin grid0.N, (h : t.val ≠ 0) → k0_off2 (grid0.coords t) = k0_off1 (grid0.coords ⟨t.val - 1, by omega⟩) := by
  decide +kernel

theorem coord_zero : ∀ t : Fin grid0.N, t.val = 0 → (grid0.coords t 0).val = 0 := by decide +kernel

theorem word_congr (T : ETab) {o o' : Fin 1 → ℕ} (e : o = o') (h : ∀ a, o a + S1.size a ≤ S290.size a) (h' : ∀ a, o' a + S1.size a ≤ S290.size a) :
    View.readAt (Elt Bits) tab0.view (Rect.unit (s := S290) o S1.size h).toLoadRect T (Shape.Idx.first (numel1_S1.symm ▸ Nat.one_pos))
      = View.readAt (Elt Bits) tab0.view (Rect.unit (s := S290) o' S1.size h').toLoadRect T (Shape.Idx.first (numel1_S1.symm ▸ Nat.one_pos)) := by
  subst e; rfl

theorem tr1 (pf : pre0.Contents (Elt Bits)) (i : grid0.Coords) : cc0_transform_1 k0_off1_inb numel1_S1 pf i = ![(here (pf 0) i).toNat, 0, 0] := rfl
theorem index1 (t : Fin (cfgA a).N) : ((cfgA a).win (1 : Fin 5)).index t = ![(here (T0 a) (crd a t)).toNat, 0, 0] := tr1 a.1 (crd a t)

theorem tr2 (pf : pre0.Contents (Elt Bits)) (i : grid0.Coords) : cc0_transform_2 k0_off1_inb numel1_S1 pf i = ![(here (pf 0) i).toNat, 0, 0] := rfl
theorem index2 (t : Fin (cfgA a).N) : ((cfgA a).win (2 : Fin 5)).index t = ![(here (T0 a) (crd a t)).toNat, 0, 0] := tr2 a.1 (crd a t)

theorem tr3 (pf : pre0.Contents (Elt Bits)) (i : grid0.Coords) : cc0_transform_3 k0_off1_inb numel1_S1 pf i = ![(here (pf 0) i).toNat, 0, 0] := rfl
theorem index3 (t : Fin (cfgA a).N) : ((cfgA a).win (3 : Fin 5)).index t = ![(here (T0 a) (crd a t)).toNat, 0, 0] := tr3 a.1 (crd a t)

theorem keep_here (t : Fin (cfgA a).N) (h : ¬Reload (T0 a) (crd a t)) :
    ∃ h0 : t.val ≠ 0, here (T0 a) (crd a t) = here (T0 a) (crd a ⟨t.val - 1, by omega⟩) := by
  obtain ⟨h0, he⟩ := keep_spec h
  have hn : t.val ≠ 0 := fun e => h0 (coord_zero t e)
  exact ⟨hn, he.trans (word_congr (T0 a) (off_prev t hn) _ _)⟩

theorem iblk_congr1 (c : Dev nD) {t t' : Fin (cfgA a).N} (e : here (T0 a) (crd a t) = here (T0 a) (crd a t')) :
    (iblk a m ρ c (1 : Fin 5) t' : S1x1024x512.Idx → Elt Bits .f32) = iblk a m ρ c (1 : Fin 5) t := by
  have h := (dats a m ρ 0 c).fetched_congr (1 : Fin 5) (t := t') (t' := t) (by rw [index1, index1, e]) rfl (fun _ => default)
  exact ((fetched1 a m ρ c t' _).symm.trans h).trans (fetched1 a m ρ c t _)

theorem iblk_congr2 (c : Dev nD) {t t' : Fin (cfgA a).N} (e : here (T0 a) (crd a t) = here (T0 a) (crd a t')) :
    (iblk a m ρ c (2 : Fin 5) t' : S1x1024x512.Idx → Elt Bits .f32) = iblk a m ρ c (2 : Fin 5) t := by
  have h := (dats a m ρ 0 c).fetched_congr (2 : Fin 5) (t := t') (t' := t) (by rw [index2, index2, e]) rfl (fun _ => default)
  exact ((fetched2 a m ρ c t' _).symm.trans h).trans (fetched2 a m ρ c t _)

theorem iblk_congr3 (c : Dev nD) {t t' : Fin (cfgA a).N} (e : here (T0 a) (crd a t) = here (T0 a) (crd a t')) :
    (iblk a m ρ c (3 : Fin 5) t' : S1x512x1024.Idx → Elt Bits .f32) = iblk a m ρ c (3 : Fin 5) t := by
  have h := (dats a m ρ 0 c).fetched_congr (3 : Fin 5) (t := t') (t' := t) (by rw [index3, index3, e]) rfl (fun _ => default)
  exact ((fetched3 a m ρ c t' _).symm.trans h).trans (fetched3 a m ρ c t _)

theorem keep_weights (c : Dev nD) (t : Fin (cfgA a).N) (h : ¬Reload (T0 a) (crd a t)) :
    ∃ t' : Fin (cfgA a).N, t.val = t'.val + 1 ∧ gate a m ρ c t' = gate a m ρ c t ∧ up a m ρ c t' = up a m ρ c t ∧ down a m ρ c t' = down a m ρ c t := by
  obtain ⟨h0, he⟩ := keep_here a t h
  refine ⟨⟨t.val - 1, by omega⟩, by simp only []; omega, ?_, ?_, ?_⟩
  · unfold gate; rw [iblk_congr1 a m ρ c he]
  · unfold up; rw [iblk_congr2 a m ρ c he]
  · unfold down; rw [iblk_congr3 a m ρ c he]

/-! ## The body obligation -/

theorem idle4 (t : Fin (cfgA a).N) : (cfgA a).idle (4 : Fin 5) ((cfgA a).grid.coords t) = false := by
  show (!(k0_cond2 (crd a t) (a.1.atD 1 ![0]) == 1#1) && !(k0_cond3 (crd a t) (a.1.atD 1 ![0]) == 1#1)) = false
  have h := use_or_zero (crd a t) (a.1.atD 1 ![0])
  by_cases h2 : k0_cond2 (crd a t) (a.1.atD 1 ![0]) = 1#1
  · rw [h2]; rfl
  · rw [h.2 h2]; simp

abbrev bodyAt (t : Fin (cfgA a).N) : Prog (TpuEff nD τ sig (Elt Bits) Λ₀ .tc) PUnit :=
  cc0__expert_kernel (crd a t) (Memref.whole main_arg1) (Memref.isWhole_whole _) (Memref.whole main_arg2) (Memref.isWhole_whole _) (ms0 a t) (hs0 a t) (ms1 a t) (hs1 a t) (ms2 a t) (hs2 a t) (ms3 a t) (hs3 a t) (ms4 a t) (hs4 a t) (Memref.whole cc0_scratch0) (Memref.isWhole_whole _) (Memref.whole cc0_scratch1) (Memref.isWhole_whole _) (Memref.whole cc0_scratch2) (Memref.isWhole_whole _)

theorem use_read {v : Memref sig .tc .vmem S8x512x128 .bf16} (f) (x0 : S8x512x128.Idx → Elt Bits .bf16) (w0 w1 : S1024x512.Idx → Elt Bits .bf16)
    (w2 : S512x1024.Idx → Elt Bits .bf16) : v.view.read (Elt Bits) (v.view.writes (Elt Bits) f (usePieces x0 w0 w1 w2)) = useOut x0 w0 w1 w2 :=
  View.read_writes_of_cover _ _ _ _ _ (use_cover x0 w0 w1 w2)

theorem zero_read {v : Memref sig .tc .vmem S8x512x128 .bf16} (f) :
    v.view.read (Elt Bits) (v.view.writes (Elt Bits) f zeroPieces) = zeroOut :=
  View.read_writes_of_cover _ _ _ _ _ zero_cover

set_option maxHeartbeats 4000000 in
theorem sound_body (c : Dev nD) (t : Fin (cfgA a).N) :
    iprop((dats a m ρ 0 c).Φ t.castSucc ∗ (dats a m ρ 0 c).owesAt () t.castSucc
        ∗ (∃ d, owns (c : Thread nD τ) (ms0 a t) fullShare ((dats a m ρ 0 c).before (0 : Fin 5) t d))
        ∗ (∃ d, owns (c : Thread nD τ) (ms1 a t) fullShare ((dats a m ρ 0 c).before (1 : Fin 5) t d))
        ∗ (∃ d, owns (c : Thread nD τ) (ms2 a t) fullShare ((dats a m ρ 0 c).before (2 : Fin 5) t d))
        ∗ (∃ d, owns (c : Thread nD τ) (ms3 a t) fullShare ((dats a m ρ 0 c).before (3 : Fin 5) t d))
        ∗ (∃ d, owns (c : Thread nD τ) (ms4 a t) fullShare ((dats a m ρ 0 c).before (4 : Fin 5) t d)))
      ⊢ wp frame (wpE (defs₀ (F := Bits)) Variants.none c none) Set.univ (bodyAt a t) fun _ =>
          iprop((dats a m ρ 0 c).Φ t.succ ∗ (dats a m ρ 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m ρ 0 c).before w t d))
                  | true => owns (c : Thread nD τ) (((cfgA a).win w).stage ((cfgA a).slots t w)) fullShare ((dats a m ρ 0 c).after w t)
                | false => owns (c : Thread nD τ) (((cfgA a).win w).stage ((cfgA a).slots t w)) fullShare ((dats a m ρ 0 c).after w t)) := by
  rw [bigSep_W0]
  rewrite [idle4 a t]
  simp only [before0, before1, before2, before3, after0, after1, after2, after3, after4]
  rewrite [show (dats a m ρ 0 c).Φ t.succ = Phi a m ρ c t.succ from rfl, show (dats a m ρ 0 c).Φ t.castSucc = Phi a m ρ c t.castSucc from rfl,
    show (dats a m ρ 0 c).owesAt () t.succ = (dats a m ρ 0 c).owesAt () t.castSucc from rfl]
  unfold Phi; simp only [Fin.val_castSucc, Fin.val_succ]
  by_cases hc0 : Reload (T0 a) (crd a t)
  · by_cases h2 : k0_cond2 (crd a t) (used (T1 a)) = 1#1
    · iintro ⟨⟨⟨%w0, %hw0, HS0⟩, ⟨%w1, %hw1, HS1⟩, ⟨%w2, %hw2, HS2⟩, HT0, HT1⟩, Ho, ⟨%d0, H0⟩, ⟨%d1, H1⟩, ⟨%d2, H2⟩, ⟨%d3, H3⟩, ⟨%d4, H4⟩⟩
      iapply (run_load_use c (crd a t) (ms0 a t) (hs0 a t) (ms1 a t) (hs1 a t) (ms2 a t) (hs2 a t) (ms3 a t) (hs3 a t) (ms4 a t) (hs4 a t) (T0 a) (T1 a) (iblk a m ρ c (0 : Fin 5) t) (iblk a m ρ c (1 : Fin 5) t) (iblk a m ρ c (2 : Fin 5) t) (iblk a m ρ c (3 : Fin 5) t) w0 w1 w2 hc0 h2 (fun h3 => (use_or_zero _ _).1 h3 h2) _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, ⟨%e4, H4⟩, HS0, HS1, HS2⟩
      isplitl [HS0 HS1 HS2 HT0 HT1]
      · skip
        isplitl [HS0]
        · iexists _; isplitr; swap
          · iexact HS0
          · ipureintro; intro t'' hn; obtain rfl : t = t'' := Fin.ext (by omega); rfl
        isplitl [HS1]
        · iexists _; isplitr; swap
          · iexact HS1
          · ipureintro; intro t'' hn; obtain rfl : t = t'' := Fin.ext (by omega); rfl
        isplitl [HS2]
        · iexists _; isplitr; swap
          · iexact HS2
          · ipureintro; intro t'' hn; obtain rfl : t = t'' := Fin.ext (by omega); rfl
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; unfold blockOut; rw [use_read, if_pos h2]; rfl
    · iintro ⟨⟨⟨%w0, %hw0, HS0⟩, ⟨%w1, %hw1, HS1⟩, ⟨%w2, %hw2, HS2⟩, HT0, HT1⟩, Ho, ⟨%d0, H0⟩, ⟨%d1, H1⟩, ⟨%d2, H2⟩, ⟨%d3, H3⟩, ⟨%d4, H4⟩⟩
      iapply (run_load_zero c (crd a t) (ms0 a t) (hs0 a t) (ms1 a t) (hs1 a t) (ms2 a t) (hs2 a t) (ms3 a t) (hs3 a t) (ms4 a t) (hs4 a t) (T0 a) (T1 a) (iblk a m ρ c (0 : Fin 5) t) (iblk a m ρ c (1 : Fin 5) t) (iblk a m ρ c (2 : Fin 5) t) (iblk a m ρ c (3 : Fin 5) t) w0 w1 w2 hc0 h2 ((use_or_zero _ _).2 h2) _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, ⟨%e4, H4⟩, HS0, HS1, HS2⟩
      isplitl [HS0 HS1 HS2 HT0 HT1]
      · skip
        isplitl [HS0]
        · iexists _; isplitr; swap
          · iexact HS0
          · ipureintro; intro t'' hn; obtain rfl : t = t'' := Fin.ext (by omega); rfl
        isplitl [HS1]
        · iexists _; isplitr; swap
          · iexact HS1
          · ipureintro; intro t'' hn; obtain rfl : t = t'' := Fin.ext (by omega); rfl
        isplitl [HS2]
        · iexists _; isplitr; swap
          · iexact HS2
          · ipureintro; intro t'' hn; obtain rfl : t = t'' := Fin.ext (by omega); rfl
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; unfold blockOut; rw [zero_read, if_neg h2]
  · obtain ⟨t', ht, e0, e1, e2⟩ := keep_weights a m ρ c t hc0
    by_cases h2 : k0_cond2 (crd a t) (used (T1 a)) = 1#1
    · iintro ⟨⟨⟨%w0, %hw0, HS0⟩, ⟨%w1, %hw1, HS1⟩, ⟨%w2, %hw2, HS2⟩, HT0, HT1⟩, Ho, ⟨%d0, H0⟩, ⟨%d1, H1⟩, ⟨%d2, H2⟩, ⟨%d3, H3⟩, ⟨%d4, H4⟩⟩
      iapply (run_keep_use c (crd a t) (ms0 a t) (hs0 a t) (ms1 a t) (hs1 a t) (ms2 a t) (hs2 a t) (ms3 a t) (hs3 a t) (ms4 a t) (hs4 a t) (T0 a) (T1 a) (iblk a m ρ c (0 : Fin 5) t) (iblk a m ρ c (1 : Fin 5) t) (iblk a m ρ c (2 : Fin 5) t) (iblk a m ρ c (3 : Fin 5) t) w0 w1 w2 hc0 h2 (fun h3 => (use_or_zero _ _).1 h3 h2) _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, ⟨%e4, H4⟩, HS0, HS1, HS2⟩
      isplitl [HS0 HS1 HS2 HT0 HT1]
      · skip
        isplitl [HS0]
        · iexists _; isplitr; swap
          · iexact HS0
          · ipureintro; intro t'' hn; obtain rfl : t = t'' := Fin.ext (by omega); exact (hw0 t' ht).trans e0
        isplitl [HS1]
        · iexists _; isplitr; swap
          · iexact HS1
          · ipureintro; intro t'' hn; obtain rfl : t = t'' := Fin.ext (by omega); exact (hw1 t' ht).trans e1
        isplitl [HS2]
        · iexists _; isplitr; swap
          · iexact HS2
          · ipureintro; intro t'' hn; obtain rfl : t = t'' := Fin.ext (by omega); exact (hw2 t' ht).trans e2
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; unfold blockOut; rw [use_read, if_pos h2, (hw0 t' ht).trans e0, (hw1 t' ht).trans e1, (hw2 t' ht).trans e2]
    · iintro ⟨⟨⟨%w0, %hw0, HS0⟩, ⟨%w1, %hw1, HS1⟩, ⟨%w2, %hw2, HS2⟩, HT0, HT1⟩, Ho, ⟨%d0, H0⟩, ⟨%d1, H1⟩, ⟨%d2, H2⟩, ⟨%d3, H3⟩, ⟨%d4, H4⟩⟩
      iapply (run_keep_zero c (crd a t) (ms0 a t) (hs0 a t) (ms1 a t) (hs1 a t) (ms2 a t) (hs2 a t) (ms3 a t) (hs3 a t) (ms4 a t) (hs4 a t) (T0 a) (T1 a) (iblk a m ρ c (0 : Fin 5) t) (iblk a m ρ c (1 : Fin 5) t) (iblk a m ρ c (2 : Fin 5) t) (iblk a m ρ c (3 : Fin 5) t) w0 w1 w2 hc0 h2 ((use_or_zero _ _).2 h2) _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, ⟨%e4, H4⟩, HS0, HS1, HS2⟩
      isplitl [HS0 HS1 HS2 HT0 HT1]
      · skip
        isplitl [HS0]
        · iexists _; isplitr; swap
          · iexact HS0
          · ipureintro; intro t'' hn; obtain rfl : t = t'' := Fin.ext (by omega); exact (hw0 t' ht).trans e0
        isplitl [HS1]
        · iexists _; isplitr; swap
          · iexact HS1
          · ipureintro; intro t'' hn; obtain rfl : t = t'' := Fin.ext (by omega); exact (hw1 t' ht).trans e1
        isplitl [HS2]
        · iexists _; isplitr; swap
          · iexact HS2
          · ipureintro; intro t'' hn; obtain rfl : t = t'' := Fin.ext (by omega); exact (hw2 t' ht).trans e2
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; unfold blockOut; rw [zero_read, if_neg h2]
/-- The library's body obligation, at every point. -/
theorem body_obligation (c : Dev nD) : BodyObligation (dats a m ρ 0 c) (defs₀ (F := Bits)) Variants.none () Set.univ := fun t => by
  rw [bigSep_W0]
  exact sound_body a m ρ c t

/-! ## The launch -/

def u₀ : UR sig nD τ :=
  initOf (Pipeline.cells (pcs a) ((launch0 (F := Bits)).cellOf_inj fun _ => a))
    (Pipeline.launchToks (pcs a) ((launch0 (F := Bits)).cellOf_inj fun _ => a))

theorem share_eq (c : Dev nD) (w : Fin (cfgA a).W) : (dats a m ρ 0 c).share w = fullShare := by unfold Dat.share; split <;> rfl

theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) a.1 ∗ Pipeline.scopedRest spec0 c) ⊢ (dats a m ρ 0 c).Φ 0 := by
  rw [prefHeld_eq, scopedRest0_eq, show (dats a m ρ 0 c).Φ 0 = Phi a m ρ c 0 from rfl]
  unfold Phi
  iintro ⟨-, ⟨HT0, HT1⟩, ⟨%a0, HS0⟩, ⟨%a1, HS1⟩, ⟨%a2, HS2⟩⟩
  isplitl [HS0]
  · iexists a0; isplitr; swap
    · iexact HS0
    · ipureintro; intro t' h; exact absurd h (Nat.succ_ne_zero _).symm
  isplitl [HS1]
  · iexists a1; isplitr; swap
    · iexact HS1
    · ipureintro; intro t' h; exact absurd h (Nat.succ_ne_zero _).symm
  isplitl [HS2]
  · iexists a2; isplitr; swap
    · iexact HS2
    · ipureintro; intro t' h; exact absurd h (Nat.succ_ne_zero _).symm
  isplitl [HT0]
  · iexact HT0
  iexact HT1

theorem phiN_exit (c : Dev nD) : (dats a m ρ 0 c).Φ (Fin.last (cfgA a).N) ⊢ iprop(BI.emp ∗ Pipeline.scopedRest spec0 c) := by
  rw [scopedRest0_eq, show (dats a m ρ 0 c).Φ (Fin.last (cfgA a).N) = Phi a m ρ c (Fin.last _) from rfl]
  unfold Phi
  iintro ⟨⟨%a0, -, HS0⟩, ⟨%a1, -, HS1⟩, ⟨%a2, -, HS2⟩, -, -⟩
  isplitr; · iempintro
  isplitl [HS0]
  · iexists a0; iexact HS0
  isplitl [HS1]
  · iexists a1; iexact HS1
  iexists a2; iexact HS2

/-- Every array at what the library computes, every table at what the pipeline ran at. -/
def QC : PUnit × MemSt nD τ sig (Elt Bits) → Prop := fun r =>
  ∀ c : Dev nD, (∀ w : Fin (cfgA a).W, r.2.mem (((cfgA a).win w).arr.view.loc (c : Thread nD τ)) = (dats a m ρ 0 c).arrAt w (cfgA a).N)
    ∧ ∀ j, r.2.mem ((c : Thread nD τ).loc (pre0.ref j)) = a.1 j

variable {a m} in
theorem V_pre (hp : Tabled a m) (c : Dev nD) (j : Fin 2) : m ((c : Thread nD τ).loc (pre0.ref j)) = a.1 j := by
  fin_cases j
  · exact hp.1 c
  · exact hp.2 c

set_option backward.isDefEq.respectTransparency.types false in
set_option maxHeartbeats 4000000 in
theorem run_quiescent (hp : Tabled a m) : θ_run (defs (F := Bits)) (onTc (τ := τ) (main (F := Bits))) (s₀ m ρ) (fun r => QC a m ρ r ∧ r.2.sem = fun _ => 0) :=
  Pipeline.θ_run_region_noSem_pf_quiescent pcfgs (fun _ => a) (dats a m ρ) () ((launch0 (F := Bits)).cellOf_inj fun _ => a) (0 : Fin 1)
    (launch0 (F := Bits)).win.to₀ (launch0 (F := Bits)).pre EP defs₀ Variants.none m ρ main
    (hbody := fun c => (body_obligation a m ρ c).loose) (hne := (launch0 (F := Bits)).block_pos)
    (harr := (launch0 (F := Bits)).arr_whole) (hstage := (launch0 (F := Bits)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := Bits)).win.arr_inj c (launch0 (F := Bits)).arr_whole
      (share_eq a m ρ c) _ _ fun _ => rfl)
    (hpf := V_pre hp)
    (X := fun _ => iprop(emp)) (Y := fun _ => iprop(emp)) (Z := fun _ => iprop(emp))
    (hX := fun c => by rw [unscopedRestP0_eq]; iintro -; isplitr <;> iempintro)
    (hin := phi0_intro a m ρ)
    (hout := phiN_exit a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- What a run leaves: the result at the pipeline's array, the arguments as they were, the counters at zero. -/
theorem run_all (hp : Tabled a m) :
    θ_run (defs (F := Bits)) (onTc (τ := τ) (main (F := Bits))) ⟨m, fun _ => 0, ρ⟩ (fun r => (∀ c : Dev nD,
      r.2.mem ((c.tc : Thread nD τ).loc main_v0) = (dats a m ρ 0 c).arrAt (4 : Fin 5) (cfgA a).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 (4 : Fin 5),
    ((h.1 c).1 (0 : Fin 5)).trans ((dats a m ρ 0 c).arrAt_in (0 : Fin 5) rfl _), ((h.1 c).2 0).trans (hp.1 c).symm,
    ((h.1 c).2 1).trans (hp.2 c).symm, ((h.1 c).1 (1 : Fin 5)).trans ((dats a m ρ 0 c).arrAt_in (1 : Fin 5) rfl _),
    ((h.1 c).1 (2 : Fin 5)).trans ((dats a m ρ 0 c).arrAt_in (2 : Fin 5) rfl _),
    ((h.1 c).1 (3 : Fin 5)).trans ((dats a m ρ 0 c).arrAt_in (3 : Fin 5) rfl _)⟩, h.2⟩) (run_quiescent a m ρ hp)

/-! ## Experts that have weights -/

/-- The words the two tables hold in memory `m`. -/
def words : pre0.Contents (Elt Bits) :=
  fun | ⟨0, _⟩ => m (((0 : Dev nD) : Thread nD τ).loc main_arg1) | ⟨1, _⟩ => m (((0 : Dev nD) : Thread nD τ).loc main_arg2) | ⟨_ + 2, h⟩ => absurd h (by simp)

theorem dev_eq (c : Dev nD) : c = 0 := Subsingleton.elim _ _

/-- The precondition read: every word of the table of experts names one of the thirty-two. -/
theorem named (h : Cert.Pre_Kernel3 m) (c : Dev nD) (x : S290.Idx) : (m ((c : Thread nD τ).loc main_arg1) x : BitVec 32).toNat < 32 := by
  have hx : IntOp.andi (IntOp.cmpi .sge (m ((c : Thread nD τ).loc main_arg1) x : BitVec 32) 0#32) (IntOp.cmpi .slt (m ((c : Thread nD τ).loc main_arg1) x : BitVec 32) 32#32) = 1#1 := congrFun (h c) x
  generalize (m ((c : Thread nD τ).loc main_arg1) x : BitVec 32) = w at hx ⊢
  simp only [IntOp.andi, IntOp.cmpi] at hx
  have h1 : (0#32).sle w = true := by
    cases hb : (0#32).sle w
    · rw [hb] at hx; revert hx; cases w.slt 32#32 <;> decide
    · rfl
  have h2 : w.slt 32#32 = true := by
    cases hb : w.slt 32#32
    · rw [hb, h1] at hx; exact absurd hx (by decide)
    · rfl
  rw [BitVec.sle_iff_toInt_le] at h1
  rw [BitVec.slt_iff_toInt_lt] at h2
  simp only [BitVec.toInt_eq_toNat_cond] at h1 h2
  have e0 : (0#32).toNat = 0 := rfl
  have e1 : (32#32).toNat = 32 := rfl
  rw [e0] at h1; rw [e1] at h2
  have := w.isLt
  split_ifs at h1 h2 <;> omega

theorem word_lt (h : Cert.Pre_Kernel3 m) (i : grid0.Coords) : (here (words m 0) i).toNat < 32 := named m h 0 _

theorem ok1 (h : Cert.Pre_Kernel3 m) (i : grid0.Coords) : ∀ b, (cc0_transform_1 k0_off1_inb numel1_S1 (words m) i b + 1) * S1x1024x512.size b ≤ S32x1024x512.size b := by
  rw [tr1]
  have hw := word_lt m h i
  generalize (here (words m 0) i).toNat = n at hw ⊢
  refine Fin.cases ?_ (Fin.cases ?_ (Fin.cases ?_ (fun x => x.elim0)))
  · show (n + 1) * 1 ≤ 32; omega
  · show (0 + 1) * _ ≤ _; decide
  · show (0 + 1) * _ ≤ _; decide
theorem ok2 (h : Cert.Pre_Kernel3 m) (i : grid0.Coords) : ∀ b, (cc0_transform_2 k0_off1_inb numel1_S1 (words m) i b + 1) * S1x1024x512.size b ≤ S32x1024x512.size b := by
  rw [tr2]
  have hw := word_lt m h i
  generalize (here (words m 0) i).toNat = n at hw ⊢
  refine Fin.cases ?_ (Fin.cases ?_ (Fin.cases ?_ (fun x => x.elim0)))
  · show (n + 1) * 1 ≤ 32; omega
  · show (0 + 1) * _ ≤ _; decide
  · show (0 + 1) * _ ≤ _; decide
theorem ok3 (h : Cert.Pre_Kernel3 m) (i : grid0.Coords) : ∀ b, (cc0_transform_3 k0_off1_inb numel1_S1 (words m) i b + 1) * S1x512x1024.size b ≤ S32x512x1024.size b := by
  rw [tr3]
  have hw := word_lt m h i
  generalize (here (words m 0) i).toNat = n at hw ⊢
  refine Fin.cases ?_ (Fin.cases ?_ (Fin.cases ?_ (fun x => x.elim0)))
  · show (n + 1) * 1 ≤ 32; omega
  · show (0 + 1) * _ ≤ _; decide
  · show (0 + 1) * _ ≤ _; decide
theorem ok (h : Cert.Pre_Kernel3 m) : ok0 (F := Bits) (words m) :=
  ⟨fun i => ⟨ok1 m h i, .inl rfl⟩, fun i => ⟨ok2 m h i, .inl rfl⟩, fun i => ⟨ok3 m h i, .inl rfl⟩⟩

abbrev adm (h : Cert.Pre_Kernel3 m) : (pcfg0 (F := Bits)).Adm := ⟨words m, ok m h⟩

theorem tabled (h : Cert.Pre_Kernel3 m) : Tabled (adm m h) m :=
  ⟨fun c => by rw [dev_eq c]; rfl, fun c => by rw [dev_eq c]; rfl⟩

/-- The call runs, faults nowhere, leaves its arguments as they were and every counter at zero. -/
theorem frame : Cert.quiescent_Kernel3 := fun m ρ h =>
  (θ_run defs _ _).mono (fun _ r => ⟨fun c => (r.1 c).2, r.2⟩) (run_all (adm m h) m ρ (tabled m h))

end Cert.Kernel3.Moe

end
-- ==== Proof.ExpertsValue.lean ====
/-
  One block of the experts' call over the reals: what the body computes from the rows' block and its expert's three
  weights, read at an index, and the reference's weights gathered block by block.
-/
module

public import proofs.«01_k».proof.Proof.ExpertsRun
public import proofs.«01_k».proof.Proof.Gen.Reference3Ideal.Read
public import Idealize.ShloMosaic.Lib.Pipeline.ValueKit

@[expose] public section

set_option maxRecDepth 16384

noncomputable section

open Idealize.ShloMosaic Idealize.ShloMosaic.TcCoe Idealize.SL.Sem

namespace Cert.Reference3Ideal.Moe

open Cert.Reference3Ideal Cert.Reference3Ideal.Read

/-- A gather of whole experts, first axis: block `t` gets the expert its word names, clamped into the thirty-two. -/
theorem gather_up {α : Type} (x : S32x1024x512.Idx → α) (w : IVec S290x1 32) (t : Fin 290) (k : Fin 1024) (f : Fin 512)
    (e : Fin 32) (he : e.val = min (w (ix2 t 0)).toInt.toNat 31) :
    Host.gather gather_S32x1024x512_S290x1_S290x1024x512_12_0_n_n_0_1_11024512 x w (ix3 t k f) = x (ix3 e k f) := by
  unfold Host.gather
  congr 1
  funext a
  refine Fin.ext ?_
  have hs : ∀ k', (gather_S32x1024x512_S290x1_S290x1024x512_12_0_n_n_0_1_11024512).siIdx (ix3 t k f) k'
      = (ix2 t 0 : S290x1.Idx) := by
    intro k'
    obtain ⟨k', hk⟩ := k'
    obtain rfl : k' = 0 := by
      have : k' < 1 := hk
      omega
    funext a
    refine Fin.ext ?_
    match a with
    | ⟨0, _⟩ => rfl
    | ⟨1, _⟩ => rfl
  match a with
  | ⟨0, _⟩ =>
    show GatherDims.start _ _ w _ + GatherDims.batchCoord _ _ _ + GatherDims.offCoord _ _ _ = e.val
    rw [GatherDims.batchCoord_eq_zero _ _ _ List.not_mem_nil,
      GatherDims.offCoord_eq_zero _ _ _ (fun h => ((GatherDims.mem_sKept _ _).mp h).1 (List.mem_singleton.mpr rfl))]
    unfold GatherDims.start
    split
    · rw [hs, he]
      rfl
    · next hh => exact absurd (show (0 : Fin 3) ∈ ([0] : List (Fin 3)) by decide) hh
  | ⟨1, _⟩ =>
    show GatherDims.start _ _ w _ + GatherDims.batchCoord _ _ _ + GatherDims.offCoord _ _ _ = k.val
    rw [GatherDims.batchCoord_eq_zero _ _ _ List.not_mem_nil]
    unfold GatherDims.start
    split
    · next hh => exact absurd hh (show (1 : Fin 3) ∉ ([0] : List (Fin 3)) by decide)
    · rw [Nat.zero_add]
      rfl
  | ⟨2, _⟩ =>
    show GatherDims.start _ _ w _ + GatherDims.batchCoord _ _ _ + GatherDims.offCoord _ _ _ = f.val
    rw [GatherDims.batchCoord_eq_zero _ _ _ List.not_mem_nil]
    unfold GatherDims.start
    split
    · next hh => exact absurd hh (show (2 : Fin 3) ∉ ([0] : List (Fin 3)) by decide)
    · rw [Nat.zero_add]
      rfl

/-- The same of the second weight's arrays. -/
theorem gather_down {α : Type} (x : S32x512x1024.Idx → α) (w : IVec S290x1 32) (t : Fin 290) (k : Fin 512) (f : Fin 1024)
    (e : Fin 32) (he : e.val = min (w (ix2 t 0)).toInt.toNat 31) :
    Host.gather gather_S32x512x1024_S290x1_S290x512x1024_12_0_n_n_0_1_15121024 x w (ix3 t k f) = x (ix3 e k f) := by
  unfold Host.gather
  congr 1
  funext a
  refine Fin.ext ?_
  have hs : ∀ k', (gather_S32x512x1024_S290x1_S290x512x1024_12_0_n_n_0_1_15121024).siIdx (ix3 t k f) k'
      = (ix2 t 0 : S290x1.Idx) := by
    intro k'
    obtain ⟨k', hk⟩ := k'
    obtain rfl : k' = 0 := by
      have : k' < 1 := hk
      omega
    funext a
    refine Fin.ext ?_
    match a with
    | ⟨0, _⟩ => rfl
    | ⟨1, _⟩ => rfl
  match a with
  | ⟨0, _⟩ =>
    show GatherDims.start _ _ w _ + GatherDims.batchCoord _ _ _ + GatherDims.offCoord _ _ _ = e.val
    rw [GatherDims.batchCoord_eq_zero _ _ _ List.not_mem_nil,
      GatherDims.offCoord_eq_zero _ _ _ (fun h => ((GatherDims.mem_sKept _ _).mp h).1 (List.mem_singleton.mpr rfl))]
    unfold GatherDims.start
    split
    · rw [hs, he]
      rfl
    · next hh => exact absurd (show (0 : Fin 3) ∈ ([0] : List (Fin 3)) by decide) hh
  | ⟨1, _⟩ =>
    show GatherDims.start _ _ w _ + GatherDims.batchCoord _ _ _ + GatherDims.offCoord _ _ _ = k.val
    rw [GatherDims.batchCoord_eq_zero _ _ _ List.not_mem_nil]
    unfold GatherDims.start
    split
    · next hh => exact absurd hh (show (1 : Fin 3) ∉ ([0] : List (Fin 3)) by decide)
    · rw [Nat.zero_add]
      rfl
  | ⟨2, _⟩ =>
    show GatherDims.start _ _ w _ + GatherDims.batchCoord _ _ _ + GatherDims.offCoord _ _ _ = f.val
    rw [GatherDims.batchCoord_eq_zero _ _ _ List.not_mem_nil]
    unfold GatherDims.start
    split
    · next hh => exact absurd hh (show (2 : Fin 3) ∉ ([0] : List (Fin 3)) by decide)
    · rw [Nat.zero_add]
      rfl

/-- A word below thirty-two, clamped as the gather clamps it. -/
theorem word_clamp (w : BitVec 32) (h : w.toNat < 32) : w.toNat = min w.toInt.toNat 31 := by
  rw [BitVec.toInt_eq_toNat_cond, if_pos (by omega)]
  omega

variable (x0 : (⟨S8x148480x128, .bf16⟩ : BufTy).Contents (Elt Ideal)) (x1 : (⟨S290, .i32⟩ : BufTy).Contents (Elt Ideal))
  (x2 : (⟨S1, .i32⟩ : BufTy).Contents (Elt Ideal)) (x3 x4 : (⟨S32x1024x512, .f32⟩ : BufTy).Contents (Elt Ideal))
  (x5 : (⟨S32x512x1024, .f32⟩ : BufTy).Contents (Elt Ideal))

theorem v3_at (t : Fin 290) (k : Fin 1024) (f : Fin 512) (e : Fin 32) (he : e.val = (x1 (ix1 t) : BitVec 32).toNat) :
    val_main_v3 (F := Ideal) x1 x3 (ix3 t k f) = x3 (ix3 e k f) := by
  refine gather_up x3 _ t k f e ?_
  pointwise [val_main_call0_v0]
  exact he.trans (word_clamp _ (he ▸ e.isLt))

theorem v5_at (t : Fin 290) (k : Fin 1024) (f : Fin 512) (e : Fin 32) (he : e.val = (x1 (ix1 t) : BitVec 32).toNat) :
    val_main_v5 (F := Ideal) x1 x4 (ix3 t k f) = x4 (ix3 e k f) := by
  refine gather_up x4 _ t k f e ?_
  pointwise [val_main_call1_v0]
  exact he.trans (word_clamp _ (he ▸ e.isLt))

theorem v9_at (t : Fin 290) (k : Fin 512) (f : Fin 1024) (e : Fin 32) (he : e.val = (x1 (ix1 t) : BitVec 32).toNat) :
    val_main_v9 (F := Ideal) x1 x5 (ix3 t k f) = x5 (ix3 e k f) := by
  refine gather_down x5 _ t k f e ?_
  pointwise [val_main_call3_v0]
  exact he.trans (word_clamp _ (he ▸ e.isLt))

/-- A row of block `t`, column `k`: chunk `k / 128`, lane `k % 128`. -/
def row (t : Fin 290) (r : Fin 512) (k : Fin 1024) : EReal :=
  x0 (ix3 (⟨k.val / 128, by omega⟩ : Fin 8) (⟨t.val * 512 + r.val, by omega⟩ : Fin 148480) (⟨k.val % 128, by omega⟩ : Fin 128))

theorem v10_at (t : Fin 290) (r : Fin 512) (d : Fin 1024) (e : Fin 32) (he : e.val = (x1 (ix1 t) : BitVec 32).toNat) :
    val_main_v10 (F := Ideal) x0 x1 x3 x4 x5 (ix3 t r d)
      = ∑ f : Fin 512, ((∑ k : Fin 1024, row x0 t r k * x3 (ix3 e k f))
            * Ideal.div 1 (1 + Ideal.exp (-∑ k : Fin 1024, row x0 t r k * x3 (ix3 e k f)))
          * ∑ k : Fin 1024, row x0 t r k * x4 (ix3 e k f)) * x5 (ix3 e f d) := by
  pointwise [val_main_v10, val_main_v8, val_main_v7, val_main_call2_v5, val_main_call2_v4, val_main_call2_v3, val_main_call2_v2, val_main_call2_v1,
    val_main_call2_v0, val_main_call2_cst, val_main_call2_cst_0, val_main_v6, val_main_v4, val_main_v2, val_main_v1, val_main_v0]
  simp only [v3_at x1 x3 t _ _ e he, v5_at x1 x4 t _ _ e he, v9_at x1 x5 t _ _ e he]
  rfl

theorem v19_at (k : Fin 8) (j : Fin 148480) (l : Fin 128) :
    val_main_v19 (F := Ideal) x0 x1 x2 x3 x4 x5 (ix3 k j l)
      = Scalar.select (IntOp.cmpi .slt (BitVec.ofNat 32 (j.val / 512)) (x2 (ix1 0)))
          (val_main_v10 (F := Ideal) x0 x1 x3 x4 x5 (ix3 (⟨j.val / 512, by omega⟩ : Fin 290) (⟨j.val % 512, by omega⟩ : Fin 512)
            (⟨k.val * 128 + l.val, by omega⟩ : Fin 1024))) (0 : EReal) := by
  have hz : (id (constant (F := Ideal) S_ .f32 0x00000000#32) ix0 : EReal) = 0 := by
    show (constant (F := Ideal) S_ .f32 0x00000000#32 ix0 : EReal) = 0
    pointwise
  pointwise [val_main_v19, val_main_v18, val_main_v17, val_main_v16, val_main_call4_v2, val_main_call4_v1, val_main_call4_v0, val_main_cst, val_main_v15, val_main_v14, val_main_v13, val_main_v12, val_main_v11]
  exact congrArg _ hz

end Cert.Reference3Ideal.Moe

namespace Cert.Kernel3Ideal.Moe

open Cert.Kernel3Ideal Cert.Kernel3Ideal.Gen

/-- The gated hidden rows at an index: the eight chunks are the columns of a row. -/
theorem hidden_at (x0 : S8x512x128.Idx → Elt Ideal .bf16) (w0 w1 : S1024x512.Idx → Elt Ideal .bf16) (r f : Fin 512) :
    hidden x0 w0 w1 (ix2 r f)
      = ((∑ k : Fin 1024, x0 (ix3 (⟨k.val / 128, by omega⟩ : Fin 8) r (⟨k.val % 128, by omega⟩ : Fin 128)) * w0 (ix2 k f))
          * Ideal.logistic (∑ k : Fin 1024, x0 (ix3 (⟨k.val / 128, by omega⟩ : Fin 8) r (⟨k.val % 128, by omega⟩ : Fin 128)) * w0 (ix2 k f)))
        * (∑ k : Fin 1024, x0 (ix3 (⟨k.val / 128, by omega⟩ : Fin 8) r (⟨k.val % 128, by omega⟩ : Fin 128)) * w1 (ix2 k f) : EReal) := by
  pointwise [hidden, k0_pay6, chunk]
  blk_point []

theorem pay7_at (h : FVec Ideal S512x512 .bf16) (w2 : S512x1024.Idx → Elt Ideal .bf16) (r : Fin 512) (d : Fin 1024) :
    k0_pay7 (F := Ideal) h w2 (ix2 r d) = ∑ f : Fin 512, h (ix2 r f) * w2 (ix2 f d) := by
  pointwise [k0_pay7]

/-- What a point in use leaves, at an index: chunk `k`'s lane `l` is column `128 k + l` of the product. -/
theorem use_at (x0 : S8x512x128.Idx → Elt Ideal .bf16) (w0 w1 : S1024x512.Idx → Elt Ideal .bf16)
    (w2 : S512x1024.Idx → Elt Ideal .bf16) (y : S8x512x128.Idx) (i : S512x1024.Idx)
    (hi0 : (i 0 : ℕ) = y 1) (hi1 : (i 1 : ℕ) = y 0 * 128 + y 2) :
    useOut x0 w0 w1 w2 y = k0_pay7 (F := Ideal) (hidden x0 w0 w1) w2 i := by
  refine (View.read_writes_apply_eq_canon _ _ y _ (use_cover x0 w0 w1 w2 y)).trans ?_
  unfold usePieces
  generalize hidden x0 w0 w1 = hh
  canon_tiles x h
  all_goals (open_payloads; pointwise; blk_ext)

theorem zero_at (y : S8x512x128.Idx) : zeroOut y = (0 : EReal) := by
  refine (View.read_writes_apply_eq_canon _ _ y _ (zero_cover y)).trans ?_
  unfold zeroPieces
  canon_tiles x h
  all_goals (open_payloads; pointwise [k0_pay5])

end Cert.Kernel3Ideal.Moe

end
-- ==== Proof.Experts.lean ====
/-
  The experts' call over the reals: every block of 512 rows through the gated unit of its own expert, blocks past the
  number in use at zero, is the reference's.
-/
module

public import proofs.«01_k».proof.Defs
public import proofs.«01_k».proof.Proof.ExpertsFrame
public import proofs.«01_k».proof.Proof.ExpertsFrameBits
public import proofs.«01_k».proof.Proof.ExpertsValue
public import proofs.«01_k».proof.Proof.Gen.Reference3Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel3Ideal.Moe

open Cert.Kernel3Ideal Cert.Kernel3Ideal.Gen
open Cert.Reference3Ideal.Read

variable (a : (pcfg0 (F := Ideal)).Adm) (m : (ℓ : Loc nD τ sig) → Buf (Elt Ideal) ℓ) (ρ : Dev nD → PrngReg)

/-- Where the rows' and the output's blocks sit at grid point `t`, and the point's own number. -/
theorem tr0 : ∀ t : Fin grid0.N, cc0_transform_0 (grid0.coords t) = ![0, t.val, 0] := by decide +kernel
theorem tr4 : ∀ t : Fin grid0.N, cc0_transform_4 (grid0.coords t) = ![0, t.val, 0] := by decide +kernel
theorem coord_val : ∀ t : Fin grid0.N, (grid0.coords t 0).val = t.val := by decide +kernel
theorem index0 (t : Fin (cfgA a).N) : ((cfgA a).win (0 : Fin 5)).index t = ![0, t.val, 0] := tr0 t
theorem index4 (t : Fin (cfgA a).N) : ((cfgA a).win (4 : Fin 5)).index t = ![0, t.val, 0] := tr4 t

/-- The output's block is written back at every point: the next point's is another. -/
theorem flush4 (t : Fin (cfgA a).N) : ((cfgA a).win (4 : Fin 5)).flush t = true := by
  unfold Pipeline.Window.flush
  by_cases h : t.val + 1 = (cfgA a).N
  · refine Bool.and_eq_true_iff.mpr ⟨rfl, ?_⟩
    rw [Bool.or_eq_true]
    exact Or.inl (decide_eq_true h)
  · have hh : ∃ h : t.val + 1 < (cfgA a).N, ((cfgA a).win (4 : Fin 5)).index ⟨t.val + 1, h⟩ ≠ ((cfgA a).win (4 : Fin 5)).index t :=
      ⟨lt_of_le_of_ne t.isLt h, fun e => by
        rw [index4, index4] at e
        have := congrFun e (1 : Fin 3)
        simp at this⟩
    refine Bool.and_eq_true_iff.mpr ⟨rfl, ?_⟩
    rw [Bool.or_eq_true]
    exact Or.inr (decide_eq_true hh)

/-- The written-back blocks are the whole array. -/
theorem covers4 : ((cfgA a).win (4 : Fin 5)).Covers := by
  refine ⟨fun b => (by decide : ∀ b : Fin 3, 0 < S8x512x128.size b) b, fun β => ?_⟩
  have h0 : (β (0 : Fin 3)).val < 1 := lt_of_lt_of_le (β (0 : Fin 3)).isLt (by decide : (8 + 8 - 1) / 8 ≤ 1)
  have h1 : (β (1 : Fin 3)).val < grid0.N := lt_of_lt_of_le (β (1 : Fin 3)).isLt (by decide : (148480 + 512 - 1) / 512 ≤ grid0.N)
  have h2 : (β (2 : Fin 3)).val < 1 := lt_of_lt_of_le (β (2 : Fin 3)).isLt (by decide : (128 + 128 - 1) / 128 ≤ 1)
  refine ⟨⟨(β (1 : Fin 3)).val, h1⟩, flush4 a _, fun b => ⟨?_, Or.inl rfl⟩⟩
  rw [index4]
  revert b
  refine Fin.cases ?_ (Fin.cases ?_ (Fin.cases ?_ (fun x => x.elim0)))
  · show 0 = (β (0 : Fin 3)).val; omega
  · rfl
  · show 0 = (β (2 : Fin 3)).val; omega

theorem iblk0_at (c : Dev nD) (t : Fin (cfgA a).N) (k : Fin 8) (r : Fin 512) (l : Fin 128) (j : Fin 148480)
    (hj : j.val = t.val * 512 + r.val) :
    (iblk a m ρ c (0 : Fin 5) t : S8x512x128.Idx → EReal) (ix3 k r l) = m ((c : Thread nD τ).loc main_arg0) (ix3 k j l) := by
  have h0 : (Pipeline.PCfg.win (pcfg0 (F := Ideal)) a (0 : Fin 5)).index t 0 = 0 := congrFun (index0 a t) 0
  have h1 : (Pipeline.PCfg.win (pcfg0 (F := Ideal)) a (0 : Fin 5)).index t 1 = t.val := congrFun (index0 a t) 1
  have h2 : (Pipeline.PCfg.win (pcfg0 (F := Ideal)) a (0 : Fin 5)).index t 2 = 0 := congrFun (index0 a t) 2
  blk_point [iblk]

theorem iblk1_at (c : Dev nD) (t : Fin (cfgA a).N) (k : Fin 1024) (f : Fin 512) (e : Fin 32)
    (he : e.val = (here (T0 a) (crd a t)).toNat) :
    (iblk a m ρ c (1 : Fin 5) t : S1x1024x512.Idx → EReal) (ix3 0 k f) = m ((c : Thread nD τ).loc main_arg3) (ix3 e k f) := by
  have h0 : (Pipeline.PCfg.win (pcfg0 (F := Ideal)) a (1 : Fin 5)).index t 0 = (here (T0 a) (crd a t)).toNat := congrFun (index1 a t) 0
  have h1 : (Pipeline.PCfg.win (pcfg0 (F := Ideal)) a (1 : Fin 5)).index t 1 = 0 := congrFun (index1 a t) 1
  have h2 : (Pipeline.PCfg.win (pcfg0 (F := Ideal)) a (1 : Fin 5)).index t 2 = 0 := congrFun (index1 a t) 2
  blk_point [iblk]

theorem iblk2_at (c : Dev nD) (t : Fin (cfgA a).N) (k : Fin 1024) (f : Fin 512) (e : Fin 32)
    (he : e.val = (here (T0 a) (crd a t)).toNat) :
    (iblk a m ρ c (2 : Fin 5) t : S1x1024x512.Idx → EReal) (ix3 0 k f) = m ((c : Thread nD τ).loc main_arg4) (ix3 e k f) := by
  have h0 : (Pipeline.PCfg.win (pcfg0 (F := Ideal)) a (2 : Fin 5)).index t 0 = (here (T0 a) (crd a t)).toNat := congrFun (index2 a t) 0
  have h1 : (Pipeline.PCfg.win (pcfg0 (F := Ideal)) a (2 : Fin 5)).index t 1 = 0 := congrFun (index2 a t) 1
  have h2 : (Pipeline.PCfg.win (pcfg0 (F := Ideal)) a (2 : Fin 5)).index t 2 = 0 := congrFun (index2 a t) 2
  blk_point [iblk]

theorem iblk3_at (c : Dev nD) (t : Fin (cfgA a).N) (k : Fin 512) (f : Fin 1024) (e : Fin 32)
    (he : e.val = (here (T0 a) (crd a t)).toNat) :
    (iblk a m ρ c (3 : Fin 5) t : S1x512x1024.Idx → EReal) (ix3 0 k f) = m ((c : Thread nD τ).loc main_arg5) (ix3 e k f) := by
  have h0 : (Pipeline.PCfg.win (pcfg0 (F := Ideal)) a (3 : Fin 5)).index t 0 = (here (T0 a) (crd a t)).toNat := congrFun (index3 a t) 0
  have h1 : (Pipeline.PCfg.win (pcfg0 (F := Ideal)) a (3 : Fin 5)).index t 1 = 0 := congrFun (index3 a t) 1
  have h2 : (Pipeline.PCfg.win (pcfg0 (F := Ideal)) a (3 : Fin 5)).index t 2 = 0 := congrFun (index3 a t) 2
  blk_point [iblk]

theorem off_val : ∀ t : Fin grid0.N, k0_off1 (grid0.coords t) 0 = t.val := by decide +kernel

/-- The word read at a point is the table's at the point's number. -/
theorem here_at (T : ETab) (t : Fin grid0.N) (t' : Fin 290) (h : t'.val = t.val) : here T (grid0.coords t) = T (ix1 t') := by
  show T _ = T _
  refine congrArg T (funext fun b => Fin.ext ?_)
  obtain rfl : b = (0 : Fin 1) := Subsingleton.elim (α := Fin 1) _ _
  show k0_off1 (grid0.coords t) 0 + 1 * 0 = t'.val
  rw [off_val, h]; rfl

theorem used_at (T : NTab) : used T = T (ix1 0) := by
  show T _ = T _
  refine congrArg T (funext fun b => Fin.ext ?_)
  obtain rfl : b = (0 : Fin 1) := Subsingleton.elim (α := Fin 1) _ _
  rfl

/-- The body's test at a point is the reference's at the block. -/
theorem cond_select {α : Type} (t : Fin grid0.N) (v : BitVec 32) (A B : α) :
    (if k0_cond2 (grid0.coords t) v = 1#1 then A else B) = Scalar.select (IntOp.cmpi .slt (BitVec.ofNat 32 t.val) v) A B := by
  unfold k0_cond2
  rw [coord_val]
  generalize BitVec.ofNat 32 t.val = x
  simp only [Scalar.cmpi, IntOp.cmpi, Scalar.extui, Scalar.select]
  have e : ∀ b : Bool, BitVec.ofBool (BitVec.setWidth 32 (BitVec.ofBool b) != 0#32) = 1#1 ↔ BitVec.ofBool b = 1 := by decide
  exact if_congr (e _) rfl rfl

variable {a m} in
/-- A point in use, at an index: the reference's gated unit of the point's expert. -/
theorem point (c : Dev nD) (t : Fin (cfgA a).N) (t' : Fin 290) (ht : t'.val = t.val) (r : Fin 512) (d : Fin 1024)
    (hp : Tabled a m) (hn : ∀ i, (here (T0 a) i).toNat < 32) :
    k0_pay7 (F := Ideal) (hidden (iblk a m ρ c (0 : Fin 5) t) (gate a m ρ c t) (up a m ρ c t)) (down a m ρ c t) (ix2 r d)
      = val_main_v10 (F := Ideal) (m ((c : Thread nD τ).loc main_arg0)) (m ((c : Thread nD τ).loc main_arg1))
          (m ((c : Thread nD τ).loc main_arg3)) (m ((c : Thread nD τ).loc main_arg4)) (m ((c : Thread nD τ).loc main_arg5)) (ix3 t' r d) := by
  have hw : here (T0 a) (crd a t) = (m ((c : Thread nD τ).loc main_arg1) : ETab) (ix1 t') := (here_at (T0 a) t t' ht).trans (congrFun (hp.1 c).symm _)
  have he : ((⟨(here (T0 a) (crd a t)).toNat, hn _⟩ : Fin 32)).val = ((m ((c : Thread nD τ).loc main_arg1) : ETab) (ix1 t') : BitVec 32).toNat :=
    congrArg BitVec.toNat hw
  rw [pay7_at, Cert.Reference3Ideal.Moe.v10_at _ _ _ _ _ t' r d ⟨(here (T0 a) (crd a t)).toNat, hn _⟩ he]
  refine Finset.sum_congr rfl fun f _ => ?_
  have hX : ∀ k : Fin 1024, (iblk a m ρ c (0 : Fin 5) t : S8x512x128.Idx → EReal) (ix3 (⟨k.val / 128, by omega⟩ : Fin 8) r (⟨k.val % 128, by omega⟩ : Fin 128))
      = Cert.Reference3Ideal.Moe.row (m ((c : Thread nD τ).loc main_arg0)) t' r k := fun k =>
    iblk0_at a m ρ c t _ r _ _ (by show t'.val * 512 + r.val = _; rw [ht])
  have hG : ∀ k : Fin 1024, (gate a m ρ c t (ix2 k f) : EReal) = m ((c : Thread nD τ).loc main_arg3) (ix3 (⟨(here (T0 a) (crd a t)).toNat, hn _⟩ : Fin 32) k f) := fun k => by
    rw [← iblk1_at a m ρ c t k f _ rfl]
    unfold gate
    pointwise [k0_pay1]
  have hU : ∀ k : Fin 1024, (up a m ρ c t (ix2 k f) : EReal) = m ((c : Thread nD τ).loc main_arg4) (ix3 (⟨(here (T0 a) (crd a t)).toNat, hn _⟩ : Fin 32) k f) := fun k => by
    rw [← iblk2_at a m ρ c t k f _ rfl]
    unfold up
    pointwise [k0_pay2]
  have hD : (down a m ρ c t (ix2 f d) : EReal) = m ((c : Thread nD τ).loc main_arg5) (ix3 (⟨(here (T0 a) (crd a t)).toNat, hn _⟩ : Fin 32) f d) := by
    rw [← iblk3_at a m ρ c t f d _ rfl]
    unfold down
    pointwise [k0_pay3]
  rw [hidden_at, hD]
  simp only [hX, hG, hU]
  rfl

variable {a m} in
/-- The result's array after the run is the reference's. -/
theorem final (c : Dev nD) (hp : Tabled a m) (hn : ∀ i, (here (T0 a) i).toNat < 32) : (dats a m ρ 0 c).arrAt (4 : Fin 5) (cfgA a).N
    = val_main_v19 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats a m ρ 0 c).arrAt_eq_of_covers (4 : Fin 5) _ (covers4 a) fun t _ y => ?_
  blk_simp
  rw [after4]
  have ht : t.val < 290 := t.isLt
  have hy0 : (y (0 : Fin 3)).val < 8 := (y (0 : Fin 3)).isLt
  have hy1 : (y (1 : Fin 3)).val < 512 := (y (1 : Fin 3)).isLt
  have hy2 : (y (2 : Fin 3)).val < 128 := (y (2 : Fin 3)).isLt
  have hE : ((((cfgA a).win (4 : Fin 5)).blk t).view.emb y : S8x148480x128.Idx)
      = ix3 (⟨(y (0 : Fin 3)).val, hy0⟩ : Fin 8) (⟨t.val * 512 + (y (1 : Fin 3)).val, by omega⟩ : Fin 148480) (⟨(y (2 : Fin 3)).val, hy2⟩ : Fin 128) := by
    have h0 : (Pipeline.PCfg.win (pcfg0 (F := Ideal)) a (4 : Fin 5)).index t 0 = 0 := congrFun (index4 a t) 0
    have h1 : (Pipeline.PCfg.win (pcfg0 (F := Ideal)) a (4 : Fin 5)).index t 1 = t.val := congrFun (index4 a t) 1
    have h2 : (Pipeline.PCfg.win (pcfg0 (F := Ideal)) a (4 : Fin 5)).index t 2 = 0 := congrFun (index4 a t) 2
    blk_ext
  refine Eq.trans ?_ (congrArg (val_main_v19 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) hE).symm
  have hb : (t.val * 512 + (y (1 : Fin 3)).val) / 512 = t.val := by omega
  have hr : (t.val * 512 + (y (1 : Fin 3)).val) % 512 = (y (1 : Fin 3)).val := by omega
  rw [Cert.Reference3Ideal.Moe.v19_at]
  have hT : (m ((c : Thread nD τ).loc main_arg2) : NTab) (ix1 0) = used (T1 a) := (congrFun (hp.2 c) _).trans (used_at (T1 a)).symm
  rw [hT]
  refine Eq.trans ?_ ((cond_select t (used (T1 a)) _ _).trans (congrArg (fun n => Scalar.select (IntOp.cmpi .slt (BitVec.ofNat 32 n) (used (T1 a)))
    (val_main_v10 (F := Ideal) (m ((c : Thread nD τ).loc main_arg0)) (m ((c : Thread nD τ).loc main_arg1)) (m ((c : Thread nD τ).loc main_arg3))
      (m ((c : Thread nD τ).loc main_arg4)) (m ((c : Thread nD τ).loc main_arg5))
      (ix3 (⟨(t.val * 512 + (y (1 : Fin 3)).val) / 512, by omega⟩ : Fin 290) (⟨(t.val * 512 + (y (1 : Fin 3)).val) % 512, by omega⟩ : Fin 512)
        (⟨(y (0 : Fin 3)).val * 128 + (y (2 : Fin 3)).val, by omega⟩ : Fin 1024))) (0 : EReal)) hb.symm))
  unfold blockOut
  by_cases hc : k0_cond2 (crd a t) (used (T1 a)) = 1#1
  · rw [if_pos hc]
    refine Eq.trans ?_ (if_pos hc).symm
    refine (use_at _ _ _ _ y (ix2 (⟨(t.val * 512 + (y (1 : Fin 3)).val) % 512, by omega⟩ : Fin 512)
      (⟨(y (0 : Fin 3)).val * 128 + (y (2 : Fin 3)).val, by omega⟩ : Fin 1024)) hr rfl).trans ?_
    exact point ρ c t _ hb _ _ hp hn
  · rw [if_neg hc]
    refine Eq.trans ?_ (if_neg hc).symm
    exact zero_at y

theorem run_blocks (h : Cert.Pre_Kernel3Ideal m) :
    θ_run (defs (F := Ideal)) (onTc (τ := τ) (main (F := Ideal))) ⟨m, fun _ => 0, ρ⟩ (fun r => ∀ c : Dev nD,
      r.2.mem ((c.tc : Thread nD τ).loc main_v0) = (dats (adm m h) m ρ 0 c).arrAt (4 : Fin 5) (cfgA (adm m h)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ r c => r.1 c) (run_all (adm m h) m ρ (tabled m h))

/-- The reference's run, its result read as the named stage. -/
theorem run_stage (m' : (ℓ : Loc Reference3Ideal.nD Reference3Ideal.τ Reference3Ideal.sig) → Buf (Elt Ideal) ℓ) (g' : Dev Reference3Ideal.nD → PrngReg) :
    θ_run (Reference3Ideal.defs (F := Ideal)) (onTc (τ := Reference3Ideal.τ) (Reference3Ideal.main (F := Ideal))) ⟨m', fun _ => 0, g'⟩
      (fun r => ∀ c : Dev Reference3Ideal.nD,
      r.2.mem ((c.tc : Thread Reference3Ideal.nD Reference3Ideal.τ).loc Reference3Ideal.main_v19)
        = val_main_v19 (F := Ideal) (m' ((c.tc : Thread Reference3Ideal.nD Reference3Ideal.τ).loc Reference3Ideal.main_arg0))
            (m' ((c.tc : Thread Reference3Ideal.nD Reference3Ideal.τ).loc Reference3Ideal.main_arg1))
            (m' ((c.tc : Thread Reference3Ideal.nD Reference3Ideal.τ).loc Reference3Ideal.main_arg2))
            (m' ((c.tc : Thread Reference3Ideal.nD Reference3Ideal.τ).loc Reference3Ideal.main_arg3))
            (m' ((c.tc : Thread Reference3Ideal.nD Reference3Ideal.τ).loc Reference3Ideal.main_arg4))
            (m' ((c.tc : Thread Reference3Ideal.nD Reference3Ideal.τ).loc Reference3Ideal.main_arg5))) :=
  (θ_run Reference3Ideal.defs _ _).mono (fun _ h c => (h c).1.trans (Cert.Reference3Ideal.Read.val_main_v19_eq _ _ _ _ _ _))
    (Cert.Reference3Ideal.Value.run m' g')

/-- Over the reals the experts' call computes the reference's gated units, whatever experts the blocks name. -/
theorem algebraic : Cert.algebraic_Kernel3Ideal_Reference3Ideal := by
  pair_intro
  case refine_1 => exact fun c => (dats (adm m hpre) m g 0 c).arrAt (4 : Fin 5) (cfgA (adm m hpre)).N
  · exact run_blocks m g hpre
  · refine θ_run_mono (θ_run_and (run_stage m' g') (Cert.Reference3Ideal.Value.run m' g')) fun r h c => ?_
    refine ⟨(h.1 c).trans ?_, (h.2 c).2⟩
    rw [(hagree c).1, (hagree c).2.1, (hagree c).2.2.1, (hagree c).2.2.2.1, (hagree c).2.2.2.2.1, (hagree c).2.2.2.2.2]
    exact (final (a := adm m hpre) g c (tabled m hpre) (word_lt m hpre)).symm

end Cert.Kernel3Ideal.Moe

end
-- ==== Proof.S5Host.lean ====
/-
  The host operands of the sampling recurrence (`Kernel5Ideal`) and the blocks the grid's two points read: the two expanded
  matrices hold each group's matrix on the diagonal and zero elsewhere, the other operands are transposed and flattened.
-/
module

public import proofs.«01_k».proof.Proof.Gen.Kernel5Ideal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel5Ideal.Rec

open Cert.Kernel5Ideal Cert.Kernel5Ideal.Gen

/-- An entry of the 8 by 8 identity as the host computes it. -/
theorem eye_at (a b : ℕ) (ha : a < 8) (hb : b < 8) :
    (FloatOps.uitofp (F := Ideal) FTy.f32 (IntOp.cmpi CmpIPredicate.eq (IntOp.addi (BitVec.ofNat 32 a) 0#32) (BitVec.ofNat 32 b)) : EReal)
      = if a = b then 1 else 0 := by
  have h : ∀ a b : Fin 8, IntOp.cmpi CmpIPredicate.eq (IntOp.addi (BitVec.ofNat 32 a.val) 0#32) (BitVec.ofNat 32 b.val)
      = if a.val = b.val then 1#1 else 0#1 := by decide +kernel
  rw [h ⟨a, ha⟩ ⟨b, hb⟩]
  show (FloatOps.uitofp (F := Ideal) FTy.f32 (if a = b then 1#1 else 0#1) : EReal) = _
  split
  · show (((1#1 : BitVec 1).toNat : ℝ) : EReal) = 1
    norm_num
  · show (((0#1 : BitVec 1).toNat : ℝ) : EReal) = 0
    norm_num

theorem diag_mul (p : Prop) [Decidable p] (x : EReal) : (if p then (1 : EReal) else 0) * x = if p then x else 0 := by
  split
  · exact one_mul x
  · exact zero_mul x

theorem diag_neg (p : Prop) [Decidable p] (x : EReal) : -(if p then x else 0) = if p then -x else 0 := by
  split
  · rfl
  · exact neg_zero

/-- A sum against a row that is zero outside the segment `a` of length `L` runs over that segment. -/
theorem seg_sum (N L a : ℕ) (hL : 0 < L) (h : L * a + L ≤ N) (f w : Fin N → EReal) :
    ∑ k : Fin N, f k * (if k.val / L = a then w k else 0)
      = ∑ q : Fin L, f ⟨L * a + q.val, by omega⟩ * w ⟨L * a + q.val, by omega⟩ := by
  have h1 : ∀ k : Fin N, f k * (if k.val / L = a then w k else 0) = if k.val / L = a then f k * w k else 0 := by
    intro k
    split
    · rfl
    · exact mul_zero _
  simp only [h1]
  rw [← Finset.sum_filter]
  symm
  refine Finset.sum_bij (fun q _ => (⟨L * a + q.val, by omega⟩ : Fin N)) ?_ ?_ ?_ ?_
  · intro q _
    rw [Finset.mem_filter]
    refine ⟨Finset.mem_univ _, ?_⟩
    show (L * a + q.val) / L = a
    rw [Nat.mul_add_div hL, Nat.div_eq_of_lt q.isLt, Nat.add_zero]
  · intro x _ y _ e
    have := Fin.mk.inj e
    exact Fin.ext (by omega)
  · intro k hk
    rw [Finset.mem_filter] at hk
    refine ⟨⟨k.val % L, Nat.mod_lt _ hL⟩, Finset.mem_univ _, Fin.ext ?_⟩
    show L * a + k.val % L = k.val
    rw [← hk.2]
    exact Nat.div_add_mod _ _
  · intro q _
    rfl

variable (m : (ℓ : Loc nD τ sig) → Buf (Elt Ideal) ℓ)

/-- The recurrence's arguments, read at an index. -/
abbrev aU (c : Dev nD) (b : Fin 128) (s : Fin 4) (e : Fin 512) : EReal := m ((c : Thread nD τ).loc main_arg0) (ix3 b s e)
abbrev aH (c : Dev nD) (b : Fin 128) (g : Fin 32) (p : Fin 64) : EReal := m ((c : Thread nD τ).loc main_arg1) (ix3 b g p)
abbrev aHi (c : Dev nD) (b : Fin 128) (g : Fin 32) (p : Fin 64) : EReal := m ((c : Thread nD τ).loc main_arg2) (ix3 b g p)
abbrev aA (c : Dev nD) (g : Fin 32) (p : Fin 64) : EReal := m ((c : Thread nD τ).loc main_arg3) (ix2 g p)
abbrev aAi (c : Dev nD) (g : Fin 32) (p : Fin 64) : EReal := m ((c : Thread nD τ).loc main_arg4) (ix2 g p)
abbrev aB (c : Dev nD) (g : Fin 32) (p : Fin 64) (q : Fin 16) : EReal := m ((c : Thread nD τ).loc main_arg5) (ix3 g p q)
abbrev aBi (c : Dev nD) (g : Fin 32) (p : Fin 64) (q : Fin 16) : EReal := m ((c : Thread nD τ).loc main_arg6) (ix3 g p q)
abbrev aC (c : Dev nD) (g : Fin 32) (q : Fin 16) (p : Fin 64) : EReal := m ((c : Thread nD τ).loc main_arg7) (ix3 g q p)
abbrev aCi (c : Dev nD) (g : Fin 32) (q : Fin 16) (p : Fin 64) : EReal := m ((c : Thread nD τ).loc main_arg8) (ix3 g q p)
abbrev aD (c : Dev nD) (g : Fin 32) (q : Fin 16) : EReal := m ((c : Thread nD τ).loc main_arg9) (ix2 g q)

theorem V23re (c : Dev nD) (kc : Fin 4) (k : Fin 128) (j : Fin 1024) (hj : j.val < 512) (R : EReal)
    (hR : (if k.val / 16 = j.val / 64 then aB m c ⟨kc.val * 8 + k.val / 16, by omega⟩ ⟨j.val % 64, by omega⟩ ⟨k.val % 16, by omega⟩ else 0 : EReal) = R) :
    (V m c main_v23 (ix3 kc k j) : EReal) = R := by
  unfold V
  simp only [hostOps0, List.flatten_cons, List.flatten_nil, List.cons_append, List.nil_append, List.append_nil]
  after_results
  simp -implicitDefEqProofs only [StableHlo.TRef.ofBuf, StableHlo.TRef.toBuf, cast_cast, cast_eq, id_eq]
  pointwise
  refine (dif_pos hj).trans ?_
  have e := eye_at (k.val / 16) (j.val / 64) (by omega) (by omega)
  simp only [e]
  exact (diag_mul _ _).trans hR

theorem V23im (c : Dev nD) (kc : Fin 4) (k : Fin 128) (j : Fin 1024) (hj : 512 ≤ j.val) (R : EReal)
    (hR : (if k.val / 16 = (j.val - 512) / 64 then aBi m c ⟨kc.val * 8 + k.val / 16, by omega⟩ ⟨(j.val - 512) % 64, by omega⟩ ⟨k.val % 16, by omega⟩ else 0 : EReal) = R) :
    (V m c main_v23 (ix3 kc k j) : EReal) = R := by
  unfold V
  simp only [hostOps0, List.flatten_cons, List.flatten_nil, List.cons_append, List.nil_append, List.append_nil]
  after_results
  simp -implicitDefEqProofs only [StableHlo.TRef.ofBuf, StableHlo.TRef.toBuf, cast_cast, cast_eq, id_eq]
  pointwise
  refine (dif_neg (by omega)).trans ?_
  have e := eye_at (k.val / 16) ((j.val - 512) / 64) (by omega) (by omega)
  simp only [e]
  exact (diag_mul _ _).trans hR

theorem V44re (c : Dev nD) (kc : Fin 4) (k : Fin 1024) (j : Fin 128) (hk : k.val < 512) (R : EReal)
    (hR : (if k.val / 64 = j.val / 16 then aC m c ⟨kc.val * 8 + j.val / 16, by omega⟩ ⟨j.val % 16, by omega⟩ ⟨k.val % 64, by omega⟩ else 0 : EReal) = R) :
    (V m c main_v44 (ix3 kc k j) : EReal) = R := by
  unfold V
  simp only [hostOps0, List.flatten_cons, List.flatten_nil, List.cons_append, List.nil_append, List.append_nil]
  after_results
  simp -implicitDefEqProofs only [StableHlo.TRef.ofBuf, StableHlo.TRef.toBuf, cast_cast, cast_eq, id_eq]
  pointwise
  refine (dif_pos hk).trans ?_
  have e := eye_at (j.val / 16) (k.val / 64) (by omega) (by omega)
  simp only [e]
  exact (diag_mul _ _).trans ((if_congr eq_comm rfl rfl).trans hR)

theorem V44im (c : Dev nD) (kc : Fin 4) (k : Fin 1024) (j : Fin 128) (hk : 512 ≤ k.val) (R : EReal)
    (hR : (if (k.val - 512) / 64 = j.val / 16 then -aCi m c ⟨kc.val * 8 + j.val / 16, by omega⟩ ⟨j.val % 16, by omega⟩ ⟨(k.val - 512) % 64, by omega⟩ else 0 : EReal) = R) :
    (V m c main_v44 (ix3 kc k j) : EReal) = R := by
  unfold V
  simp only [hostOps0, List.flatten_cons, List.flatten_nil, List.cons_append, List.nil_append, List.append_nil]
  after_results
  simp -implicitDefEqProofs only [StableHlo.TRef.ofBuf, StableHlo.TRef.toBuf, cast_cast, cast_eq, id_eq]
  pointwise
  refine (dif_neg (by omega)).trans ?_
  have e := eye_at (j.val / 16) ((k.val - 512) / 64) (by omega) (by omega)
  simp only [e]
  exact (congrArg (fun y : EReal => -y) (diag_mul _ _)).trans ((diag_neg _ _).trans ((if_congr eq_comm rfl rfl).trans hR))

/-- Where each window's block sits at grid point `t`. -/
theorem idx : ∀ t : Fin cfg0.N, win0_0.index t = ![0, t.val, 0] ∧ win0_1.index t = ![t.val, 0]
    ∧ win0_2.index t = ![t.val, 0] ∧ win0_3.index t = ![0, 0] ∧ win0_4.index t = ![0, 0]
    ∧ win0_5.index t = ![0, 0, 0] ∧ win0_6.index t = ![0, 0, 0]
    ∧ win0_7.index t = ![0, 0] ∧ win0_8.index t = ![0, 0] ∧ win0_9.index t = ![0, 0] ∧ win0_10.index t = ![0, 0]
    ∧ win0_11.index t = ![0, t.val, 0] ∧ win0_12.index t = ![t.val, 0] ∧ win0_13.index t = ![t.val, 0] :=
  (by decide +kernel : ∀ t : Fin grid0.N, _)

/-- A group's input through the expanded matrix's real half. -/
theorem drive_re (c : Dev nD) (kc : Fin 4) (j : Fin 512) (g : Fin 32) (p : Fin 64) (f : Fin 512 → EReal)
    (hn : 512 * kc.val + j.val = 64 * g.val + p.val) :
    ∑ k : Fin 128, f ⟨128 * kc.val + k.val, by omega⟩ * (V m c main_v23 (ix3 kc k ⟨j.val, by omega⟩) : EReal)
      = ∑ q : Fin 16, f ⟨16 * g.val + q.val, by omega⟩ * aB m c g p q := by
  simp only [fun k => V23re m c kc k ⟨j.val, by omega⟩ j.isLt]
  refine (seg_sum 128 16 (j.val / 64) (by omega) (by omega) (fun k => f ⟨128 * kc.val + k.val, by omega⟩) _).trans ?_
  refine Finset.sum_congr rfl fun q _ => ?_
  congr 1
  · exact congrArg f (Fin.ext (by show 128 * kc.val + (16 * (j.val / 64) + q.val) = 16 * g.val + q.val; omega))
  · congr 1 <;> exact Fin.ext (by dsimp only; omega)

theorem drive_im (c : Dev nD) (kc : Fin 4) (j : Fin 512) (g : Fin 32) (p : Fin 64) (f : Fin 512 → EReal)
    (hn : 512 * kc.val + j.val = 64 * g.val + p.val) :
    ∑ k : Fin 128, f ⟨128 * kc.val + k.val, by omega⟩ * (V m c main_v23 (ix3 kc k ⟨512 + j.val, by omega⟩) : EReal)
      = ∑ q : Fin 16, f ⟨16 * g.val + q.val, by omega⟩ * aBi m c g p q := by
  simp only [fun k => V23im m c kc k ⟨512 + j.val, by omega⟩ (by show 512 ≤ 512 + j.val; omega) _ rfl, Nat.add_sub_cancel_left]
  refine (seg_sum 128 16 (j.val / 64) (by omega) (by omega) (fun k => f ⟨128 * kc.val + k.val, by omega⟩) _).trans ?_
  refine Finset.sum_congr rfl fun q _ => ?_
  congr 1
  · exact congrArg f (Fin.ext (by show 128 * kc.val + (16 * (j.val / 64) + q.val) = 16 * g.val + q.val; omega))
  · congr 1 <;> exact Fin.ext (by dsimp only; omega)

/-- The state's two halves through the second expanded matrix: the group's 64 places each, the imaginary ones negated. -/
theorem read_out (c : Dev nD) (kc : Fin 4) (j : Fin 128) (g : Fin 32) (q : Fin 16) (f fi : Fin 2048 → EReal) (x : Fin 1024 → EReal)
    (hn : 128 * kc.val + j.val = 16 * g.val + q.val)
    (hx : ∀ k : Fin 512, x ⟨k.val, by omega⟩ = f ⟨512 * kc.val + k.val, by omega⟩)
    (hxi : ∀ k : Fin 512, x ⟨512 + k.val, by omega⟩ = fi ⟨512 * kc.val + k.val, by omega⟩) :
    ∑ k : Fin 1024, x k * (V m c main_v44 (ix3 kc k j) : EReal)
      = ∑ p : Fin 64, f ⟨64 * g.val + p.val, by omega⟩ * aC m c g q p
        + ∑ p : Fin 64, fi ⟨64 * g.val + p.val, by omega⟩ * -aCi m c g q p := by
  refine (Fin.sum_univ_add (a := 512) (b := 512) fun k : Fin 1024 => x k * (V m c main_v44 (ix3 kc k j) : EReal)).trans ?_
  congr 1
  · have e : ∀ k : Fin 512, x (Fin.castAdd 512 k) * (V m c main_v44 (ix3 kc (Fin.castAdd 512 k) j) : EReal)
        = f ⟨512 * kc.val + k.val, by omega⟩ * (if k.val / 64 = j.val / 16 then aC m c ⟨kc.val * 8 + j.val / 16, by omega⟩ ⟨j.val % 16, by omega⟩ ⟨k.val % 64, by omega⟩ else 0) := by
      intro k
      exact congrArg₂ (· * ·) (hx k) (V44re m c kc (Fin.castAdd 512 k) j k.isLt _ rfl)
    refine (Finset.sum_congr rfl fun k _ => e k).trans ?_
    refine (seg_sum 512 64 (j.val / 16) (by omega) (by omega) (fun k => f ⟨512 * kc.val + k.val, by omega⟩) _).trans ?_
    refine Finset.sum_congr rfl fun p _ => ?_
    congr 1
    · exact congrArg f (Fin.ext (by show 512 * kc.val + (64 * (j.val / 16) + p.val) = 64 * g.val + p.val; omega))
    · congr 1 <;> exact Fin.ext (by dsimp only; omega)
  · have e : ∀ k : Fin 512, x (Fin.natAdd 512 k) * (V m c main_v44 (ix3 kc (Fin.natAdd 512 k) j) : EReal)
        = fi ⟨512 * kc.val + k.val, by omega⟩ * (if k.val / 64 = j.val / 16 then -aCi m c ⟨kc.val * 8 + j.val / 16, by omega⟩ ⟨j.val % 16, by omega⟩ ⟨k.val % 64, by omega⟩ else 0) := by
      intro k
      refine congrArg₂ (· * ·) (hxi k) ((V44im m c kc (Fin.natAdd 512 k) j (by show 512 ≤ 512 + k.val; omega) _ rfl).trans ?_)
      simp only [Fin.val_natAdd, Nat.add_sub_cancel_left]
    refine (Finset.sum_congr rfl fun k _ => e k).trans ?_
    refine (seg_sum 512 64 (j.val / 16) (by omega) (by omega) (fun k => fi ⟨512 * kc.val + k.val, by omega⟩) _).trans ?_
    refine Finset.sum_congr rfl fun p _ => ?_
    congr 1
    · exact congrArg fi (Fin.ext (by show 512 * kc.val + (64 * (j.val / 16) + p.val) = 64 * g.val + p.val; omega))
    · congr 2 <;> exact Fin.ext (by dsimp only; omega)

end Cert.Kernel5Ideal.Rec

end
-- ==== Proof.S5Blk.lean ====
/-
  The blocks the two points of the sampling recurrence's grid read, as the arguments' entries.
-/
module

public import proofs.«01_k».proof.Proof.S5Host

@[expose] public section

set_option maxRecDepth 16384

noncomputable section

open Idealize.ShloMosaic Idealize.ShloMosaic.TcCoe Idealize.SL.Sem
open Idealize.ShloMosaic.Pipeline (Dat)

namespace Cert.Kernel5Ideal.Rec

open Cert.Kernel5Ideal Cert.Kernel5Ideal.Gen

variable (m : (ℓ : Loc nD τ sig) → Buf (Elt Ideal) ℓ)

theorem tlt (t : Fin cfg0.N) : t.val < 2 := t.isLt

theorem row128 (t : Fin cfg0.N) (r : Fin 64) : 64 * t.val + r.val < 128 := by have := tlt t; omega

theorem row64 (n : Fin 2048) : n.val / 64 < 32 := by omega

theorem col64 (n : Fin 2048) : n.val % 64 < 64 := by omega

theorem row16 (n : Fin 512) : n.val / 16 < 32 := by omega

theorem col16 (n : Fin 512) : n.val % 16 < 16 := by omega

set_option maxHeartbeats 1000000 in
theorem blk0 (c : Dev nD) (t : Fin cfg0.N) (s : Fin 4) (r : Fin 64) (e : Fin 512) (b : Fin 128) (hb : b.val = 64 * t.val + r.val) :
    (iblk m c 0 t (ix3 s r e) : EReal) = aU m c b s e := by
  have hb' : b = ⟨64 * t.val + r.val, row128 t r⟩ := Fin.ext hb
  clear hb
  subst hb'
  blk_point [iblk, V, idx t]

set_option maxHeartbeats 1000000 in
theorem blk1 (c : Dev nD) (t : Fin cfg0.N) (r : Fin 64) (n : Fin 2048) (b : Fin 128) (g : Fin 32) (p : Fin 64)
    (hb : b.val = 64 * t.val + r.val) (hn : n.val = 64 * g.val + p.val) :
    (iblk m c 1 t (ix2 r n) : EReal) = aH m c b g p := by
  have hb' : b = ⟨64 * t.val + r.val, row128 t r⟩ := Fin.ext hb
  clear hb
  subst hb'
  have hg : g = ⟨n.val / 64, row64 n⟩ := Fin.ext (by show g.val = n.val / 64; omega)
  have hp : p = ⟨n.val % 64, col64 n⟩ := Fin.ext (by show p.val = n.val % 64; omega)
  clear hn
  subst hg hp
  blk_point [iblk, V, idx t]

set_option maxHeartbeats 1000000 in
theorem blk2 (c : Dev nD) (t : Fin cfg0.N) (r : Fin 64) (n : Fin 2048) (b : Fin 128) (g : Fin 32) (p : Fin 64)
    (hb : b.val = 64 * t.val + r.val) (hn : n.val = 64 * g.val + p.val) :
    (iblk m c 2 t (ix2 r n) : EReal) = aHi m c b g p := by
  have hb' : b = ⟨64 * t.val + r.val, row128 t r⟩ := Fin.ext hb
  clear hb
  subst hb'
  have hg : g = ⟨n.val / 64, row64 n⟩ := Fin.ext (by show g.val = n.val / 64; omega)
  have hp : p = ⟨n.val % 64, col64 n⟩ := Fin.ext (by show p.val = n.val % 64; omega)
  clear hn
  subst hg hp
  blk_point [iblk, V, idx t]

theorem blk3 (c : Dev nD) (t : Fin cfg0.N) (n : Fin 2048) (g : Fin 32) (p : Fin 64) (hn : n.val = 64 * g.val + p.val) :
    (iblk m c 3 t (ix2 0 n) : EReal) = aA m c g p := by
  have hg : g = ⟨n.val / 64, row64 n⟩ := Fin.ext (by show g.val = n.val / 64; omega)
  have hp : p = ⟨n.val % 64, col64 n⟩ := Fin.ext (by show p.val = n.val % 64; omega)
  clear hn
  subst hg hp
  blk_point [iblk, V, idx t]

theorem blk4 (c : Dev nD) (t : Fin cfg0.N) (n : Fin 2048) (g : Fin 32) (p : Fin 64) (hn : n.val = 64 * g.val + p.val) :
    (iblk m c 4 t (ix2 0 n) : EReal) = aAi m c g p := by
  have hg : g = ⟨n.val / 64, row64 n⟩ := Fin.ext (by show g.val = n.val / 64; omega)
  have hp : p = ⟨n.val % 64, col64 n⟩ := Fin.ext (by show p.val = n.val % 64; omega)
  clear hn
  subst hg hp
  blk_point [iblk, V, idx t]

theorem blk5 (c : Dev nD) (t : Fin cfg0.N) (kc : Fin 4) (k : Fin 128) (j : Fin 1024) :
    (iblk m c 5 t (ix3 kc k j) : EReal) = V m c main_v23 (ix3 kc k j) := by
  blk_point [iblk, idx t]

theorem blk6 (c : Dev nD) (t : Fin cfg0.N) (kc : Fin 4) (k : Fin 1024) (j : Fin 128) :
    (iblk m c 6 t (ix3 kc k j) : EReal) = V m c main_v44 (ix3 kc k j) := by
  blk_point [iblk, idx t]

theorem blk7 (c : Dev nD) (t : Fin cfg0.N) (e : Fin 512) (g : Fin 32) (q : Fin 16) (he : e.val = 16 * g.val + q.val) :
    (iblk m c 7 t (ix2 0 e) : EReal) = aD m c g q := by
  have hg : g = ⟨e.val / 16, row16 e⟩ := Fin.ext (by show g.val = e.val / 16; omega)
  have hq : q = ⟨e.val % 16, col16 e⟩ := Fin.ext (by show q.val = e.val % 16; omega)
  clear he
  subst hg hq
  blk_point [iblk, V, idx t]

theorem blk8 (c : Dev nD) (t : Fin cfg0.N) (k e : Fin 512) :
    (iblk m c 8 t (ix2 k e) : EReal) = m ((c : Thread nD τ).loc main_arg10) (ix2 k e) := by
  blk_point [iblk, V, idx t]

theorem blk9 (c : Dev nD) (t : Fin cfg0.N) (e : Fin 512) :
    (iblk m c 9 t (ix2 0 e) : EReal) = m ((c : Thread nD τ).loc main_arg11) (ix1 e) := by
  blk_point [iblk, V, idx t]

theorem blk10 (c : Dev nD) (t : Fin cfg0.N) (e : Fin 512) :
    (iblk m c 10 t (ix2 0 e) : EReal) = m ((c : Thread nD τ).loc main_arg12) (ix1 e) := by
  blk_point [iblk, V, idx t]

end Cert.Kernel5Ideal.Rec

end
-- ==== Proof.S5Step.lean ====
/-
  One step of the sampling recurrence, at an entry.
-/
module

public import proofs.«01_k».proof.Proof.Gen.Kernel5Ideal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel5Ideal.Rec

open Cert.Kernel5Ideal Cert.Kernel5Ideal.Gen

variable (x0 : Vec Ideal S4x64x512 .bf16) (x1 x2 : Vec Ideal S64x2048 .f32) (x3 x4 : Vec Ideal S1x2048 .f32)
  (x5 : Vec Ideal S4x128x1024 .bf16) (x6 : Vec Ideal S4x1024x128 .bf16) (x7 : Vec Ideal S1x512 .f32)
  (x8 : Vec Ideal S512x512 .bf16) (x9 x10 : Vec Ideal S1x512 .f32)

/-- The next state's real half, from the step's input rows. -/
abbrev nre (hr hi : FVec Ideal S64x2048 .f32) (u : Vec Ideal S1x64x512 .bf16) : FVec Ideal S64x2048 .f32 :=
  k0_pay37 (k0_pay3 (View.ld x3 r0_1)) (k0_pay4 (View.ld x4 r0_1)) hr hi u (View.ld x5 r0_3) (View.ld x5 r0_4) (View.ld x5 r0_5) (View.ld x5 r0_6)

/-- The next state's imaginary half. -/
abbrev nim (hr hi : FVec Ideal S64x2048 .f32) (u : Vec Ideal S1x64x512 .bf16) : FVec Ideal S64x2048 .f32 :=
  k0_pay38 (k0_pay3 (View.ld x3 r0_1)) (k0_pay4 (View.ld x4 r0_1)) hr hi u (View.ld x5 r0_3) (View.ld x5 r0_4) (View.ld x5 r0_5) (View.ld x5 r0_6)

theorem step66 : k0_pay66 x0 x1 x2 x3 x4 x5 x6 x7 x8 x9 x10
    = nre x3 x4 x5 (k0_pay57 x0 x1 x2 x3 x4 x5 x6 x7 x8 x9 x10) (k0_pay58 x0 x1 x2 x3 x4 x5 x6 x7 x8 x9 x10) (View.ld x0 r0_2) := rfl

theorem step67 : k0_pay67 x0 x1 x2 x3 x4 x5 x6 x7 x8 x9 x10
    = nim x3 x4 x5 (k0_pay57 x0 x1 x2 x3 x4 x5 x6 x7 x8 x9 x10) (k0_pay58 x0 x1 x2 x3 x4 x5 x6 x7 x8 x9 x10) (View.ld x0 r0_2) := rfl

theorem step71 : k0_pay71 x0 x1 x2 x3 x4 x5 x6 x7 x8 x9 x10
    = nre x3 x4 x5 (k0_pay66 x0 x1 x2 x3 x4 x5 x6 x7 x8 x9 x10) (k0_pay67 x0 x1 x2 x3 x4 x5 x6 x7 x8 x9 x10) (View.ld x0 r0_13) := rfl

theorem step72 : k0_pay72 x0 x1 x2 x3 x4 x5 x6 x7 x8 x9 x10
    = nim x3 x4 x5 (k0_pay66 x0 x1 x2 x3 x4 x5 x6 x7 x8 x9 x10) (k0_pay67 x0 x1 x2 x3 x4 x5 x6 x7 x8 x9 x10) (View.ld x0 r0_13) := rfl

theorem step74 : k0_pay74 x0 x1 x2 x3 x4 x5 x6 x7 x8 x9 x10
    = nre x3 x4 x5 (k0_pay71 x0 x1 x2 x3 x4 x5 x6 x7 x8 x9 x10) (k0_pay72 x0 x1 x2 x3 x4 x5 x6 x7 x8 x9 x10) (View.ld x0 r0_14) := rfl

theorem step75 : k0_pay75 x0 x1 x2 x3 x4 x5 x6 x7 x8 x9 x10
    = nim x3 x4 x5 (k0_pay71 x0 x1 x2 x3 x4 x5 x6 x7 x8 x9 x10) (k0_pay72 x0 x1 x2 x3 x4 x5 x6 x7 x8 x9 x10) (View.ld x0 r0_14) := rfl

theorem step80 : k0_pay80 x0 x1 x2 x3 x4 x5 x6 x7 x8 x9 x10
    = nre x3 x4 x5 (k0_pay74 x0 x1 x2 x3 x4 x5 x6 x7 x8 x9 x10) (k0_pay75 x0 x1 x2 x3 x4 x5 x6 x7 x8 x9 x10) (View.ld x0 r0_15) := rfl

theorem step81 : k0_pay81 x0 x1 x2 x3 x4 x5 x6 x7 x8 x9 x10
    = nim x3 x4 x5 (k0_pay74 x0 x1 x2 x3 x4 x5 x6 x7 x8 x9 x10) (k0_pay75 x0 x1 x2 x3 x4 x5 x6 x7 x8 x9 x10) (View.ld x0 r0_15) := rfl

variable (hr hi : FVec Ideal S64x2048 .f32) (u : Vec Ideal S1x64x512 .bf16)

theorem nre_at (r : Fin 64) (kc : Fin 4) (j : Fin 512) (n : Fin 2048) (hn : n.val = 512 * kc.val + j.val) :
    nre x3 x4 x5 hr hi u (ix2 r n) = x3 (ix2 0 n) * hr (ix2 r n) - x4 (ix2 0 n) * hi (ix2 r n)
      + ∑ k : Fin 128, u (ix3 0 r ⟨128 * kc.val + k.val, by omega⟩) * x5 (ix3 kc k ⟨j.val, by omega⟩) := by
  obtain rfl : n = ⟨512 * kc.val + j.val, by clear hn; omega⟩ := Fin.ext hn
  pointwise [nre, k0_pay37, k0_pay33, k0_pay34, k0_pay35, k0_pay36, k0_pay32, k0_pay3, k0_pay4]
  congr 1
  have hj := j.isLt
  obtain rfl | rfl | rfl | rfl : kc = 0 ∨ kc = 1 ∨ kc = 2 ∨ kc = 3 := by omega
  · refine (dif_pos (by show 512 * 0 + j.val < 512; omega)).trans (Finset.sum_congr rfl fun k _ => congrArg₂ (· * ·) ?_ ?_)
    · exact congrArg (fun e => u (ix3 0 r e)) (Fin.ext (by show k.val = 128 * 0 + k.val; omega))
    · exact congrArg (fun e => x5 (ix3 0 k e)) (Fin.ext (by show 512 * 0 + j.val = j.val; omega))
  · refine (dif_neg (by show ¬ 512 * 1 + j.val < 512; omega)).trans ((dif_pos (by show 512 * 1 + j.val - 512 < 512; omega)).trans (Finset.sum_congr rfl fun k _ => congrArg₂ (· * ·) ?_ ?_))
    · exact congrArg (fun e => u (ix3 0 r e)) (Fin.ext (by show 128 + k.val = 128 * 1 + k.val; omega))
    · exact congrArg (fun e => x5 (ix3 1 k e)) (Fin.ext (by show 512 * 1 + j.val - 512 = j.val; omega))
  · refine (dif_neg (by show ¬ 512 * 2 + j.val < 512; omega)).trans ((dif_neg (by show ¬ 512 * 2 + j.val - 512 < 512; omega)).trans ((dif_pos (by show 512 * 2 + j.val - 512 - 512 < 512; omega)).trans (Finset.sum_congr rfl fun k _ => congrArg₂ (· * ·) ?_ ?_)))
    · exact congrArg (fun e => u (ix3 0 r e)) (Fin.ext (by show 256 + k.val = 128 * 2 + k.val; omega))
    · exact congrArg (fun e => x5 (ix3 2 k e)) (Fin.ext (by show 512 * 2 + j.val - 512 - 512 = j.val; omega))
  · refine (dif_neg (by show ¬ 512 * 3 + j.val < 512; omega)).trans ((dif_neg (by show ¬ 512 * 3 + j.val - 512 < 512; omega)).trans ((dif_neg (by show ¬ 512 * 3 + j.val - 512 - 512 < 512; omega)).trans (Finset.sum_congr rfl fun k _ => congrArg₂ (· * ·) ?_ ?_)))
    · exact congrArg (fun e => u (ix3 0 r e)) (Fin.ext (by show 384 + k.val = 128 * 3 + k.val; omega))
    · exact congrArg (fun e => x5 (ix3 3 k e)) (Fin.ext (by show 512 * 3 + j.val - 512 - 512 - 512 = j.val; omega))

theorem nim_at (r : Fin 64) (kc : Fin 4) (j : Fin 512) (n : Fin 2048) (hn : n.val = 512 * kc.val + j.val) :
    nim x3 x4 x5 hr hi u (ix2 r n) = x3 (ix2 0 n) * hi (ix2 r n) + x4 (ix2 0 n) * hr (ix2 r n)
      + ∑ k : Fin 128, u (ix3 0 r ⟨128 * kc.val + k.val, by omega⟩) * x5 (ix3 kc k ⟨512 + j.val, by omega⟩) := by
  obtain rfl : n = ⟨512 * kc.val + j.val, by clear hn; omega⟩ := Fin.ext hn
  pointwise [nim, k0_pay38, k0_pay33, k0_pay34, k0_pay35, k0_pay36, k0_pay32, k0_pay3, k0_pay4]
  congr 1
  have hj := j.isLt
  obtain rfl | rfl | rfl | rfl : kc = 0 ∨ kc = 1 ∨ kc = 2 ∨ kc = 3 := by omega
  · refine (dif_pos (by show 512 * 0 + j.val < 512; omega)).trans (Finset.sum_congr rfl fun k _ => congrArg₂ (· * ·) ?_ ?_)
    · exact congrArg (fun e => u (ix3 0 r e)) (Fin.ext (by show k.val = 128 * 0 + k.val; omega))
    · exact congrArg (fun e => x5 (ix3 0 k e)) (Fin.ext (by show 512 + (512 * 0 + j.val) = 512 + j.val; omega))
  · refine (dif_neg (by show ¬ 512 * 1 + j.val < 512; omega)).trans ((dif_pos (by show 512 * 1 + j.val - 512 < 512; omega)).trans (Finset.sum_congr rfl fun k _ => congrArg₂ (· * ·) ?_ ?_))
    · exact congrArg (fun e => u (ix3 0 r e)) (Fin.ext (by show 128 + k.val = 128 * 1 + k.val; omega))
    · exact congrArg (fun e => x5 (ix3 1 k e)) (Fin.ext (by show 512 + (512 * 1 + j.val - 512) = 512 + j.val; omega))
  · refine (dif_neg (by show ¬ 512 * 2 + j.val < 512; omega)).trans ((dif_neg (by show ¬ 512 * 2 + j.val - 512 < 512; omega)).trans ((dif_pos (by show 512 * 2 + j.val - 512 - 512 < 512; omega)).trans (Finset.sum_congr rfl fun k _ => congrArg₂ (· * ·) ?_ ?_)))
    · exact congrArg (fun e => u (ix3 0 r e)) (Fin.ext (by show 256 + k.val = 128 * 2 + k.val; omega))
    · exact congrArg (fun e => x5 (ix3 2 k e)) (Fin.ext (by show 512 + (512 * 2 + j.val - 512 - 512) = 512 + j.val; omega))
  · refine (dif_neg (by show ¬ 512 * 3 + j.val < 512; omega)).trans ((dif_neg (by show ¬ 512 * 3 + j.val - 512 < 512; omega)).trans ((dif_neg (by show ¬ 512 * 3 + j.val - 512 - 512 < 512; omega)).trans (Finset.sum_congr rfl fun k _ => congrArg₂ (· * ·) ?_ ?_)))
    · exact congrArg (fun e => u (ix3 0 r e)) (Fin.ext (by show 384 + k.val = 128 * 3 + k.val; omega))
    · exact congrArg (fun e => x5 (ix3 3 k e)) (Fin.ext (by show 512 + (512 * 3 + j.val - 512 - 512 - 512) = 512 + j.val; omega))

end Cert.Kernel5Ideal.Rec

end
-- ==== Proof.S5Ref.lean ====
/-
  The sampling recurrence's reference (`Reference5Ideal`) at an entry: four steps of the two halves of the state, and each
  step's outputs.
-/
module

public import proofs.«01_k».proof.Proof.Gen.Reference5Ideal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Reference5Ideal.Rec

open Cert.Reference5Ideal Cert.Reference5Ideal.Read

variable (x0 : FVec Ideal S128x4x512 .bf16) (x1 x2 : FVec Ideal S128x32x64 .f32) (x3 x4 : FVec Ideal S32x64 .f32) (x5 x6 : FVec Ideal S32x64x16 .f32) (x7 x8 : FVec Ideal S32x16x64 .f32) (x9 : FVec Ideal S32x16 .f32)

theorem re0 (b : Fin 128) (g : Fin 32) (p : Fin 64) :
    (val_main_v15 (F := Ideal) x0 x1 x2 x3 x4 x5 (ix3 b g p) : EReal)
      = x3 (ix2 g p) * x1 (ix3 b g p) - x4 (ix2 g p) * x2 (ix3 b g p)
        + ∑ q : Fin 16, x0 (ix3 b 0 ⟨16 * g.val + q.val, by omega⟩) * x5 (ix3 g p q) := by
  pointwise [val_main_v15, val_main_v14, val_main_v13, val_main_v12, val_main_v11, val_main_v10, val_main_v9, val_main_v8, val_main_v7, val_main_v6, val_main_v3, val_main_v2, val_main_v1, val_main_v0]
  simp only [Nat.mul_comm g.val 16]

theorem im0 (b : Fin 128) (g : Fin 32) (p : Fin 64) :
    (val_main_v25 (F := Ideal) x0 x1 x2 x3 x4 x6 (ix3 b g p) : EReal)
      = x3 (ix2 g p) * x2 (ix3 b g p) + x4 (ix2 g p) * x1 (ix3 b g p)
        + ∑ q : Fin 16, x0 (ix3 b 0 ⟨16 * g.val + q.val, by omega⟩) * x6 (ix3 g p q) := by
  pointwise [val_main_v25, val_main_v24, val_main_v23, val_main_v22, val_main_v21, val_main_v20, val_main_v19, val_main_v18, val_main_v17, val_main_v16, val_main_v5, val_main_v4, val_main_v1, val_main_v0]
  simp only [Nat.mul_comm g.val 16]

theorem y0 (b : Fin 128) (g : Fin 32) (q : Fin 16) :
    (val_main_v37 (F := Ideal) x0 x1 x2 x3 x4 x5 x6 x7 x8 x9 (ix3 b g q) : EReal)
      = ∑ p : Fin 64, val_main_v15 (F := Ideal) x0 x1 x2 x3 x4 x5 (ix3 b g p) * x7 (ix3 g q p) + ∑ p : Fin 64, val_main_v25 (F := Ideal) x0 x1 x2 x3 x4 x6 (ix3 b g p) * -x8 (ix3 g q p)
        + x9 (ix2 g q) * x0 (ix3 b 0 ⟨16 * g.val + q.val, by omega⟩) := by
  pointwise [val_main_v37, val_main_v36, val_main_v35, val_main_v34, val_main_v33, val_main_v32, val_main_v31, val_main_v30, val_main_v29, val_main_v28, val_main_v27, val_main_v26, val_main_v1, val_main_v0]
  simp only [Nat.mul_comm g.val 16]

theorem re1 (b : Fin 128) (g : Fin 32) (p : Fin 64) :
    (val_main_v47 (F := Ideal) x0 x1 x2 x3 x4 x5 x6 (ix3 b g p) : EReal)
      = x3 (ix2 g p) * val_main_v15 (F := Ideal) x0 x1 x2 x3 x4 x5 (ix3 b g p) - x4 (ix2 g p) * val_main_v25 (F := Ideal) x0 x1 x2 x3 x4 x6 (ix3 b g p)
        + ∑ q : Fin 16, x0 (ix3 b 1 ⟨16 * g.val + q.val, by omega⟩) * x5 (ix3 g p q) := by
  pointwise [val_main_v47, val_main_v46, val_main_v45, val_main_v44, val_main_v43, val_main_v42, val_main_v41, val_main_v40, val_main_v39, val_main_v38, val_main_v3, val_main_v2, val_main_v1, val_main_v0]
  simp only [Nat.mul_comm g.val 16]

theorem im1 (b : Fin 128) (g : Fin 32) (p : Fin 64) :
    (val_main_v57 (F := Ideal) x0 x1 x2 x3 x4 x5 x6 (ix3 b g p) : EReal)
      = x3 (ix2 g p) * val_main_v25 (F := Ideal) x0 x1 x2 x3 x4 x6 (ix3 b g p) + x4 (ix2 g p) * val_main_v15 (F := Ideal) x0 x1 x2 x3 x4 x5 (ix3 b g p)
        + ∑ q : Fin 16, x0 (ix3 b 1 ⟨16 * g.val + q.val, by omega⟩) * x6 (ix3 g p q) := by
  pointwise [val_main_v57, val_main_v56, val_main_v55, val_main_v54, val_main_v53, val_main_v52, val_main_v51, val_main_v50, val_main_v49, val_main_v48, val_main_v5, val_main_v4, val_main_v1, val_main_v0]
  simp only [Nat.mul_comm g.val 16]

theorem y1 (b : Fin 128) (g : Fin 32) (q : Fin 16) :
    (val_main_v69 (F := Ideal) x0 x1 x2 x3 x4 x5 x6 x7 x8 x9 (ix3 b g q) : EReal)
      = ∑ p : Fin 64, val_main_v47 (F := Ideal) x0 x1 x2 x3 x4 x5 x6 (ix3 b g p) * x7 (ix3 g q p) + ∑ p : Fin 64, val_main_v57 (F := Ideal) x0 x1 x2 x3 x4 x5 x6 (ix3 b g p) * -x8 (ix3 g q p)
        + x9 (ix2 g q) * x0 (ix3 b 1 ⟨16 * g.val + q.val, by omega⟩) := by
  pointwise [val_main_v69, val_main_v68, val_main_v67, val_main_v66, val_main_v65, val_main_v64, val_main_v63, val_main_v62, val_main_v61, val_main_v60, val_main_v59, val_main_v58, val_main_v1, val_main_v0]
  simp only [Nat.mul_comm g.val 16]

theorem re2 (b : Fin 128) (g : Fin 32) (p : Fin 64) :
    (val_main_v79 (F := Ideal) x0 x1 x2 x3 x4 x5 x6 (ix3 b g p) : EReal)
      = x3 (ix2 g p) * val_main_v47 (F := Ideal) x0 x1 x2 x3 x4 x5 x6 (ix3 b g p) - x4 (ix2 g p) * val_main_v57 (F := Ideal) x0 x1 x2 x3 x4 x5 x6 (ix3 b g p)
        + ∑ q : Fin 16, x0 (ix3 b 2 ⟨16 * g.val + q.val, by omega⟩) * x5 (ix3 g p q) := by
  pointwise [val_main_v79, val_main_v78, val_main_v77, val_main_v76, val_main_v75, val_main_v74, val_main_v73, val_main_v72, val_main_v71, val_main_v70, val_main_v3, val_main_v2, val_main_v1, val_main_v0]
  simp only [Nat.mul_comm g.val 16]

theorem im2 (b : Fin 128) (g : Fin 32) (p : Fin 64) :
    (val_main_v89 (F := Ideal) x0 x1 x2 x3 x4 x5 x6 (ix3 b g p) : EReal)
      = x3 (ix2 g p) * val_main_v57 (F := Ideal) x0 x1 x2 x3 x4 x5 x6 (ix3 b g p) + x4 (ix2 g p) * val_main_v47 (F := Ideal) x0 x1 x2 x3 x4 x5 x6 (ix3 b g p)
        + ∑ q : Fin 16, x0 (ix3 b 2 ⟨16 * g.val + q.val, by omega⟩) * x6 (ix3 g p q) := by
  pointwise [val_main_v89, val_main_v88, val_main_v87, val_main_v86, val_main_v85, val_main_v84, val_main_v83, val_main_v82, val_main_v81, val_main_v80, val_main_v5, val_main_v4, val_main_v1, val_main_v0]
  simp only [Nat.mul_comm g.val 16]

theorem y2 (b : Fin 128) (g : Fin 32) (q : Fin 16) :
    (val_main_v101 (F := Ideal) x0 x1 x2 x3 x4 x5 x6 x7 x8 x9 (ix3 b g q) : EReal)
      = ∑ p : Fin 64, val_main_v79 (F := Ideal) x0 x1 x2 x3 x4 x5 x6 (ix3 b g p) * x7 (ix3 g q p) + ∑ p : Fin 64, val_main_v89 (F := Ideal) x0 x1 x2 x3 x4 x5 x6 (ix3 b g p) * -x8 (ix3 g q p)
        + x9 (ix2 g q) * x0 (ix3 b 2 ⟨16 * g.val + q.val, by omega⟩) := by
  pointwise [val_main_v101, val_main_v100, val_main_v99, val_main_v98, val_main_v97, val_main_v96, val_main_v95, val_main_v94, val_main_v93, val_main_v92, val_main_v91, val_main_v90, val_main_v1, val_main_v0]
  simp only [Nat.mul_comm g.val 16]

theorem re3 (b : Fin 128) (g : Fin 32) (p : Fin 64) :
    (val_main_v111 (F := Ideal) x0 x1 x2 x3 x4 x5 x6 (ix3 b g p) : EReal)
      = x3 (ix2 g p) * val_main_v79 (F := Ideal) x0 x1 x2 x3 x4 x5 x6 (ix3 b g p) - x4 (ix2 g p) * val_main_v89 (F := Ideal) x0 x1 x2 x3 x4 x5 x6 (ix3 b g p)
        + ∑ q : Fin 16, x0 (ix3 b 3 ⟨16 * g.val + q.val, by omega⟩) * x5 (ix3 g p q) := by
  pointwise [val_main_v111, val_main_v110, val_main_v109, val_main_v108, val_main_v107, val_main_v106, val_main_v105, val_main_v104, val_main_v103, val_main_v102, val_main_v3, val_main_v2, val_main_v1, val_main_v0]
  simp only [Nat.mul_comm g.val 16]

theorem im3 (b : Fin 128) (g : Fin 32) (p : Fin 64) :
    (val_main_v121 (F := Ideal) x0 x1 x2 x3 x4 x5 x6 (ix3 b g p) : EReal)
      = x3 (ix2 g p) * val_main_v89 (F := Ideal) x0 x1 x2 x3 x4 x5 x6 (ix3 b g p) + x4 (ix2 g p) * val_main_v79 (F := Ideal) x0 x1 x2 x3 x4 x5 x6 (ix3 b g p)
        + ∑ q : Fin 16, x0 (ix3 b 3 ⟨16 * g.val + q.val, by omega⟩) * x6 (ix3 g p q) := by
  pointwise [val_main_v121, val_main_v120, val_main_v119, val_main_v118, val_main_v117, val_main_v116, val_main_v115, val_main_v114, val_main_v113, val_main_v112, val_main_v5, val_main_v4, val_main_v1, val_main_v0]
  simp only [Nat.mul_comm g.val 16]

theorem y3 (b : Fin 128) (g : Fin 32) (q : Fin 16) :
    (val_main_v133 (F := Ideal) x0 x1 x2 x3 x4 x5 x6 x7 x8 x9 (ix3 b g q) : EReal)
      = ∑ p : Fin 64, val_main_v111 (F := Ideal) x0 x1 x2 x3 x4 x5 x6 (ix3 b g p) * x7 (ix3 g q p) + ∑ p : Fin 64, val_main_v121 (F := Ideal) x0 x1 x2 x3 x4 x5 x6 (ix3 b g p) * -x8 (ix3 g q p)
        + x9 (ix2 g q) * x0 (ix3 b 3 ⟨16 * g.val + q.val, by omega⟩) := by
  pointwise [val_main_v133, val_main_v132, val_main_v131, val_main_v130, val_main_v129, val_main_v128, val_main_v127, val_main_v126, val_main_v125, val_main_v124, val_main_v123, val_main_v122, val_main_v1, val_main_v0]
  simp only [Nat.mul_comm g.val 16]

theorem flat111 (i : S128x2048.Idx) :
    (val_main_v178 (F := Ideal) x0 x1 x2 x3 x4 x5 x6 i : EReal)
      = val_main_v111 (F := Ideal) x0 x1 x2 x3 x4 x5 x6 (ix3 (i 0) ⟨(i 1).val / 64, by have := (i 1).isLt; change _ < 2048 at this; omega⟩ ⟨(i 1).val % 64, by omega⟩) := by
  pointwise [val_main_v178]

theorem flat121 (i : S128x2048.Idx) :
    (val_main_v179 (F := Ideal) x0 x1 x2 x3 x4 x5 x6 i : EReal)
      = val_main_v121 (F := Ideal) x0 x1 x2 x3 x4 x5 x6 (ix3 (i 0) ⟨(i 1).val / 64, by have := (i 1).isLt; change _ < 2048 at this; omega⟩ ⟨(i 1).val % 64, by omega⟩) := by
  pointwise [val_main_v179]

end Cert.Reference5Ideal.Rec

end
-- ==== Proof.S5State.lean ====
/-
  The sampling recurrence's four steps: the kernel's states are the reference's.
-/
module

public import proofs.«01_k».proof.Proof.S5Blk
public import proofs.«01_k».proof.Proof.S5Step
public import proofs.«01_k».proof.Proof.S5Ref

@[expose] public section

set_option maxRecDepth 16384

noncomputable section

open Idealize.ShloMosaic Idealize.ShloMosaic.TcCoe Idealize.SL.Sem
open Idealize.ShloMosaic.Pipeline (Dat)

namespace Cert.Kernel5Ideal.Rec

open Cert.Kernel5Ideal Cert.Kernel5Ideal.Gen

theorem row0 (x0 : Vec Ideal S4x64x512 .bf16) (r : Fin 64) (e : Fin 512) : View.ld x0 r0_2 (ix3 0 r e) = x0 (ix3 0 r e) := by
  pointwise
theorem row1 (x0 : Vec Ideal S4x64x512 .bf16) (r : Fin 64) (e : Fin 512) : View.ld x0 r0_13 (ix3 0 r e) = x0 (ix3 1 r e) := by
  pointwise
theorem row2 (x0 : Vec Ideal S4x64x512 .bf16) (r : Fin 64) (e : Fin 512) : View.ld x0 r0_14 (ix3 0 r e) = x0 (ix3 2 r e) := by
  pointwise
theorem row3 (x0 : Vec Ideal S4x64x512 .bf16) (r : Fin 64) (e : Fin 512) : View.ld x0 r0_15 (ix3 0 r e) = x0 (ix3 3 r e) := by
  pointwise

variable (m : (ℓ : Loc nD τ sig) → Buf (Elt Ideal) ℓ)

theorem st57 (c : Dev nD) (t : Fin cfg0.N) (r : Fin 64) (n : Fin 2048) (b : Fin 128) (g : Fin 32) (p : Fin 64)
    (hb : b.val = 64 * t.val + r.val) (hn : n.val = 64 * g.val + p.val) :
    (k0_pay57 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r n) : EReal) = aH m c b g p := by
  refine Eq.trans ?_ (blk1 m c t r n b g p hb hn)
  pointwise [k0_pay57, k0_pay1]

theorem st58 (c : Dev nD) (t : Fin cfg0.N) (r : Fin 64) (n : Fin 2048) (b : Fin 128) (g : Fin 32) (p : Fin 64)
    (hb : b.val = 64 * t.val + r.val) (hn : n.val = 64 * g.val + p.val) :
    (k0_pay58 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r n) : EReal) = aHi m c b g p := by
  refine Eq.trans ?_ (blk2 m c t r n b g p hb hn)
  pointwise [k0_pay58, k0_pay2]

theorem st66 (c : Dev nD) (t : Fin cfg0.N) (r : Fin 64) (n : Fin 2048) (b : Fin 128) (g : Fin 32) (p : Fin 64)
    (hb : b.val = 64 * t.val + r.val) (hn : n.val = 64 * g.val + p.val) :
    (k0_pay66 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r n) : EReal)
      = Cert.Reference5Ideal.Read.val_main_v15 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 b g p) := by
  rw [step66]
  refine (nre_at _ _ _ _ _ _ r ⟨n.val / 512, by omega⟩ ⟨n.val % 512, by omega⟩ n (by show n.val = 512 * (n.val / 512) + n.val % 512; omega)).trans
    (Eq.trans ?_ (Cert.Reference5Ideal.Rec.re0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b g p).symm)
  refine congrArg₂ (fun x y : EReal => x + y) (congrArg₂ (fun x y : EReal => x - y)
    (congrArg₂ (fun x y : EReal => x * y) (blk3 m c t n g p hn) (st57 m c t r n b g p hb hn))
    (congrArg₂ (fun x y : EReal => x * y) (blk4 m c t n g p hn) (st58 m c t r n b g p hb hn))) ?_
  refine (Finset.sum_congr rfl fun k _ => congrArg₂ (fun x y : EReal => x * y)
    ((row0 (iblk m c 0 t) r _).trans (blk0 m c t 0 r _ b hb)) (blk5 m c t _ k _)).trans
    (drive_re m c ⟨n.val / 512, by omega⟩ ⟨n.val % 512, by omega⟩ g p (fun e => aU m c b 0 e)
      (by show 512 * (n.val / 512) + n.val % 512 = 64 * g.val + p.val; omega))

theorem st67 (c : Dev nD) (t : Fin cfg0.N) (r : Fin 64) (n : Fin 2048) (b : Fin 128) (g : Fin 32) (p : Fin 64)
    (hb : b.val = 64 * t.val + r.val) (hn : n.val = 64 * g.val + p.val) :
    (k0_pay67 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r n) : EReal)
      = Cert.Reference5Ideal.Read.val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (ix3 b g p) := by
  rw [step67]
  refine (nim_at _ _ _ _ _ _ r ⟨n.val / 512, by omega⟩ ⟨n.val % 512, by omega⟩ n (by show n.val = 512 * (n.val / 512) + n.val % 512; omega)).trans
    (Eq.trans ?_ (Cert.Reference5Ideal.Rec.im0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) b g p).symm)
  refine congrArg₂ (fun x y : EReal => x + y) (congrArg₂ (fun x y : EReal => x + y)
    (congrArg₂ (fun x y : EReal => x * y) (blk3 m c t n g p hn) (st58 m c t r n b g p hb hn))
    (congrArg₂ (fun x y : EReal => x * y) (blk4 m c t n g p hn) (st57 m c t r n b g p hb hn))) ?_
  refine (Finset.sum_congr rfl fun k _ => congrArg₂ (fun x y : EReal => x * y)
    ((row0 (iblk m c 0 t) r _).trans (blk0 m c t 0 r _ b hb)) (blk5 m c t _ k _)).trans
    (drive_im m c ⟨n.val / 512, by omega⟩ ⟨n.val % 512, by omega⟩ g p (fun e => aU m c b 0 e)
      (by show 512 * (n.val / 512) + n.val % 512 = 64 * g.val + p.val; omega))

theorem st71 (c : Dev nD) (t : Fin cfg0.N) (r : Fin 64) (n : Fin 2048) (b : Fin 128) (g : Fin 32) (p : Fin 64)
    (hb : b.val = 64 * t.val + r.val) (hn : n.val = 64 * g.val + p.val) :
    (k0_pay71 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r n) : EReal)
      = Cert.Reference5Ideal.Read.val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 b g p) := by
  rw [step71]
  refine (nre_at _ _ _ _ _ _ r ⟨n.val / 512, by omega⟩ ⟨n.val % 512, by omega⟩ n (by show n.val = 512 * (n.val / 512) + n.val % 512; omega)).trans
    (Eq.trans ?_ (Cert.Reference5Ideal.Rec.re1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) b g p).symm)
  refine congrArg₂ (fun x y : EReal => x + y) (congrArg₂ (fun x y : EReal => x - y)
    (congrArg₂ (fun x y : EReal => x * y) (blk3 m c t n g p hn) (st66 m c t r n b g p hb hn))
    (congrArg₂ (fun x y : EReal => x * y) (blk4 m c t n g p hn) (st67 m c t r n b g p hb hn))) ?_
  refine (Finset.sum_congr rfl fun k _ => congrArg₂ (fun x y : EReal => x * y)
    ((row1 (iblk m c 0 t) r _).trans (blk0 m c t 1 r _ b hb)) (blk5 m c t _ k _)).trans
    (drive_re m c ⟨n.val / 512, by omega⟩ ⟨n.val % 512, by omega⟩ g p (fun e => aU m c b 1 e)
      (by show 512 * (n.val / 512) + n.val % 512 = 64 * g.val + p.val; omega))

theorem st72 (c : Dev nD) (t : Fin cfg0.N) (r : Fin 64) (n : Fin 2048) (b : Fin 128) (g : Fin 32) (p : Fin 64)
    (hb : b.val = 64 * t.val + r.val) (hn : n.val = 64 * g.val + p.val) :
    (k0_pay72 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r n) : EReal)
      = Cert.Reference5Ideal.Read.val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 b g p) := by
  rw [step72]
  refine (nim_at _ _ _ _ _ _ r ⟨n.val / 512, by omega⟩ ⟨n.val % 512, by omega⟩ n (by show n.val = 512 * (n.val / 512) + n.val % 512; omega)).trans
    (Eq.trans ?_ (Cert.Reference5Ideal.Rec.im1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) b g p).symm)
  refine congrArg₂ (fun x y : EReal => x + y) (congrArg₂ (fun x y : EReal => x + y)
    (congrArg₂ (fun x y : EReal => x * y) (blk3 m c t n g p hn) (st67 m c t r n b g p hb hn))
    (congrArg₂ (fun x y : EReal => x * y) (blk4 m c t n g p hn) (st66 m c t r n b g p hb hn))) ?_
  refine (Finset.sum_congr rfl fun k _ => congrArg₂ (fun x y : EReal => x * y)
    ((row1 (iblk m c 0 t) r _).trans (blk0 m c t 1 r _ b hb)) (blk5 m c t _ k _)).trans
    (drive_im m c ⟨n.val / 512, by omega⟩ ⟨n.val % 512, by omega⟩ g p (fun e => aU m c b 1 e)
      (by show 512 * (n.val / 512) + n.val % 512 = 64 * g.val + p.val; omega))

theorem st74 (c : Dev nD) (t : Fin cfg0.N) (r : Fin 64) (n : Fin 2048) (b : Fin 128) (g : Fin 32) (p : Fin 64)
    (hb : b.val = 64 * t.val + r.val) (hn : n.val = 64 * g.val + p.val) :
    (k0_pay74 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r n) : EReal)
      = Cert.Reference5Ideal.Read.val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 b g p) := by
  rw [step74]
  refine (nre_at _ _ _ _ _ _ r ⟨n.val / 512, by omega⟩ ⟨n.val % 512, by omega⟩ n (by show n.val = 512 * (n.val / 512) + n.val % 512; omega)).trans
    (Eq.trans ?_ (Cert.Reference5Ideal.Rec.re2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) b g p).symm)
  refine congrArg₂ (fun x y : EReal => x + y) (congrArg₂ (fun x y : EReal => x - y)
    (congrArg₂ (fun x y : EReal => x * y) (blk3 m c t n g p hn) (st71 m c t r n b g p hb hn))
    (congrArg₂ (fun x y : EReal => x * y) (blk4 m c t n g p hn) (st72 m c t r n b g p hb hn))) ?_
  refine (Finset.sum_congr rfl fun k _ => congrArg₂ (fun x y : EReal => x * y)
    ((row2 (iblk m c 0 t) r _).trans (blk0 m c t 2 r _ b hb)) (blk5 m c t _ k _)).trans
    (drive_re m c ⟨n.val / 512, by omega⟩ ⟨n.val % 512, by omega⟩ g p (fun e => aU m c b 2 e)
      (by show 512 * (n.val / 512) + n.val % 512 = 64 * g.val + p.val; omega))

theorem st75 (c : Dev nD) (t : Fin cfg0.N) (r : Fin 64) (n : Fin 2048) (b : Fin 128) (g : Fin 32) (p : Fin 64)
    (hb : b.val = 64 * t.val + r.val) (hn : n.val = 64 * g.val + p.val) :
    (k0_pay75 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r n) : EReal)
      = Cert.Reference5Ideal.Read.val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 b g p) := by
  rw [step75]
  refine (nim_at _ _ _ _ _ _ r ⟨n.val / 512, by omega⟩ ⟨n.val % 512, by omega⟩ n (by show n.val = 512 * (n.val / 512) + n.val % 512; omega)).trans
    (Eq.trans ?_ (Cert.Reference5Ideal.Rec.im2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) b g p).symm)
  refine congrArg₂ (fun x y : EReal => x + y) (congrArg₂ (fun x y : EReal => x + y)
    (congrArg₂ (fun x y : EReal => x * y) (blk3 m c t n g p hn) (st72 m c t r n b g p hb hn))
    (congrArg₂ (fun x y : EReal => x * y) (blk4 m c t n g p hn) (st71 m c t r n b g p hb hn))) ?_
  refine (Finset.sum_congr rfl fun k _ => congrArg₂ (fun x y : EReal => x * y)
    ((row2 (iblk m c 0 t) r _).trans (blk0 m c t 2 r _ b hb)) (blk5 m c t _ k _)).trans
    (drive_im m c ⟨n.val / 512, by omega⟩ ⟨n.val % 512, by omega⟩ g p (fun e => aU m c b 2 e)
      (by show 512 * (n.val / 512) + n.val % 512 = 64 * g.val + p.val; omega))

theorem st80 (c : Dev nD) (t : Fin cfg0.N) (r : Fin 64) (n : Fin 2048) (b : Fin 128) (g : Fin 32) (p : Fin 64)
    (hb : b.val = 64 * t.val + r.val) (hn : n.val = 64 * g.val + p.val) :
    (k0_pay80 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r n) : EReal)
      = Cert.Reference5Ideal.Read.val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 b g p) := by
  rw [step80]
  refine (nre_at _ _ _ _ _ _ r ⟨n.val / 512, by omega⟩ ⟨n.val % 512, by omega⟩ n (by show n.val = 512 * (n.val / 512) + n.val % 512; omega)).trans
    (Eq.trans ?_ (Cert.Reference5Ideal.Rec.re3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) b g p).symm)
  refine congrArg₂ (fun x y : EReal => x + y) (congrArg₂ (fun x y : EReal => x - y)
    (congrArg₂ (fun x y : EReal => x * y) (blk3 m c t n g p hn) (st74 m c t r n b g p hb hn))
    (congrArg₂ (fun x y : EReal => x * y) (blk4 m c t n g p hn) (st75 m c t r n b g p hb hn))) ?_
  refine (Finset.sum_congr rfl fun k _ => congrArg₂ (fun x y : EReal => x * y)
    ((row3 (iblk m c 0 t) r _).trans (blk0 m c t 3 r _ b hb)) (blk5 m c t _ k _)).trans
    (drive_re m c ⟨n.val / 512, by omega⟩ ⟨n.val % 512, by omega⟩ g p (fun e => aU m c b 3 e)
      (by show 512 * (n.val / 512) + n.val % 512 = 64 * g.val + p.val; omega))

theorem st81 (c : Dev nD) (t : Fin cfg0.N) (r : Fin 64) (n : Fin 2048) (b : Fin 128) (g : Fin 32) (p : Fin 64)
    (hb : b.val = 64 * t.val + r.val) (hn : n.val = 64 * g.val + p.val) :
    (k0_pay81 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r n) : EReal)
      = Cert.Reference5Ideal.Read.val_main_v121 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 b g p) := by
  rw [step81]
  refine (nim_at _ _ _ _ _ _ r ⟨n.val / 512, by omega⟩ ⟨n.val % 512, by omega⟩ n (by show n.val = 512 * (n.val / 512) + n.val % 512; omega)).trans
    (Eq.trans ?_ (Cert.Reference5Ideal.Rec.im3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) b g p).symm)
  refine congrArg₂ (fun x y : EReal => x + y) (congrArg₂ (fun x y : EReal => x + y)
    (congrArg₂ (fun x y : EReal => x * y) (blk3 m c t n g p hn) (st75 m c t r n b g p hb hn))
    (congrArg₂ (fun x y : EReal => x * y) (blk4 m c t n g p hn) (st74 m c t r n b g p hb hn))) ?_
  refine (Finset.sum_congr rfl fun k _ => congrArg₂ (fun x y : EReal => x * y)
    ((row3 (iblk m c 0 t) r _).trans (blk0 m c t 3 r _ b hb)) (blk5 m c t _ k _)).trans
    (drive_im m c ⟨n.val / 512, by omega⟩ ⟨n.val % 512, by omega⟩ g p (fun e => aU m c b 3 e)
      (by show 512 * (n.val / 512) + n.val % 512 = 64 * g.val + p.val; omega))

end Cert.Kernel5Ideal.Rec

end
-- ==== Proof.S5Fin.lean ====
/-
  The sampling recurrence's two state arrays after the run.
-/
module

public import proofs.«01_k».proof.Proof.S5State

@[expose] public section

set_option maxRecDepth 16384

noncomputable section

open Idealize.ShloMosaic Idealize.ShloMosaic.TcCoe Idealize.SL.Sem
open Idealize.ShloMosaic.Pipeline (Dat)

namespace Cert.Kernel5Ideal.Rec

open Cert.Kernel5Ideal Cert.Kernel5Ideal.Gen Cert.Reference5Ideal.Read

theorem canon_one (v : Vec Ideal S64x2048 .f32) (y : S64x2048.Idx) : View.canon [⟨r0_0, v⟩] y = v y := by
  frame_out

theorem out12_at (x0 : Vec Ideal S4x64x512 .bf16) (x1 x2 : Vec Ideal S64x2048 .f32) (x3 x4 : Vec Ideal S1x2048 .f32)
    (x5 : Vec Ideal S4x128x1024 .bf16) (x6 : Vec Ideal S4x1024x128 .bf16) (x7 : Vec Ideal S1x512 .f32)
    (x8 : Vec Ideal S512x512 .bf16) (x9 x10 : Vec Ideal S1x512 .f32) (y : S64x2048.Idx) :
    out0_12 x0 x1 x2 x3 x4 x5 x6 x7 x8 x9 x10 y = k0_pay80 x0 x1 x2 x3 x4 x5 x6 x7 x8 x9 x10 y := canon_one _ y

theorem out13_at (x0 : Vec Ideal S4x64x512 .bf16) (x1 x2 : Vec Ideal S64x2048 .f32) (x3 x4 : Vec Ideal S1x2048 .f32)
    (x5 : Vec Ideal S4x128x1024 .bf16) (x6 : Vec Ideal S4x1024x128 .bf16) (x7 : Vec Ideal S1x512 .f32)
    (x8 : Vec Ideal S512x512 .bf16) (x9 x10 : Vec Ideal S1x512 .f32) (y : S64x2048.Idx) :
    out0_13 x0 x1 x2 x3 x4 x5 x6 x7 x8 x9 x10 y = k0_pay81 x0 x1 x2 x3 x4 x5 x6 x7 x8 x9 x10 y := canon_one _ y

variable (m : (ℓ : Loc nD τ sig) → Buf (Elt Ideal) ℓ)

theorem res80 (c : Dev nD) (t : Fin cfg0.N) (y : S64x2048.Idx) (b : Fin 128) (g : Fin 32) (p : Fin 64)
    (hb : b.val = 64 * t.val + (y 0).val) (hn : (y 1).val = 64 * g.val + p.val) :
    (k0_pay80 (iblk m c 0 t) (iblk m c 1 t) (iblk m c 2 t) (iblk m c 3 t) (iblk m c 4 t) (iblk m c 5 t) (iblk m c 6 t) (iblk m c 7 t) (iblk m c 8 t) (iblk m c 9 t) (iblk m c 10 t) y : EReal) = val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 b g p) := by
  have hy : y = ix2 (y 0) (y 1) := by
    funext a
    match a with
    | ⟨0, _⟩ => rfl
    | ⟨1, _⟩ => rfl
  exact (congrArg _ hy).trans (st80 m c t (y 0) (y 1) b g p hb hn)

theorem res81 (c : Dev nD) (t : Fin cfg0.N) (y : S64x2048.Idx) (b : Fin 128) (g : Fin 32) (p : Fin 64)
    (hb : b.val = 64 * t.val + (y 0).val) (hn : (y 1).val = 64 * g.val + p.val) :
    (k0_pay81 (iblk m c 0 t) (iblk m c 1 t) (iblk m c 2 t) (iblk m c 3 t) (iblk m c 4 t) (iblk m c 5 t) (iblk m c 6 t) (iblk m c 7 t) (iblk m c 8 t) (iblk m c 9 t) (iblk m c 10 t) y : EReal) = val_main_v121 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 b g p) := by
  have hy : y = ix2 (y 0) (y 1) := by
    funext a
    match a with
    | ⟨0, _⟩ => rfl
    | ⟨1, _⟩ => rfl
  exact (congrArg _ hy).trans (st81 m c t (y 0) (y 1) b g p hb hn)

/-- The state's real half after the run. -/
theorem final12 (c : Dev nD) : (dats m 0 c).arrAt 12 cfg0.N
    = val_main_v178 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  refine (dats m 0 c).arrAt_eq_of_covers 12 _ (by decide +kernel) fun t _ y => ?_
  blk_simp
  rw [after0_12]
  refine (out12_at _ _ _ _ _ _ _ _ _ _ _ _).trans ?_
  refine (res80 m c t y _ _ _ ?_ ?_).trans (Cert.Reference5Ideal.Rec.flat111 _ _ _ _ _ _ _ _).symm
  · blk_simp [idx t] <;> omega
  · blk_simp [idx t]
    exact (Nat.div_add_mod _ 64).symm

/-- The state's imaginary half after the run. -/
theorem final13 (c : Dev nD) : (dats m 0 c).arrAt 13 cfg0.N
    = val_main_v179 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  refine (dats m 0 c).arrAt_eq_of_covers 13 _ (by decide +kernel) fun t _ y => ?_
  blk_simp
  rw [after0_13]
  refine (out13_at _ _ _ _ _ _ _ _ _ _ _ _).trans ?_
  refine (res81 m c t y _ _ _ ?_ ?_).trans (Cert.Reference5Ideal.Rec.flat121 _ _ _ _ _ _ _ _).symm
  · blk_simp [idx t] <;> omega
  · blk_simp [idx t]
    exact (Nat.div_add_mod _ 64).symm

end Cert.Kernel5Ideal.Rec

end
-- ==== Proof.S5RefOut.lean ====
/-
  The sampling recurrence's reference: its outputs stacked, gated and normed.
-/
module

public import proofs.«01_k».proof.Proof.S5Ref

@[expose] public section

set_option maxRecDepth 16384

noncomputable section

open Idealize.ShloMosaic Idealize.ShloMosaic.TcCoe Idealize.SL.Sem

namespace Cert.Reference5Ideal.Rec

open Cert.Reference5Ideal Cert.Reference5Ideal.Read

variable (x0 : FVec Ideal S128x4x512 .bf16) (x1 x2 : FVec Ideal S128x32x64 .f32) (x3 x4 : FVec Ideal S32x64 .f32) (x5 x6 : FVec Ideal S32x64x16 .f32) (x7 x8 : FVec Ideal S32x16x64 .f32) (x9 : FVec Ideal S32x16 .f32)

/-- The rows' activation. -/
abbrev act (y : EReal) : EReal :=
  y * (Ideal.ofBits FTy.f32 1056964608#32 * (1 + Ideal.tanh (Ideal.ofBits FTy.f32 1061962282#32 *
    (y + Ideal.ofBits FTy.f32 1027024659#32 * (y * y * y)))))

/-- A row gated by the logistic of its own product. -/
abbrev gated (w : Fin 512 → Fin 512 → EReal) (v z : Fin 512 → EReal) (e : Fin 512) : EReal :=
  z e * Ideal.logistic (∑ x : Fin 512, z x * w x e + v e)

/-- A row over the root of its mean square, scaled. -/
abbrev normed (z k : Fin 512 → EReal) (e : Fin 512) : EReal :=
  z e * Ideal.rsqrt (Ideal.div (∑ x : Fin 512, z x * z x) (Ideal.ofBits FTy.f32 1140850688#32) + Ideal.ofBits FTy.f32 897988541#32) * k e

variable (x10 : FVec Ideal S512x512 .f32) (x11 x12 : FVec Ideal S512 .f32)

theorem gate (s : Fin 4) (b : Fin 128) (e : Fin 512) :
    (val_main_v177 (F := Ideal) x0 x1 x2 x3 x4 x5 x6 x7 x8 x9 x10 x11 x12 (ix3 s b e) : EReal)
      = normed (gated (fun x e => x10 (ix2 x e)) (fun e => x11 (ix1 e))
          fun e => act (val_main_v139 (F := Ideal) x0 x1 x2 x3 x4 x5 x6 x7 x8 x9 (ix3 s b e))) (fun e => x12 (ix1 e)) e := by
  pointwise [val_main_v177, val_main_v176, val_main_v175, val_main_v174, val_main_v173, val_main_v172, val_main_v171, val_main_v170, val_main_v169, val_main_v168, val_main_v167, val_main_v166, val_main_v165, val_main_v164, val_main_v163, val_main_v162, val_main_v161, val_main_v160, val_main_v159, val_main_v158, val_main_v157, val_main_v156, val_main_v155, val_main_v154, val_main_v153, val_main_v152, val_main_v151, val_main_v150, val_main_v149, val_main_v148, val_main_v147, val_main_v146, val_main_v145, val_main_v144, val_main_v143, val_main_v142, val_main_v141, val_main_v140, val_main_cst, val_main_cst_0, val_main_cst_1, val_main_cst_2, val_main_cst_3, val_main_cst_4, val_main_cst_5, val_main_cst_6, val_main_cst_7]
  rfl

theorem stack0 (b : Fin 128) (e : Fin 512) (g : Fin 32) (q : Fin 16) (he : e.val = 16 * g.val + q.val) :
    (val_main_v139 (F := Ideal) x0 x1 x2 x3 x4 x5 x6 x7 x8 x9 (ix3 0 b e) : EReal)
      = val_main_v37 (F := Ideal) x0 x1 x2 x3 x4 x5 x6 x7 x8 x9 (ix3 b g q) := by
  have hg : g = ⟨e.val / 16, by clear he; omega⟩ := Fin.ext (by show g.val = e.val / 16; omega)
  have hq : q = ⟨e.val % 16, by clear he; omega⟩ := Fin.ext (by show q.val = e.val % 16; omega)
  rw [hg, hq]
  pointwise [val_main_v139, val_main_v138, val_main_v137, val_main_v136, val_main_v135, val_main_v134]

theorem stack1 (b : Fin 128) (e : Fin 512) (g : Fin 32) (q : Fin 16) (he : e.val = 16 * g.val + q.val) :
    (val_main_v139 (F := Ideal) x0 x1 x2 x3 x4 x5 x6 x7 x8 x9 (ix3 1 b e) : EReal)
      = val_main_v69 (F := Ideal) x0 x1 x2 x3 x4 x5 x6 x7 x8 x9 (ix3 b g q) := by
  have hg : g = ⟨e.val / 16, by clear he; omega⟩ := Fin.ext (by show g.val = e.val / 16; omega)
  have hq : q = ⟨e.val % 16, by clear he; omega⟩ := Fin.ext (by show q.val = e.val % 16; omega)
  rw [hg, hq]
  pointwise [val_main_v139, val_main_v138, val_main_v137, val_main_v136, val_main_v135, val_main_v134]

theorem stack2 (b : Fin 128) (e : Fin 512) (g : Fin 32) (q : Fin 16) (he : e.val = 16 * g.val + q.val) :
    (val_main_v139 (F := Ideal) x0 x1 x2 x3 x4 x5 x6 x7 x8 x9 (ix3 2 b e) : EReal)
      = val_main_v101 (F := Ideal) x0 x1 x2 x3 x4 x5 x6 x7 x8 x9 (ix3 b g q) := by
  have hg : g = ⟨e.val / 16, by clear he; omega⟩ := Fin.ext (by show g.val = e.val / 16; omega)
  have hq : q = ⟨e.val % 16, by clear he; omega⟩ := Fin.ext (by show q.val = e.val % 16; omega)
  rw [hg, hq]
  pointwise [val_main_v139, val_main_v138, val_main_v137, val_main_v136, val_main_v135, val_main_v134]

theorem stack3 (b : Fin 128) (e : Fin 512) (g : Fin 32) (q : Fin 16) (he : e.val = 16 * g.val + q.val) :
    (val_main_v139 (F := Ideal) x0 x1 x2 x3 x4 x5 x6 x7 x8 x9 (ix3 3 b e) : EReal)
      = val_main_v133 (F := Ideal) x0 x1 x2 x3 x4 x5 x6 x7 x8 x9 (ix3 b g q) := by
  have hg : g = ⟨e.val / 16, by clear he; omega⟩ := Fin.ext (by show g.val = e.val / 16; omega)
  have hq : q = ⟨e.val % 16, by clear he; omega⟩ := Fin.ext (by show q.val = e.val % 16; omega)
  rw [hg, hq]
  pointwise [val_main_v139, val_main_v138, val_main_v137, val_main_v136, val_main_v135, val_main_v134]

end Cert.Reference5Ideal.Rec

end
-- ==== Proof.S5Y.lean ====
/-
  The sampling recurrence's output of one step, before and after its gate and its norm.
-/
module

public import proofs.«01_k».proof.Proof.S5State
public import proofs.«01_k».proof.Proof.S5RefOut

@[expose] public section

set_option maxRecDepth 16384

noncomputable section

open Idealize.ShloMosaic Idealize.ShloMosaic.TcCoe Idealize.SL.Sem
open Idealize.ShloMosaic.Pipeline (Dat)

namespace Cert.Kernel5Ideal.Rec

open Cert.Kernel5Ideal Cert.Kernel5Ideal.Gen

variable (x0 : Vec Ideal S4x64x512 .bf16) (x1 x2 : Vec Ideal S64x2048 .f32) (x3 x4 : Vec Ideal S1x2048 .f32)
  (x5 : Vec Ideal S4x128x1024 .bf16) (x6 : Vec Ideal S4x1024x128 .bf16) (x7 : Vec Ideal S1x512 .f32)
  (x8 : Vec Ideal S512x512 .bf16) (x9 x10 : Vec Ideal S1x512 .f32)

/-- A step's output rows before the gate, from the step's states and input rows. -/
abbrev yrow (hr hi : FVec Ideal S64x2048 .f32) (u : Vec Ideal S1x64x512 .bf16) : FVec Ideal S64x512 .f32 :=
  k0_pay41 (k0_pay32 u) hr hi (extractStridedSlice S64x512 ![0, 0] hr slices_S64x2048_o0_0_S64x512)
    (extractStridedSlice S64x512 ![0, 0] hi slices_S64x2048_o0_0_S64x512)
    (View.ld x6 r0_7) (View.ld x6 r0_8) (View.ld x6 r0_9) (View.ld x6 r0_10) (View.ld x7 r0_11)

/-- The gate and the norm over such rows. -/
abbrev orow (y : FVec Ideal S64x512 .f32) : FVec Ideal S1x64x512 .bf16 :=
  k0_pay31 y (View.ld x8 r0_12) (View.ld x9 r0_11) (View.ld x10 r0_11)

/-- The output's block is its four steps' rows. -/
theorem out11_rows : out0_11 x0 x1 x2 x3 x4 x5 x6 x7 x8 x9 x10 = View.canon
    [⟨r0_15, orow x8 x9 x10 (yrow x6 x7 (k0_pay80 x0 x1 x2 x3 x4 x5 x6 x7 x8 x9 x10) (k0_pay81 x0 x1 x2 x3 x4 x5 x6 x7 x8 x9 x10) (View.ld x0 r0_15))⟩,
     ⟨r0_14, orow x8 x9 x10 (yrow x6 x7 (k0_pay74 x0 x1 x2 x3 x4 x5 x6 x7 x8 x9 x10) (k0_pay75 x0 x1 x2 x3 x4 x5 x6 x7 x8 x9 x10) (View.ld x0 r0_14))⟩,
     ⟨r0_13, orow x8 x9 x10 (yrow x6 x7 (k0_pay71 x0 x1 x2 x3 x4 x5 x6 x7 x8 x9 x10) (k0_pay72 x0 x1 x2 x3 x4 x5 x6 x7 x8 x9 x10) (View.ld x0 r0_13))⟩,
     ⟨r0_2, orow x8 x9 x10 (yrow x6 x7 (k0_pay66 x0 x1 x2 x3 x4 x5 x6 x7 x8 x9 x10) (k0_pay67 x0 x1 x2 x3 x4 x5 x6 x7 x8 x9 x10) (View.ld x0 r0_2))⟩] := rfl

variable (hr hi : FVec Ideal S64x2048 .f32) (u : Vec Ideal S1x64x512 .bf16)

theorem yrow_at (r : Fin 64) (kc : Fin 4) (j : Fin 128) (e : Fin 512) (he : e.val = 128 * kc.val + j.val) :
    yrow x6 x7 hr hi u (ix2 r e)
      = (∑ k : Fin 512, hr (ix2 r ⟨512 * kc.val + k.val, by omega⟩) * x6 (ix3 kc ⟨k.val, by omega⟩ j)
          + ∑ k : Fin 512, hi (ix2 r ⟨512 * kc.val + k.val, by omega⟩) * x6 (ix3 kc ⟨512 + k.val, by omega⟩ j))
        + x7 (ix2 0 e) * u (ix3 0 r e) := by
  obtain rfl : e = ⟨128 * kc.val + j.val, by clear he; omega⟩ := Fin.ext he
  pointwise [yrow, k0_pay41, k0_pay32]
  congr 1
  have hj := j.isLt
  obtain rfl | rfl | rfl | rfl : kc = 0 ∨ kc = 1 ∨ kc = 2 ∨ kc = 3 := by omega
  · refine (dif_pos (by show 128 * 0 + j.val < 128; omega)).trans ?_
    have hk : (⟨128 * 0 + j.val, by omega⟩ : Fin 128) = j := Fin.ext (by show 128 * 0 + j.val = j.val; omega)
    refine congrArg₂ (fun x y : EReal => x + y) (Finset.sum_congr rfl fun k _ => congrArg₂ (fun x y : EReal => x * y) ?_ ?_)
      (Finset.sum_congr rfl fun k _ => congrArg₂ (fun x y : EReal => x * y) ?_ ?_)
    · exact congrArg (fun e => hr (ix2 r e)) (Fin.ext (by show k.val = 512 * 0 + k.val; omega))
    · exact congrArg (fun e => x6 (ix3 0 _ e)) hk
    · exact congrArg (fun e => hi (ix2 r e)) (Fin.ext (by show k.val = 512 * 0 + k.val; omega))
    · exact congrArg (fun e => x6 (ix3 0 _ e)) hk
  · refine (dif_neg (by show ¬ 128 * 1 + j.val < 128; omega)).trans ((dif_pos (by show 128 * 1 + j.val - 128 < 128; omega)).trans ?_)
    have hk : (⟨128 * 1 + j.val - 128, by omega⟩ : Fin 128) = j := Fin.ext (by show 128 * 1 + j.val - 128 = j.val; omega)
    refine congrArg₂ (fun x y : EReal => x + y) (Finset.sum_congr rfl fun k _ => congrArg₂ (fun x y : EReal => x * y) ?_ ?_)
      (Finset.sum_congr rfl fun k _ => congrArg₂ (fun x y : EReal => x * y) ?_ ?_)
    · exact congrArg (fun e => hr (ix2 r e)) (Fin.ext (by show 512 + k.val = 512 * 1 + k.val; omega))
    · exact congrArg (fun e => x6 (ix3 1 _ e)) hk
    · exact congrArg (fun e => hi (ix2 r e)) (Fin.ext (by show 512 + k.val = 512 * 1 + k.val; omega))
    · exact congrArg (fun e => x6 (ix3 1 _ e)) hk
  · refine (dif_neg (by show ¬ 128 * 2 + j.val < 128; omega)).trans ((dif_neg (by show ¬ 128 * 2 + j.val - 128 < 128; omega)).trans ((dif_pos (by show 128 * 2 + j.val - 128 - 128 < 128; omega)).trans ?_))
    have hk : (⟨128 * 2 + j.val - 128 - 128, by omega⟩ : Fin 128) = j := Fin.ext (by show 128 * 2 + j.val - 128 - 128 = j.val; omega)
    refine congrArg₂ (fun x y : EReal => x + y) (Finset.sum_congr rfl fun k _ => congrArg₂ (fun x y : EReal => x * y) ?_ ?_)
      (Finset.sum_congr rfl fun k _ => congrArg₂ (fun x y : EReal => x * y) ?_ ?_)
    · exact congrArg (fun e => hr (ix2 r e)) (Fin.ext (by show 1024 + k.val = 512 * 2 + k.val; omega))
    · exact congrArg (fun e => x6 (ix3 2 _ e)) hk
    · exact congrArg (fun e => hi (ix2 r e)) (Fin.ext (by show 1024 + k.val = 512 * 2 + k.val; omega))
    · exact congrArg (fun e => x6 (ix3 2 _ e)) hk
  · refine (dif_neg (by show ¬ 128 * 3 + j.val < 128; omega)).trans ((dif_neg (by show ¬ 128 * 3 + j.val - 128 < 128; omega)).trans ((dif_neg (by show ¬ 128 * 3 + j.val - 128 - 128 < 128; omega)).trans (?_)))
    have hk : (⟨128 * 3 + j.val - 128 - 128 - 128, by omega⟩ : Fin 128) = j := Fin.ext (by show 128 * 3 + j.val - 128 - 128 - 128 = j.val; omega)
    refine congrArg₂ (fun x y : EReal => x + y) (Finset.sum_congr rfl fun k _ => congrArg₂ (fun x y : EReal => x * y) ?_ ?_)
      (Finset.sum_congr rfl fun k _ => congrArg₂ (fun x y : EReal => x * y) ?_ ?_)
    · exact congrArg (fun e => hr (ix2 r e)) (Fin.ext (by show 1536 + k.val = 512 * 3 + k.val; omega))
    · exact congrArg (fun e => x6 (ix3 3 _ e)) hk
    · exact congrArg (fun e => hi (ix2 r e)) (Fin.ext (by show 1536 + k.val = 512 * 3 + k.val; omega))
    · exact congrArg (fun e => x6 (ix3 3 _ e)) hk

open Cert.Reference5Ideal.Rec (act gated normed)

theorem act_eq (y : EReal) : Ideal.ofBits FTy.f32 1056964608#32 * y * (1 + Ideal.tanh (Ideal.ofBits FTy.f32 1061962282#32 *
    (y + Ideal.ofBits FTy.f32 1027024659#32 * (y * y * y)))) = act y := by
  rw [mul_comm (Ideal.ofBits FTy.f32 1056964608#32) y]
  exact mul_assoc _ _ _

theorem orow_at (y : FVec Ideal S64x512 .f32) (r : Fin 64) (e : Fin 512) :
    (orow x8 x9 x10 y (ix3 0 r e) : EReal)
      = normed (gated (fun x e => x8 (ix2 x e)) (fun e => x9 (ix2 0 e)) fun e => act (y (ix2 r e))) (fun e => x10 (ix2 0 e)) e := by
  pointwise [orow, k0_pay31]
  simp only [act_eq]

end Cert.Kernel5Ideal.Rec

end
-- ==== Proof.S5Out.lean ====
/-
  The sampling recurrence's output array after the run.
-/
module

public import proofs.«01_k».proof.Proof.S5Y

@[expose] public section

set_option maxRecDepth 16384

noncomputable section

open Idealize.ShloMosaic Idealize.ShloMosaic.TcCoe Idealize.SL.Sem
open Idealize.ShloMosaic.Pipeline (Dat)

namespace Cert.Kernel5Ideal.Rec

open Cert.Kernel5Ideal Cert.Kernel5Ideal.Gen Cert.Reference5Ideal.Read
open Cert.Reference5Ideal.Rec (act gated normed)

variable (m : (ℓ : Loc nD τ sig) → Buf (Elt Ideal) ℓ)

theorem read_two (c : Dev nD) (t : Fin cfg0.N) (kc : Fin 4) (j : Fin 128) (g : Fin 32) (q : Fin 16) (f fi : Fin 2048 → EReal)
    (hn : 128 * kc.val + j.val = 16 * g.val + q.val) :
    ∑ k : Fin 512, f ⟨512 * kc.val + k.val, by omega⟩ * (iblk m c 6 t (ix3 kc ⟨k.val, by omega⟩ j) : EReal)
        + ∑ k : Fin 512, fi ⟨512 * kc.val + k.val, by omega⟩ * (iblk m c 6 t (ix3 kc ⟨512 + k.val, by omega⟩ j) : EReal)
      = ∑ p : Fin 64, f ⟨64 * g.val + p.val, by omega⟩ * aC m c g q p
        + ∑ p : Fin 64, fi ⟨64 * g.val + p.val, by omega⟩ * -aCi m c g q p := by
  have hi : ∀ k : Fin 512, (if h : 512 + k.val < 512 then f ⟨512 * kc.val + (512 + k.val), by omega⟩
      else fi ⟨512 * kc.val + (512 + k.val - 512), by omega⟩) = fi ⟨512 * kc.val + k.val, by omega⟩ := fun k =>
    (dif_neg (by omega)).trans (congrArg fi (Fin.ext (by show 512 * kc.val + (512 + k.val - 512) = 512 * kc.val + k.val; omega)))
  have hp : ∀ k : Fin 512, (if h : k.val < 512 then f ⟨512 * kc.val + k.val, by omega⟩
      else fi ⟨512 * kc.val + (k.val - 512), by omega⟩) = f ⟨512 * kc.val + k.val, by omega⟩ := fun k => dif_pos k.isLt
  refine Eq.trans ?_ (read_out m c kc j g q f fi (fun k => if h : k.val < 512 then f ⟨512 * kc.val + k.val, by omega⟩
    else fi ⟨512 * kc.val + (k.val - 512), by omega⟩) hn hp hi)
  refine Eq.trans ?_ (Fin.sum_univ_add (a := 512) (b := 512) fun k : Fin 1024 => (if h : k.val < 512 then f ⟨512 * kc.val + k.val, by omega⟩
    else fi ⟨512 * kc.val + (k.val - 512), by omega⟩) * (V m c main_v44 (ix3 kc k j) : EReal)).symm
  refine congrArg₂ (fun x y : EReal => x + y)
    (Finset.sum_congr rfl fun k _ => congrArg₂ (fun x y : EReal => x * y) (hp k).symm (blk6 m c t kc _ j))
    (Finset.sum_congr rfl fun k _ => congrArg₂ (fun x y : EReal => x * y) (hi k).symm (blk6 m c t kc _ j))

theorem yst0 (c : Dev nD) (t : Fin cfg0.N) (r : Fin 64) (e : Fin 512) (b : Fin 128) (hb : b.val = 64 * t.val + r.val) :
    (yrow (iblk m c 6 t) (iblk m c 7 t) (k0_pay66 (iblk m c 0 t) (iblk m c 1 t) (iblk m c 2 t) (iblk m c 3 t) (iblk m c 4 t) (iblk m c 5 t) (iblk m c 6 t) (iblk m c 7 t) (iblk m c 8 t) (iblk m c 9 t) (iblk m c 10 t))
        (k0_pay67 (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 0 t) r0_2) (ix2 r e) : EReal)
      = val_main_v139 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix3 0 b e) := by
  refine (yrow_at _ _ _ _ _ r ⟨e.val / 128, by omega⟩ ⟨e.val % 128, by omega⟩ e (by show e.val = 128 * (e.val / 128) + e.val % 128; omega)).trans
    (Eq.trans ?_ ((Cert.Reference5Ideal.Rec.stack0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) b e ⟨e.val / 16, by omega⟩ ⟨e.val % 16, by omega⟩
      (by show e.val = 16 * (e.val / 16) + e.val % 16; omega)).trans (Cert.Reference5Ideal.Rec.y0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) b _ _)).symm)
  refine congrArg₂ (fun x y : EReal => x + y) ?_ (congrArg₂ (fun x y : EReal => x * y)
    (blk7 m c t e _ _ (by show e.val = 16 * (e.val / 16) + e.val % 16; omega))
    ((row0 (iblk m c 0 t) r _).trans ((blk0 m c t 0 r _ b hb).trans
      (congrArg (fun x => aU m c b 0 x) (Fin.ext (by show e.val = 16 * (e.val / 16) + e.val % 16; omega))))))
  refine (read_two m c t ⟨e.val / 128, by omega⟩ ⟨e.val % 128, by omega⟩ ⟨e.val / 16, by omega⟩ ⟨e.val % 16, by omega⟩
    (fun n => k0_pay66 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r n))
    (fun n => k0_pay67 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r n))
    (by show 128 * (e.val / 128) + e.val % 128 = 16 * (e.val / 16) + e.val % 16; omega)).trans ?_
  exact congrArg₂ (fun x y : EReal => x + y)
    (Finset.sum_congr rfl fun p _ => congrArg (fun x : EReal => x * _) (st66 m c t r _ b _ p hb rfl))
    (Finset.sum_congr rfl fun p _ => congrArg (fun x : EReal => x * _) (st67 m c t r _ b _ p hb rfl))

theorem yst1 (c : Dev nD) (t : Fin cfg0.N) (r : Fin 64) (e : Fin 512) (b : Fin 128) (hb : b.val = 64 * t.val + r.val) :
    (yrow (iblk m c 6 t) (iblk m c 7 t) (k0_pay71 (iblk m c 0 t) (iblk m c 1 t) (iblk m c 2 t) (iblk m c 3 t) (iblk m c 4 t) (iblk m c 5 t) (iblk m c 6 t) (iblk m c 7 t) (iblk m c 8 t) (iblk m c 9 t) (iblk m c 10 t))
        (k0_pay72 (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 0 t) r0_13) (ix2 r e) : EReal)
      = val_main_v139 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix3 1 b e) := by
  refine (yrow_at _ _ _ _ _ r ⟨e.val / 128, by omega⟩ ⟨e.val % 128, by omega⟩ e (by show e.val = 128 * (e.val / 128) + e.val % 128; omega)).trans
    (Eq.trans ?_ ((Cert.Reference5Ideal.Rec.stack1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) b e ⟨e.val / 16, by omega⟩ ⟨e.val % 16, by omega⟩
      (by show e.val = 16 * (e.val / 16) + e.val % 16; omega)).trans (Cert.Reference5Ideal.Rec.y1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) b _ _)).symm)
  refine congrArg₂ (fun x y : EReal => x + y) ?_ (congrArg₂ (fun x y : EReal => x * y)
    (blk7 m c t e _ _ (by show e.val = 16 * (e.val / 16) + e.val % 16; omega))
    ((row1 (iblk m c 0 t) r _).trans ((blk0 m c t 1 r _ b hb).trans
      (congrArg (fun x => aU m c b 1 x) (Fin.ext (by show e.val = 16 * (e.val / 16) + e.val % 16; omega))))))
  refine (read_two m c t ⟨e.val / 128, by omega⟩ ⟨e.val % 128, by omega⟩ ⟨e.val / 16, by omega⟩ ⟨e.val % 16, by omega⟩
    (fun n => k0_pay71 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r n))
    (fun n => k0_pay72 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r n))
    (by show 128 * (e.val / 128) + e.val % 128 = 16 * (e.val / 16) + e.val % 16; omega)).trans ?_
  exact congrArg₂ (fun x y : EReal => x + y)
    (Finset.sum_congr rfl fun p _ => congrArg (fun x : EReal => x * _) (st71 m c t r _ b _ p hb rfl))
    (Finset.sum_congr rfl fun p _ => congrArg (fun x : EReal => x * _) (st72 m c t r _ b _ p hb rfl))

theorem yst2 (c : Dev nD) (t : Fin cfg0.N) (r : Fin 64) (e : Fin 512) (b : Fin 128) (hb : b.val = 64 * t.val + r.val) :
    (yrow (iblk m c 6 t) (iblk m c 7 t) (k0_pay74 (iblk m c 0 t) (iblk m c 1 t) (iblk m c 2 t) (iblk m c 3 t) (iblk m c 4 t) (iblk m c 5 t) (iblk m c 6 t) (iblk m c 7 t) (iblk m c 8 t) (iblk m c 9 t) (iblk m c 10 t))
        (k0_pay75 (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 0 t) r0_14) (ix2 r e) : EReal)
      = val_main_v139 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix3 2 b e) := by
  refine (yrow_at _ _ _ _ _ r ⟨e.val / 128, by omega⟩ ⟨e.val % 128, by omega⟩ e (by show e.val = 128 * (e.val / 128) + e.val % 128; omega)).trans
    (Eq.trans ?_ ((Cert.Reference5Ideal.Rec.stack2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) b e ⟨e.val / 16, by omega⟩ ⟨e.val % 16, by omega⟩
      (by show e.val = 16 * (e.val / 16) + e.val % 16; omega)).trans (Cert.Reference5Ideal.Rec.y2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) b _ _)).symm)
  refine congrArg₂ (fun x y : EReal => x + y) ?_ (congrArg₂ (fun x y : EReal => x * y)
    (blk7 m c t e _ _ (by show e.val = 16 * (e.val / 16) + e.val % 16; omega))
    ((row2 (iblk m c 0 t) r _).trans ((blk0 m c t 2 r _ b hb).trans
      (congrArg (fun x => aU m c b 2 x) (Fin.ext (by show e.val = 16 * (e.val / 16) + e.val % 16; omega))))))
  refine (read_two m c t ⟨e.val / 128, by omega⟩ ⟨e.val % 128, by omega⟩ ⟨e.val / 16, by omega⟩ ⟨e.val % 16, by omega⟩
    (fun n => k0_pay74 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r n))
    (fun n => k0_pay75 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r n))
    (by show 128 * (e.val / 128) + e.val % 128 = 16 * (e.val / 16) + e.val % 16; omega)).trans ?_
  exact congrArg₂ (fun x y : EReal => x + y)
    (Finset.sum_congr rfl fun p _ => congrArg (fun x : EReal => x * _) (st74 m c t r _ b _ p hb rfl))
    (Finset.sum_congr rfl fun p _ => congrArg (fun x : EReal => x * _) (st75 m c t r _ b _ p hb rfl))

theorem yst3 (c : Dev nD) (t : Fin cfg0.N) (r : Fin 64) (e : Fin 512) (b : Fin 128) (hb : b.val = 64 * t.val + r.val) :
    (yrow (iblk m c 6 t) (iblk m c 7 t) (k0_pay80 (iblk m c 0 t) (iblk m c 1 t) (iblk m c 2 t) (iblk m c 3 t) (iblk m c 4 t) (iblk m c 5 t) (iblk m c 6 t) (iblk m c 7 t) (iblk m c 8 t) (iblk m c 9 t) (iblk m c 10 t))
        (k0_pay81 (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 0 t) r0_15) (ix2 r e) : EReal)
      = val_main_v139 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix3 3 b e) := by
  refine (yrow_at _ _ _ _ _ r ⟨e.val / 128, by omega⟩ ⟨e.val % 128, by omega⟩ e (by show e.val = 128 * (e.val / 128) + e.val % 128; omega)).trans
    (Eq.trans ?_ ((Cert.Reference5Ideal.Rec.stack3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) b e ⟨e.val / 16, by omega⟩ ⟨e.val % 16, by omega⟩
      (by show e.val = 16 * (e.val / 16) + e.val % 16; omega)).trans (Cert.Reference5Ideal.Rec.y3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) b _ _)).symm)
  refine congrArg₂ (fun x y : EReal => x + y) ?_ (congrArg₂ (fun x y : EReal => x * y)
    (blk7 m c t e _ _ (by show e.val = 16 * (e.val / 16) + e.val % 16; omega))
    ((row3 (iblk m c 0 t) r _).trans ((blk0 m c t 3 r _ b hb).trans
      (congrArg (fun x => aU m c b 3 x) (Fin.ext (by show e.val = 16 * (e.val / 16) + e.val % 16; omega))))))
  refine (read_two m c t ⟨e.val / 128, by omega⟩ ⟨e.val % 128, by omega⟩ ⟨e.val / 16, by omega⟩ ⟨e.val % 16, by omega⟩
    (fun n => k0_pay80 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r n))
    (fun n => k0_pay81 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r n))
    (by show 128 * (e.val / 128) + e.val % 128 = 16 * (e.val / 16) + e.val % 16; omega)).trans ?_
  exact congrArg₂ (fun x y : EReal => x + y)
    (Finset.sum_congr rfl fun p _ => congrArg (fun x : EReal => x * _) (st80 m c t r _ b _ p hb rfl))
    (Finset.sum_congr rfl fun p _ => congrArg (fun x : EReal => x * _) (st81 m c t r _ b _ p hb rfl))

/-- Four steps' rows as one block. -/
abbrev rows (a0 a1 a2 a3 : Vec Ideal S1x64x512 .bf16) : Vec Ideal S4x64x512 .bf16 :=
  fun i => (![a0, a1, a2, a3] (i 0 : Fin 4)) (ix3 0 (i 1) (i 2))

theorem rows_step (a0 a1 a2 a3 : Vec Ideal S1x64x512 .bf16) (s : Fin 4) (x : S1x64x512.Idx) (i : S4x64x512.Idx)
    (h0 : (i 0).val = s.val) (h1 : (i 1).val = (x 1).val) (h2 : (i 2).val = (x 2).val) :
    (![a0, a1, a2, a3] s) x = rows a0 a1 a2 a3 i := by
  have e0 : (i 0 : Fin 4) = s := Fin.ext h0
  have ex : x = ix3 0 (i 1) (i 2) := by
    funext a
    match a with
    | ⟨0, _⟩ => exact Fin.ext (by have := (x 0).isLt; change (x 0).val < 1 at this; show (x 0).val = 0; omega)
    | ⟨1, _⟩ => exact Fin.ext h1.symm
    | ⟨2, _⟩ => exact Fin.ext h2.symm
  exact (congrArg (![a0, a1, a2, a3] s) ex).trans (congrArg (fun n : Fin 4 => (![a0, a1, a2, a3] n) (ix3 0 (i 1) (i 2))) e0.symm)

theorem rows_at (a0 a1 a2 a3 : Vec Ideal S1x64x512 .bf16) (s : Fin 4) (r : Fin 64) (e : Fin 512) :
    View.canon [⟨r0_15, a3⟩, ⟨r0_14, a2⟩, ⟨r0_13, a1⟩, ⟨r0_2, a0⟩] (ix3 s r e) = (![a0, a1, a2, a3] s) (ix3 0 r e) := by
  refine View.canon_apply_of_pieces (rows a0 a1 a2 a3) _ ?_ (ix3 s r e) (cover0_11 a3 a2 a1 a0 (ix3 s r e))
  intro pc hpc
  rcases List.mem_cons.mp hpc with rfl | hpc
  · exact fun x => rows_step a0 a1 a2 a3 3 x _ (by have := (x 0).isLt; change (x 0).val < 1 at this; show 3 + 1 * (x 0).val = 3; omega)
      (by show 0 + 1 * (x 1).val = (x 1).val; omega) (by show 0 + 1 * (x 2).val = (x 2).val; omega)
  rcases List.mem_cons.mp hpc with rfl | hpc
  · exact fun x => rows_step a0 a1 a2 a3 2 x _ (by have := (x 0).isLt; change (x 0).val < 1 at this; show 2 + 1 * (x 0).val = 2; omega)
      (by show 0 + 1 * (x 1).val = (x 1).val; omega) (by show 0 + 1 * (x 2).val = (x 2).val; omega)
  rcases List.mem_cons.mp hpc with rfl | hpc
  · exact fun x => rows_step a0 a1 a2 a3 1 x _ (by have := (x 0).isLt; change (x 0).val < 1 at this; show 1 + 1 * (x 0).val = 1; omega)
      (by show 0 + 1 * (x 1).val = (x 1).val; omega) (by show 0 + 1 * (x 2).val = (x 2).val; omega)
  rcases List.mem_cons.mp hpc with rfl | hpc
  · exact fun x => rows_step a0 a1 a2 a3 0 x _ (by have := (x 0).isLt; change (x 0).val < 1 at this; show 0 + 1 * (x 0).val = 0; omega)
      (by show 0 + 1 * (x 1).val = (x 1).val; omega) (by show 0 + 1 * (x 2).val = (x 2).val; omega)
  nomatch hpc

theorem gate_congr {A A' : Fin 512 → Fin 512 → EReal} {B B' K K' Z Z' : Fin 512 → EReal} (hA : ∀ x e, A x e = A' x e)
    (hB : ∀ e, B e = B' e) (hZ : ∀ e, Z e = Z' e) (hK : ∀ e, K e = K' e) (e : Fin 512) :
    normed (gated A B fun e => act (Z e)) K e = normed (gated A' B' fun e => act (Z' e)) K' e := by
  obtain rfl : A = A' := funext fun x => funext fun e => hA x e
  obtain rfl : B = B' := funext hB
  obtain rfl : Z = Z' := funext hZ
  obtain rfl : K = K' := funext hK
  rfl

/-- The gate and the norm of a step whose rows are the reference's. -/
theorem ost (c : Dev nD) (t : Fin cfg0.N) (r : Fin 64) (e : Fin 512) (b : Fin 128) (s : Fin 4) (y : FVec Ideal S64x512 .f32)
    (hy : ∀ e, (y (ix2 r e) : EReal) = val_main_v139 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix3 s b e)) :
    (orow (iblk m c 8 t) (iblk m c 9 t) (iblk m c 10 t) y (ix3 0 r e) : EReal)
      = val_main_v177 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (ix3 s b e) := by
  refine (orow_at (iblk m c 8 t) (iblk m c 9 t) (iblk m c 10 t) y r e).trans
    (Eq.trans ?_ (Cert.Reference5Ideal.Rec.gate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) s b e).symm)
  exact gate_congr (A := fun x e => iblk m c 8 t (ix2 x e)) (A' := fun x e => m ((c : Thread nD τ).loc main_arg10) (ix2 x e))
    (B := fun e => iblk m c 9 t (ix2 0 e)) (B' := fun e => m ((c : Thread nD τ).loc main_arg11) (ix1 e))
    (K := fun e => iblk m c 10 t (ix2 0 e)) (K' := fun e => m ((c : Thread nD τ).loc main_arg12) (ix1 e))
    (Z := fun e => y (ix2 r e)) (Z' := fun e => val_main_v139 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix3 s b e))
    (fun x e => blk8 m c t x e) (fun e => blk9 m c t e) hy (fun e => blk10 m c t e) e

/-- A point's block of the output. -/
theorem res11 (c : Dev nD) (t : Fin cfg0.N) (s : Fin 4) (r : Fin 64) (e : Fin 512) (b : Fin 128) (hb : b.val = 64 * t.val + r.val) :
    (out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 s r e) : EReal)
      = val_main_v177 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (ix3 s b e) := by
  rw [out11_rows]
  refine (rows_at _ _ _ _ s r e).trans ?_
  obtain rfl | rfl | rfl | rfl : s = 0 ∨ s = 1 ∨ s = 2 ∨ s = 3 := by omega
  · exact ost m c t r e b 0 _ fun e => yst0 m c t r e b hb
  · exact ost m c t r e b 1 _ fun e => yst1 m c t r e b hb
  · exact ost m c t r e b 2 _ fun e => yst2 m c t r e b hb
  · exact ost m c t r e b 3 _ fun e => yst3 m c t r e b hb

theorem row_lt (t : Fin cfg0.N) (y : S4x64x512.Idx) : 64 * t.val + (y 1).val < 128 := by
  have := tlt t
  have h := (y 1).isLt
  change (y 1).val < 64 at h
  omega

theorem res11_idx (c : Dev nD) (t : Fin cfg0.N) (y : S4x64x512.Idx) :
    (out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) y : EReal)
      = val_main_v177 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (ix3 (y 0) ⟨64 * t.val + (y 1).val, row_lt t y⟩ (y 2)) := by
  have hy : y = ix3 (y 0) (y 1) (y 2) := by
    funext a
    match a with
    | ⟨0, _⟩ => rfl
    | ⟨1, _⟩ => rfl
    | ⟨2, _⟩ => rfl
  exact (congrArg _ hy).trans (res11 m c t (y 0) (y 1) (y 2) _ rfl)

theorem emb11 (t : Fin cfg0.N) (y : S4x64x512.Idx) :
    (ix3 (y 0) ⟨64 * t.val + (y 1).val, row_lt t y⟩ (y 2) : S4x128x512.Idx) = (win0_11.blk t).view.emb y := by
  have h0 : (((win0_11.blk t).view.emb y) 0).val = (y 0).val := by blk_simp [idx t] <;> omega
  have h1 : (((win0_11.blk t).view.emb y) 1).val = 64 * t.val + (y 1).val := by blk_simp [idx t] <;> omega
  have h2 : (((win0_11.blk t).view.emb y) 2).val = (y 2).val := by blk_simp [idx t] <;> omega
  funext a
  match a with
  | ⟨0, _⟩ => exact Fin.ext h0.symm
  | ⟨1, _⟩ => exact Fin.ext h1.symm
  | ⟨2, _⟩ => exact Fin.ext h2.symm

/-- The output after the run. -/
theorem final11 (c : Dev nD) : (dats m 0 c).arrAt 11 cfg0.N
    = val_main_v177 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (dats m 0 c).arrAt_eq_of_covers 11 _ (by decide +kernel) fun t _ y => ?_
  blk_simp
  rw [after0_11]
  exact (res11_idx m c t y).trans (congrArg (val_main_v177 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) (emb11 t y))

end Cert.Kernel5Ideal.Rec

end
-- ==== Proof.S5.lean ====
/-
  The sampling recurrence: the kernel's three arrays are the reference's.
-/
module

public import proofs.«01_k».proof.Defs
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.S5Fin
public import proofs.«01_k».proof.Proof.S5Out
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Kernel5Ideal.Rec

open Cert.Kernel5Ideal Cert.Kernel5Ideal.Gen Cert.Reference5Ideal.Read

/-- The call's run: its three arrays are the launch's, and the arguments are unchanged. -/
theorem run_arrays (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v57_0) = (dats m 0 c).arrAt 11 cfg0.N
      ∧ r.2.mem ((c.tc : Thread nD τ).loc main_v57_1) = (dats m 0 c).arrAt 12 cfg0.N
      ∧ r.2.mem ((c.tc : Thread nD τ).loc main_v57_2) = (dats m 0 c).arrAt 13 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  θ_run_mono (θ_run_and (run_main m g) (unchanged m g)) fun _ h c => ⟨(h.1 c).1 11, (h.1 c).1 12, (h.1 c).1 13, h.2 c⟩

/-- The reference's run, its results read as the named stages. -/
theorem run_stages (m' : (ℓ : Loc Reference5Ideal.nD Reference5Ideal.τ Reference5Ideal.sig) → Buf (Elt Ideal) ℓ) (g' : Dev Reference5Ideal.nD → PrngReg) :
    θ_run (Reference5Ideal.defs (F := Ideal)) (onTc (τ := Reference5Ideal.τ) (Reference5Ideal.main (F := Ideal))) ⟨m', fun _ => 0, g'⟩
      (fun r => ∀ c : Dev Reference5Ideal.nD,
      r.2.mem ((c.tc : Thread Reference5Ideal.nD Reference5Ideal.τ).loc Reference5Ideal.main_v177)
        = val_main_v177 (F := Ideal) (m' ((c.tc : Thread Reference5Ideal.nD Reference5Ideal.τ).loc Reference5Ideal.main_arg0)) (m' ((c.tc : Thread Reference5Ideal.nD Reference5Ideal.τ).loc Reference5Ideal.main_arg1)) (m' ((c.tc : Thread Reference5Ideal.nD Reference5Ideal.τ).loc Reference5Ideal.main_arg2)) (m' ((c.tc : Thread Reference5Ideal.nD Reference5Ideal.τ).loc Reference5Ideal.main_arg3)) (m' ((c.tc : Thread Reference5Ideal.nD Reference5Ideal.τ).loc Reference5Ideal.main_arg4)) (m' ((c.tc : Thread Reference5Ideal.nD Reference5Ideal.τ).loc Reference5Ideal.main_arg5)) (m' ((c.tc : Thread Reference5Ideal.nD Reference5Ideal.τ).loc Reference5Ideal.main_arg6)) (m' ((c.tc : Thread Reference5Ideal.nD Reference5Ideal.τ).loc Reference5Ideal.main_arg7)) (m' ((c.tc : Thread Reference5Ideal.nD Reference5Ideal.τ).loc Reference5Ideal.main_arg8)) (m' ((c.tc : Thread Reference5Ideal.nD Reference5Ideal.τ).loc Reference5Ideal.main_arg9)) (m' ((c.tc : Thread Reference5Ideal.nD Reference5Ideal.τ).loc Reference5Ideal.main_arg10)) (m' ((c.tc : Thread Reference5Ideal.nD Reference5Ideal.τ).loc Reference5Ideal.main_arg11)) (m' ((c.tc : Thread Reference5Ideal.nD Reference5Ideal.τ).loc Reference5Ideal.main_arg12))
      ∧ r.2.mem ((c.tc : Thread Reference5Ideal.nD Reference5Ideal.τ).loc Reference5Ideal.main_v178)
        = val_main_v178 (F := Ideal) (m' ((c.tc : Thread Reference5Ideal.nD Reference5Ideal.τ).loc Reference5Ideal.main_arg0)) (m' ((c.tc : Thread Reference5Ideal.nD Reference5Ideal.τ).loc Reference5Ideal.main_arg1)) (m' ((c.tc : Thread Reference5Ideal.nD Reference5Ideal.τ).loc Reference5Ideal.main_arg2)) (m' ((c.tc : Thread Reference5Ideal.nD Reference5Ideal.τ).loc Reference5Ideal.main_arg3)) (m' ((c.tc : Thread Reference5Ideal.nD Reference5Ideal.τ).loc Reference5Ideal.main_arg4)) (m' ((c.tc : Thread Reference5Ideal.nD Reference5Ideal.τ).loc Reference5Ideal.main_arg5)) (m' ((c.tc : Thread Reference5Ideal.nD Reference5Ideal.τ).loc Reference5Ideal.main_arg6))
      ∧ r.2.mem ((c.tc : Thread Reference5Ideal.nD Reference5Ideal.τ).loc Reference5Ideal.main_v179)
        = val_main_v179 (F := Ideal) (m' ((c.tc : Thread Reference5Ideal.nD Reference5Ideal.τ).loc Reference5Ideal.main_arg0)) (m' ((c.tc : Thread Reference5Ideal.nD Reference5Ideal.τ).loc Reference5Ideal.main_arg1)) (m' ((c.tc : Thread Reference5Ideal.nD Reference5Ideal.τ).loc Reference5Ideal.main_arg2)) (m' ((c.tc : Thread Reference5Ideal.nD Reference5Ideal.τ).loc Reference5Ideal.main_arg3)) (m' ((c.tc : Thread Reference5Ideal.nD Reference5Ideal.τ).loc Reference5Ideal.main_arg4)) (m' ((c.tc : Thread Reference5Ideal.nD Reference5Ideal.τ).loc Reference5Ideal.main_arg5)) (m' ((c.tc : Thread Reference5Ideal.nD Reference5Ideal.τ).loc Reference5Ideal.main_arg6))) :=
  (θ_run Reference5Ideal.defs _ _).mono (fun _ h c =>
    ⟨(h c).1.trans (Cert.Reference5Ideal.Read.val_main_v177_eq _),
      (h c).2.1.trans (Cert.Reference5Ideal.Read.val_main_v178_eq _),
      (h c).2.2.1.trans (Cert.Reference5Ideal.Read.val_main_v179_eq _)⟩)
    (Cert.Reference5Ideal.Value.run m' g')

set_option maxHeartbeats 1000000 in
/-- Over the reals the sampling recurrence's output and its two state arrays are the reference's. -/
theorem algebraic : Cert.algebraic_Kernel5Ideal_Reference5Ideal := by
  pair_intro
  case refine_1 => exact fun c => (dats m 0 c).arrAt 11 cfg0.N
  case refine_2.refine_1 => exact fun c => (dats m 0 c).arrAt 12 cfg0.N
  case refine_2.refine_2.refine_1 => exact fun c => (dats m 0 c).arrAt 13 cfg0.N
  · exact run_arrays m g
  · refine θ_run_mono (θ_run_and (run_stages m' g') (Cert.Reference5Ideal.Value.run m' g')) fun r h c => ?_
    obtain ⟨h0, h1, h2, h3, h4, h5, h6, h7, h8, h9, h10, h11, h12⟩ := hagree c
    refine ⟨(h.1 c).1.trans ?_, (h.1 c).2.1.trans ?_, (h.1 c).2.2.trans ?_, (h.2 c).2.2.2⟩
    · rw [h0, h1, h2, h3, h4, h5, h6, h7, h8, h9, h10, h11, h12]
      exact (final11 m c).symm
    · rw [h0, h1, h2, h3, h4, h5, h6]
      exact (final12 m c).symm
    · rw [h0, h1, h2, h3, h4, h5, h6]
      exact (final13 m c).symm

end Cert.Kernel5Ideal.Rec

end
-- ==== Proof.InProjSample.lean ====
/-
  The input projection of the sampling group (`Kernel4`): the 128 sequences' four tokens each stand in one block of 512 rows,
  row `4 b + s` for token `s` of sequence `b`, each with its sequence's shift and scale. The bands of the block's product are
  the bands of the reference's product, flattened alike.
-/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel4Ideal.InProj

open Cert.Kernel4Ideal Cert.Kernel4Ideal.Gen
open Cert.Reference4Ideal.Read

variable (m : (ℓ : Loc nD τ sig) → Buf (Elt Ideal) ℓ)

/-- The grid has one point, and every window's block sits at the origin. -/
theorem idx : ∀ t : Fin cfg0.N, win0_0.index t = ![0, 0, 0] ∧ win0_1.index t = ![0, 0, 0]
    ∧ win0_2.index t = ![0, 0, 0] ∧ win0_3.index t = ![0, 0] ∧ win0_4.index t = ![0, 0]
    ∧ win0_5.index t = ![0, 0, 0] ∧ win0_6.index t = ![0, 0, 0]
    ∧ win0_7.index t = ![0, 0, 0] ∧ win0_8.index t = ![0, 0, 0] :=
  (by decide +kernel : ∀ t : Fin grid0.N, _)

/-- The reference's projection of the modulated rows, all four bands. -/
abbrev PROJ (c : Dev nD) : FVec Ideal Cert.Reference4Ideal.S128x4x2048 .f32 :=
  val_main_v21 (F := Ideal) (m ((c : Thread nD τ).loc main_arg0)) (m ((c : Thread nD τ).loc main_arg1))
        (m ((c : Thread nD τ).loc main_arg2)) (m ((c : Thread nD τ).loc main_arg3)) (m ((c : Thread nD τ).loc main_arg4))

/-- THE POINT: row `4 b + s` of the block's product is the row `(b, s)` of the reference's product. -/
theorem point (c : Dev nD) (t : Fin cfg0.N) (r : Fin 512) (e : Fin 2048) (b : Fin 128) (s : Fin 4) (e' : Fin 2048)
    (hb : b.val = r.val / 4) (hs : s.val = r.val % 4) (he : e'.val = e.val) :
    k0_pay4 (F := Ideal) (iblk m c 0 t) (iblk m c 3 t) (iblk m c 2 t) (iblk m c 1 t) (iblk m c 4 t) (ix2 r e)
      = PROJ m c (ix3 b s e') := by
  obtain rfl : e' = e := Fin.ext he
  pointwise [k0_pay4, PROJ, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  blk_point [iblk, V, idx t]

/-- The product as the last two bands read it is the same product of the same blocks. -/
theorem pay7_eq (x0 x1 x2 : Vec Ideal S1x512x1024 .f32) (x3 : Vec Ideal S1x1024 .f32)
    (x4 : Vec Ideal S1024x2048 .bf16) : k0_pay7 x0 x1 x2 x3 x4 = k0_pay4 (F := Ideal) x0 x3 x2 x1 x4 := by
  unfold k0_pay7
  frame_out

/-- The queries' array after the run: the first band, times the scores' scale. -/
theorem final5 (c : Dev nD) : (dats m 0 c).arrAt 5 cfg0.N
    = val_main_v29 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  frame_out
  pointwise [k0_pay5, val_main_v29, val_main_v27, val_main_v26, val_main_v22, val_main_cst_3]
  exact congrArg (· * _) (point m c t (y 1) _ _ _ _ (by blk_simp [idx t] <;> omega) (by blk_simp [idx t] <;> omega) (by blk_simp [idx t] <;> omega))

/-- The keys' array after the run: the second band of the reference's product. -/
theorem final6 (c : Dev nD) : (dats m 0 c).arrAt 6 cfg0.N
    = val_main_v30 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  frame_out
  pointwise [k0_pay1, k0_pay6, val_main_v30, val_main_v23]
  refine point m c t (y 1) _ _ _ _ ?_ ?_ ?_ <;> blk_simp [idx t] <;> omega

/-- The values' array after the run: the third band. -/
theorem final7 (c : Dev nD) : (dats m 0 c).arrAt 7 cfg0.N
    = val_main_v31 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]
  frame_out
  pointwise [k0_pay2, val_main_v31, val_main_v24]
  rw [pay7_eq]
  refine point m c t (y 1) _ _ _ _ ?_ ?_ ?_ <;> blk_simp [idx t] <;> omega

/-- The recurrence's input after the run: the fourth band. -/
theorem final8 (c : Dev nD) : (dats m 0 c).arrAt 8 cfg0.N
    = val_main_v32 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 8 _ (by decide +kernel) fun t _ y => ?_
  blk_simp
  rw [after0_8]
  frame_out
  pointwise [k0_pay3, val_main_v32, val_main_v28, val_main_v25]
  rw [pay7_eq]
  refine point m c t (y 1) _ _ _ _ ?_ ?_ ?_ <;> blk_simp [idx t] <;> omega

end Cert.Kernel4Ideal.InProj

namespace Cert.Kernel4Ideal.InProj

set_option maxHeartbeats 1000000 in
/-- Over the reals the sampling group's four projected arrays are the reference's four. -/
theorem algebraic : Cert.algebraic_Kernel4Ideal_Reference4Ideal := by
  pair_intro
  · run_from Cert.Kernel4Ideal.Value.run_blocks m g
  · run_from Cert.Reference4Ideal.Value.run m' g'
    · refine (Cert.Reference4Ideal.Read.val_main_v29_eq _ _ _ _ _).trans ?_
      exact (final5 m c).symm
    · refine (Cert.Reference4Ideal.Read.val_main_v30_eq _ _ _ _ _).trans ?_
      exact (final6 m c).symm
    · refine (Cert.Reference4Ideal.Read.val_main_v31_eq _ _ _ _ _).trans ?_
      exact (final7 m c).symm
    · refine (Cert.Reference4Ideal.Read.val_main_v32_eq _ _ _ _ _).trans ?_
      exact (final8 m c).symm

end Cert.Kernel4Ideal.InProj

end
-- ==== Proof.lean ====
/- The assembly: the frames come from the generated modules, the references' frames from their runs (they declare no
   semaphore), the value claims from `Proof/InProj.lean`, `Proof/InProjSample.lean`,
   `Proof/Experts.lean`, `Proof/Attn.lean` and `Proof/S5.lean`. The experts' frames are `Proof/ExpertsFrame.lean`'s and its counterpart's on bits. -/
module

public import proofs.«01_k».proof.Defs
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_finite
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Attn
public import proofs.«01_k».proof.Proof.InProj
public import proofs.«01_k».proof.Proof.Experts
public import proofs.«01_k».proof.Proof.Gen.Kernel3
public import proofs.«01_k».proof.Proof.Gen.Kernel3Ideal
public import proofs.«01_k».proof.Proof.Gen.Reference3Ideal
public import proofs.«01_k».proof.Proof.Gen.Pre_experts_named
public import proofs.«01_k».proof.Proof.S5
public import proofs.«01_k».proof.Proof.InProjSample
public import Idealize.ShloMosaic.Adequacy
public import Idealize.ShloMosaic.Init

@[expose] public section

noncomputable section

namespace Cert.Proof

open Idealize.ShloMosaic Idealize.SL.Sem Cert.Kernel

/-- The attention's reference runs, leaves its arguments, and has no semaphore. -/
theorem frame_r : Cert.quiescent_ReferenceIdeal := fun m g _ =>
  (θ_run Cert.ReferenceIdeal.defs _ _).mono
    (fun r h => ⟨fun c => (h c).2, sem_eq_zero_of_no_sems (by decide) r.2⟩) (Cert.ReferenceIdeal.Value.run m g)

/-- The input projection's reference likewise. -/
theorem frame_r2 : Cert.quiescent_Reference2Ideal := fun m g _ =>
  (θ_run Cert.Reference2Ideal.defs _ _).mono
    (fun r h => ⟨fun c => (h c).2.2.2.2, sem_eq_zero_of_no_sems (by decide) r.2⟩) (Cert.Reference2Ideal.Value.run m g)

/-- The experts' reference likewise. -/
theorem frame_r3 : Cert.quiescent_Reference3Ideal := fun m g _ =>
  (θ_run Cert.Reference3Ideal.defs _ _).mono
    (fun r h => ⟨fun c => (h c).2, sem_eq_zero_of_no_sems (by decide) r.2⟩) (Cert.Reference3Ideal.Value.run m g)

/-- The sampling group's projection's reference likewise. -/
theorem frame_r4 : Cert.quiescent_Reference4Ideal := fun m g _ =>
  (θ_run Cert.Reference4Ideal.defs _ _).mono
    (fun r h => ⟨fun c => (h c).2.2.2.2, sem_eq_zero_of_no_sems (by decide) r.2⟩) (Cert.Reference4Ideal.Value.run m g)

/-- The sampling recurrence's reference likewise. -/
theorem frame_r5 : Cert.quiescent_Reference5Ideal := fun m g _ =>
  (θ_run Cert.Reference5Ideal.defs _ _).mono
    (fun r h => ⟨fun c => (h c).2.2.2, sem_eq_zero_of_no_sems (by decide) r.2⟩) (Cert.Reference5Ideal.Value.run m g)

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts,
  Cert.Reference4Ideal.Gen.facts, Cert.Kernel5.Gen.facts, Cert.Kernel5Ideal.Gen.facts, Cert.Reference5Ideal.Gen.facts, Cert.Pre_finite.Gen.facts, Cert.Pre_experts_named.Gen.facts,
  fun m g _ => Cert.Kernel.Gen.frame m g, fun m g _ => Cert.KernelIdeal.Gen.frame m g, fun m g _ => Cert.KernelIdeal.Gen.frame m g,
  frame_r, fun m g _ => frame_r m g trivial, fun m g _ => Cert.Kernel2.Gen.frame m g, fun m g _ => Cert.Kernel2Ideal.Gen.frame m g,
  frame_r2, Cert.Kernel3.Moe.frame, Cert.Kernel3Ideal.Moe.frame, frame_r3, fun m g _ => frame_r3 m g trivial,
  fun m g _ => Cert.Kernel4.Gen.frame m g, fun m g _ => Cert.Kernel4Ideal.Gen.frame m g, frame_r4,
  fun m g _ => Cert.Kernel5.Gen.frame m g, fun m g _ => Cert.Kernel5Ideal.Gen.frame m g, frame_r5,
  trivial, Cert.KernelIdeal.Attn.algebraic, trivial, Cert.Kernel2Ideal.InProj.algebraic, trivial, Cert.Kernel3Ideal.Moe.algebraic,
  trivial, Cert.Kernel4Ideal.InProj.algebraic, trivial, Cert.Kernel5Ideal.Rec.algebraic⟩

end Cert.Proof

end
